-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_experts_exist : Cert.Pre_experts_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_experts_exist : Cert.Pre_experts_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_v262) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v105) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v93) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v89) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v58) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_experts_exist : Cert.Pre_experts_exist.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Reference2Ideal (hReference2Ideal := hReference2Ideal) (hPre_experts_exist := hPre_experts_exist)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_exist := hPre_experts_exist)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_experts_exist.lean ====
abbrev S32 : Shape := ⟨1, ![32]⟩
abbrev S1 : Shape := ⟨1, ![1]⟩
abbrev S16384x1024 : Shape := ⟨2, ![16384, 1024]⟩
abbrev S16384 : Shape := ⟨1, ![16384]⟩
abbrev S8x1024x1408 : Shape := ⟨3, ![8, 1024, 1408]⟩
abbrev S8x1408x1024 : Shape := ⟨3, ![8, 1408, 1024]⟩
abbrev S_ : Shape := ⟨0, ![]⟩

class Facts : Prop where
  bcast_S_S32 : S_.BroadcastsInDim S32 (![] : Fin 0 → Fin S32.rank)

variable [Facts]

def fn {F : FTy → Type} [FloatOps F] (main_arg0 : IVec S32 32) (main_arg1 : IVec S1 32) (main_arg2 : FVec F S16384x1024 .f32) (main_arg3 : FVec F S16384 .f32) (main_arg4 : FVec F S8x1024x1408 .f32) (main_arg5 : FVec F S8x1024x1408 .f32) (main_arg6 : FVec F S8x1408x1024 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 8#32
  let main_v2 : IVec S32 32 := broadcastInDim S32 ![] bcast_S_S32 main_c_0
  let main_v3 : IVec S32 1 := cmpi .slt main_arg0 main_v2
  let main_v4 : IVec S32 1 := andi main_v1 main_v3
  main_v4
-- ==== Kernel.lean ====
abbrev S6144x3328 : Shape := ⟨2, ![6144, 3328]⟩
abbrev S1x2x4 : Shape := ⟨3, ![1, 2, 4]⟩
abbrev S2x4 : Shape := ⟨2, ![2, 4]⟩
abbrev S_ : Shape := ⟨0, ![]⟩
abbrev S6144x512 : Shape := ⟨2, ![6144, 512]⟩
abbrev S16x2x4x128x128 : Shape := ⟨5, ![16, 2, 4, 128, 128]⟩
abbrev S1024x128 : Shape := ⟨2, ![1024, 128]⟩
abbrev S4x2x1x128x128 : Shape := ⟨5, ![4, 2, 1, 128, 128]⟩
abbrev S256x128 : Shape := ⟨2, ![256, 128]⟩
abbrev S128x1 : Shape := ⟨2, ![128, 1]⟩
abbrev S1x128 : Shape := ⟨2, ![1, 128]⟩
abbrev S128x128 : Shape := ⟨2, ![128, 128]⟩
abbrev S1x1 : Shape := ⟨2, ![1, 1]⟩
abbrev S1x1x1x128x128 : Shape := ⟨5, ![1, 1, 1, 128, 128]⟩
abbrev S256 : Shape := ⟨1, ![256]⟩
abbrev S256x1 : Shape := ⟨2, ![256, 1]⟩

abbrev nBuf : Space → Nat
  | .hbm => 7
  | .vmem => 14
  | .smem => 1
  | _ => 0

abbrev bufTy : (tb : Table) → Fin (tcTables nBuf tb) → BufTy
  | .hbm, ⟨0, _⟩ => ⟨S6144x3328, .f32⟩
  | .hbm, ⟨1, _⟩ => ⟨S1x2x4, .f32⟩
  | .hbm, ⟨2, _⟩ => ⟨S2x4, .f32⟩
  | .hbm, ⟨3, _⟩ => ⟨S_, .bf16⟩
  | .hbm, ⟨4, _⟩ => ⟨S6144x512, .bf16⟩
  | .hbm, ⟨5, _⟩ => ⟨S6144x512, .bf16⟩
  | .hbm, ⟨6, _⟩ => ⟨S16x2x4x128x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S4x2x1x128x128, .f32⟩
  | .local _ .vmem, ⟨13, _⟩ => ⟨S4x2x1x128x128, .f32⟩
  | .local _ .smem, ⟨0, _⟩ => ⟨S2x4, .f32⟩
  | _, _ => ⟨S6144x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let c0_23 : Index := 0#32
  let arg1 : BitVec 32 := BitVec.ofNat 32 (i 1).val
  let v27 : Index := Scalar.indexCast arg1
  ![0, v27.toNat]
def k0_off2 (i : grid0.Coords) : Fin 2 → Nat :=
  let c1_102 : Index := 1#32
  let arg1 : BitVec 32 := BitVec.ofNat 32 (i 1).val
  let v320 : Index := Scalar.indexCast arg1
  ![1, v320.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.addi c6_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c10_i32 : BitVec 32 := 10#32
  let v1 : BitVec 32 := Scalar.addi c10_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c14_i32 : BitVec 32 := 14#32
  let v1 : BitVec 32 := Scalar.addi c14_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c18_i32 : BitVec 32 := 18#32
  let v1 : BitVec 32 := Scalar.addi c18_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c22_i32 : BitVec 32 := 22#32
  let v1 : BitVec 32 := Scalar.addi c22_i32 arg1
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x2x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S6144x3328 : Shape := ⟨2, ![6144, 3328]⟩
abbrev S1x2x4 : Shape := ⟨3, ![1, 2, 4]⟩
abbrev S4096x3328 : Shape := ⟨2, ![4096, 3328]⟩
abbrev S16x256x3328 : Shape := ⟨3, ![16, 256, 3328]⟩
abbrev S16x256x2560 : Shape := ⟨3, ![16, 256, 2560]⟩
abbrev S16x256x512 : Shape := ⟨3, ![16, 256, 512]⟩
abbrev S16x256x4x128 : Shape := ⟨4, ![16, 256, 4, 128]⟩
abbrev S_ : Shape := ⟨0, ![]⟩
abbrev S2x4 : Shape := ⟨2, ![2, 4]⟩
abbrev S16x2x4x128x128 : Shape := ⟨5, ![16, 2, 4, 128, 128]⟩
abbrev S1x4 : Shape := ⟨2, ![1, 4]⟩
abbrev S4 : Shape := ⟨1, ![4]⟩
abbrev S16x1x4x128x128 : Shape := ⟨5, ![16, 1, 4, 128, 128]⟩
abbrev S16x4x128x128 : Shape := ⟨4, ![16, 4, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S128x4 : Shape := ⟨2, ![128, 4]⟩
abbrev S16x2x128x4x128 : Shape := ⟨5, ![16, 2, 128, 4, 128]⟩
abbrev S16x1x128x4x128 : Shape := ⟨5, ![16, 1, 128, 4, 128]⟩
abbrev S16x128x4x128 : Shape := ⟨4, ![16, 128, 4, 128]⟩
abbrev S1x4x128x128 : Shape := ⟨4, ![1, 4, 128, 128]⟩
abbrev S128x4x1 : Shape := ⟨3, ![128, 4, 1]⟩
abbrev S1x128x4x1 : Shape := ⟨4, ![1, 128, 4, 1]⟩
abbrev S1x4x1x1 : Shape := ⟨4, ![1, 4, 1, 1]⟩
abbrev S16x256x4 : Shape := ⟨3, ![16, 256, 4]⟩
abbrev S16x256x4x1 : Shape := ⟨4, ![16, 256, 4, 1]⟩
abbrev S4096x512 : Shape := ⟨2, ![4096, 512]⟩
abbrev S2048x512 : Shape := ⟨2, ![2048, 512]⟩
abbrev S6144x512 : Shape := ⟨2, ![6144, 512]⟩

abbrev nBuf : Space → Nat
  | .hbm => 308
  | .vmem => 0
  | .smem => 0
  | _ => 0

abbrev hbmTy0_0 (i : Nat) : BufTy := match i % 128 with
  | 0 => ⟨S6144x3328, .f32⟩
  | 1 => ⟨S1x2x4, .f32⟩
  | 2 => ⟨S4096x3328, .f32⟩
  | 3 => ⟨S16x256x3328, .f32⟩
  | 4 => ⟨S16x256x2560, .f32⟩
  | 5 => ⟨S16x256x512, .f32⟩
  | 6 => ⟨S16x256x512, .f32⟩
  | 7 => ⟨S16x256x512, .f32⟩
  | 8 => ⟨S16x256x512, .f32⟩
  | 9 => ⟨S16x256x512, .f32⟩
  | 10 => ⟨S16x256x4x128, .f32⟩
  | 11 => ⟨S_, .f32⟩
  | 12 => ⟨S16x256x4x128, .f32⟩
  | 13 => ⟨S16x256x4x128, .f32⟩
  | 14 => ⟨S16x256x4x128, .f32⟩
  | 15 => ⟨S16x256x4x128, .f32⟩
  | 16 => ⟨S2x4, .f32⟩
  | 17 => ⟨S2x4, .f32⟩
  | 18 => ⟨S2x4, .f32⟩
  | 19 => ⟨S_, .f32⟩
  | 20 => ⟨S2x4, .f32⟩
  | 21 => ⟨S2x4, .f32⟩
  | 22 => ⟨S_, .f32⟩
  | 23 => ⟨S2x4, .f32⟩
  | 24 => ⟨S2x4, .f32⟩
  | 25 => ⟨S_, .f32⟩
  | 26 => ⟨S16x2x4x128x128, .f32⟩
  | 27 => ⟨S1x4, .f32⟩
  | 28 => ⟨S4, .f32⟩
  | 29 => ⟨S16x1x4x128x128, .f32⟩
  | 30 => ⟨S16x4x128x128, .f32⟩
  | 31 => ⟨S4, .f32⟩
  | 32 => ⟨S128, .f32⟩
  | 33 => ⟨S128x1, .f32⟩
  | 34 => ⟨S1x128, .f32⟩
  | 35 => ⟨S128x128, .f32⟩
  | 36 => ⟨S128x128, .f32⟩
  | 37 => ⟨S128x128, .f32⟩
  | 38 => ⟨S1x128x128, .f32⟩
  | 39 => ⟨S_, .f32⟩
  | 40 => ⟨S1x128x128, .f32⟩
  | 41 => ⟨S1x128x128, .i1⟩
  | 42 => ⟨S1x128x128, .f32⟩
  | 43 => ⟨S4x1x1, .f32⟩
  | 44 => ⟨S4x128x128, .f32⟩
  | 45 => ⟨S4x128x128, .f32⟩
  | 46 => ⟨S4x128x128, .f32⟩
  | 47 => ⟨S_, .f32⟩
  | 48 => ⟨S_, .f32⟩
  | 49 => ⟨S4x128x128, .i1⟩
  | 50 => ⟨S4x128x128, .f32⟩
  | 51 => ⟨S4x128x128, .f32⟩
  | 52 => ⟨S4x128x128, .f32⟩
  | 53 => ⟨S128x1, .f32⟩
  | 54 => ⟨S_, .f32⟩
  | 55 => ⟨S128x1, .f32⟩
  | 56 => ⟨S128x1, .f32⟩
  | 57 => ⟨S1x4, .f32⟩
  | 58 => ⟨S128x4, .f32⟩
  | 59 => ⟨S128x4, .f32⟩
  | 60 => ⟨S128x4, .f32⟩
  | 61 => ⟨S128x4, .f32⟩
  | 62 => ⟨S128x1, .f32⟩
  | 63 => ⟨S_, .f32⟩
  | 64 => ⟨S128x1, .f32⟩
  | 65 => ⟨S128x1, .f32⟩
  | 66 => ⟨S1x4, .f32⟩
  | 67 => ⟨S128x4, .f32⟩
  | 68 => ⟨S128x4, .f32⟩
  | 69 => ⟨S128x4, .f32⟩
  | 70 => ⟨S128x4, .f32⟩
  | 71 => ⟨S_, .f32⟩
  | 72 => ⟨S4, .f32⟩
  | 73 => ⟨S4, .f32⟩
  | 74 => ⟨S4, .f32⟩
  | 75 => ⟨S16x2x128x4x128, .f32⟩
  | 76 => ⟨S16x2x128x4x128, .f32⟩
  | 77 => ⟨S16x2x128x4x128, .f32⟩
  | 78 => ⟨S16x1x128x4x128, .f32⟩
  | 79 => ⟨S16x128x4x128, .f32⟩
  | 80 => ⟨S16x1x128x4x128, .f32⟩
  | 81 => ⟨S16x128x4x128, .f32⟩
  | 82 => ⟨S16x1x128x4x128, .f32⟩
  | 83 => ⟨S16x128x4x128, .f32⟩
  | 84 => ⟨S16x4x128x128, .f32⟩
  | 85 => ⟨S1x4x128x128, .f32⟩
  | 86 => ⟨S16x4x128x128, .f32⟩
  | 87 => ⟨S16x4x128x128, .f32⟩
  | 88 => ⟨S16x4x128x128, .f32⟩
  | 89 => ⟨S16x128x4x128, .f32⟩
  | 90 => ⟨S128x4x1, .f32⟩
  | 91 => ⟨S1x128x4x1, .f32⟩
  | 92 => ⟨S16x128x4x128, .f32⟩
  | 93 => ⟨S16x128x4x128, .f32⟩
  | 94 => ⟨S16x4x128x128, .f32⟩
  | 95 => ⟨S16x128x4x128, .f32⟩
  | 96 => ⟨S16x128x4x128, .f32⟩
  | 97 => ⟨S4x1x1, .f32⟩
  | 98 => ⟨S1x4x1x1, .f32⟩
  | 99 => ⟨S16x4x128x128, .f32⟩
  | 100 => ⟨S16x4x128x128, .f32⟩
  | 101 => ⟨S128x4x1, .f32⟩
  | 102 => ⟨S1x128x4x1, .f32⟩
  | 103 => ⟨S16x128x4x128, .f32⟩
  | 104 => ⟨S16x128x4x128, .f32⟩
  | 105 => ⟨S16x4x128x128, .f32⟩
  | 106 => ⟨S16x4x128x128, .f32⟩
  | 107 => ⟨S16x1x128x4x128, .f32⟩
  | 108 => ⟨S16x128x4x128, .f32⟩
  | 109 => ⟨S16x1x128x4x128, .f32⟩
  | 110 => ⟨S16x128x4x128, .f32⟩
  | 111 => ⟨S16x1x128x4x128, .f32⟩
  | 112 => ⟨S16x128x4x128, .f32⟩
  | 113 => ⟨S16x4x128x128, .f32⟩
  | 114 => ⟨S1x4x128x128, .f32⟩
  | 115 => ⟨S16x4x128x128, .f32⟩
  | 116 => ⟨S16x4x128x128, .f32⟩
  | 117 => ⟨S16x4x128x128, .f32⟩
  | 118 => ⟨S16x128x4x128, .f32⟩
  | 119 => ⟨S128x4x1, .f32⟩
  | 120 => ⟨S1x128x4x1, .f32⟩
  | 121 => ⟨S16x128x4x128, .f32⟩
  | 122 => ⟨S16x128x4x128, .f32⟩
  | 123 => ⟨S16x4x128x128, .f32⟩
  | 124 => ⟨S16x128x4x128, .f32⟩
  | 125 => ⟨S16x128x4x128, .f32⟩
  | 126 => ⟨S4x1x1, .f32⟩
  | 127 => ⟨S1x4x1x1, .f32⟩
  | _ => ⟨S6144x3328, .f32⟩

abbrev hbmTy0_1 (i : Nat) : BufTy := match i % 128 with
  | 0 => ⟨S16x4x128x128, .f32⟩
  | 1 => ⟨S16x4x128x128, .f32⟩
  | 2 => ⟨S128x4x1, .f32⟩
  | 3 => ⟨S1x128x4x1, .f32⟩
  | 4 => ⟨S16x128x4x128, .f32⟩
  | 5 => ⟨S16x128x4x128, .f32⟩
  | 6 => ⟨S16x4x128x128, .f32⟩
  | 7 => ⟨S16x4x128x128, .f32⟩
  | 8 => ⟨S16x256x4x128, .f32⟩
  | 9 => ⟨S16x256x4x128, .f32⟩
  | 10 => ⟨S16x256x4x128, .f32⟩
  | 11 => ⟨S16x256x4x128, .f32⟩
  | 12 => ⟨S1x4, .f32⟩
  | 13 => ⟨S4, .f32⟩
  | 14 => ⟨S16x1x4x128x128, .f32⟩
  | 15 => ⟨S16x4x128x128, .f32⟩
  | 16 => ⟨S4, .f32⟩
  | 17 => ⟨S128, .f32⟩
  | 18 => ⟨S128x1, .f32⟩
  | 19 => ⟨S1x128, .f32⟩
  | 20 => ⟨S128x128, .f32⟩
  | 21 => ⟨S128x128, .f32⟩
  | 22 => ⟨S128x128, .f32⟩
  | 23 => ⟨S1x128x128, .f32⟩
  | 24 => ⟨S_, .f32⟩
  | 25 => ⟨S1x128x128, .f32⟩
  | 26 => ⟨S1x128x128, .i1⟩
  | 27 => ⟨S1x128x128, .f32⟩
  | 28 => ⟨S4x1x1, .f32⟩
  | 29 => ⟨S4x128x128, .f32⟩
  | 30 => ⟨S4x128x128, .f32⟩
  | 31 => ⟨S4x128x128, .f32⟩
  | 32 => ⟨S_, .f32⟩
  | 33 => ⟨S_, .f32⟩
  | 34 => ⟨S4x128x128, .i1⟩
  | 35 => ⟨S4x128x128, .f32⟩
  | 36 => ⟨S4x128x128, .f32⟩
  | 37 => ⟨S4x128x128, .f32⟩
  | 38 => ⟨S128x1, .f32⟩
  | 39 => ⟨S_, .f32⟩
  | 40 => ⟨S128x1, .f32⟩
  | 41 => ⟨S128x1, .f32⟩
  | 42 => ⟨S1x4, .f32⟩
  | 43 => ⟨S128x4, .f32⟩
  | 44 => ⟨S128x4, .f32⟩
  | 45 => ⟨S128x4, .f32⟩
  | 46 => ⟨S128x4, .f32⟩
  | 47 => ⟨S128x1, .f32⟩
  | 48 => ⟨S_, .f32⟩
  | 49 => ⟨S128x1, .f32⟩
  | 50 => ⟨S128x1, .f32⟩
  | 51 => ⟨S1x4, .f32⟩
  | 52 => ⟨S128x4, .f32⟩
  | 53 => ⟨S128x4, .f32⟩
  | 54 => ⟨S128x4, .f32⟩
  | 55 => ⟨S128x4, .f32⟩
  | 56 => ⟨S_, .f32⟩
  | 57 => ⟨S4, .f32⟩
  | 58 => ⟨S4, .f32⟩
  | 59 => ⟨S4, .f32⟩
  | 60 => ⟨S16x2x128x4x128, .f32⟩
  | 61 => ⟨S16x2x128x4x128, .f32⟩
  | 62 => ⟨S16x2x128x4x128, .f32⟩
  | 63 => ⟨S16x1x128x4x128, .f32⟩
  | 64 => ⟨S16x128x4x128, .f32⟩
  | 65 => ⟨S16x1x128x4x128, .f32⟩
  | 66 => ⟨S16x128x4x128, .f32⟩
  | 67 => ⟨S16x1x128x4x128, .f32⟩
  | 68 => ⟨S16x128x4x128, .f32⟩
  | 69 => ⟨S16x4x128x128, .f32⟩
  | 70 => ⟨S1x4x128x128, .f32⟩
  | 71 => ⟨S16x4x128x128, .f32⟩
  | 72 => ⟨S16x4x128x128, .f32⟩
  | 73 => ⟨S16x4x128x128, .f32⟩
  | 74 => ⟨S16x128x4x128, .f32⟩
  | 75 => ⟨S128x4x1, .f32⟩
  | 76 => ⟨S1x128x4x1, .f32⟩
  | 77 => ⟨S16x128x4x128, .f32⟩
  | 78 => ⟨S16x128x4x128, .f32⟩
  | 79 => ⟨S16x4x128x128, .f32⟩
  | 80 => ⟨S16x128x4x128, .f32⟩
  | 81 => ⟨S16x128x4x128, .f32⟩
  | 82 => ⟨S4x1x1, .f32⟩
  | 83 => ⟨S1x4x1x1, .f32⟩
  | 84 => ⟨S16x4x128x128, .f32⟩
  | 85 => ⟨S16x4x128x128, .f32⟩
  | 86 => ⟨S128x4x1, .f32⟩
  | 87 => ⟨S1x128x4x1, .f32⟩
  | 88 => ⟨S16x128x4x128, .f32⟩
  | 89 => ⟨S16x128x4x128, .f32⟩
  | 90 => ⟨S16x4x128x128, .f32⟩
  | 91 => ⟨S16x4x128x128, .f32⟩
  | 92 => ⟨S16x1x128x4x128, .f32⟩
  | 93 => ⟨S16x128x4x128, .f32⟩
  | 94 => ⟨S16x1x128x4x128, .f32⟩
  | 95 => ⟨S16x128x4x128, .f32⟩
  | 96 => ⟨S16x1x128x4x128, .f32⟩
  | 97 => ⟨S16x128x4x128, .f32⟩
  | 98 => ⟨S16x4x128x128, .f32⟩
  | 99 => ⟨S1x4x128x128, .f32⟩
  | 100 => ⟨S16x4x128x128, .f32⟩
  | 101 => ⟨S16x4x128x128, .f32⟩
  | 102 => ⟨S16x4x128x128, .f32⟩
  | 103 => ⟨S16x128x4x128, .f32⟩
  | 104 => ⟨S128x4x1, .f32⟩
  | 105 => ⟨S1x128x4x1, .f32⟩
  | 106 => ⟨S16x128x4x128, .f32⟩
  | 107 => ⟨S16x128x4x128, .f32⟩
  | 108 => ⟨S16x4x128x128, .f32⟩
  | 109 => ⟨S16x128x4x128, .f32⟩
  | 110 => ⟨S16x128x4x128, .f32⟩
  | 111 => ⟨S4x1x1, .f32⟩
  | 112 => ⟨S1x4x1x1, .f32⟩
  | 113 => ⟨S16x4x128x128, .f32⟩
  | 114 => ⟨S16x4x128x128, .f32⟩
  | 115 => ⟨S128x4x1, .f32⟩
  | 116 => ⟨S1x128x4x1, .f32⟩
  | 117 => ⟨S16x128x4x128, .f32⟩
  | 118 => ⟨S16x128x4x128, .f32⟩
  | 119 => ⟨S16x4x128x128, .f32⟩
  | 120 => ⟨S16x4x128x128, .f32⟩
  | 121 => ⟨S16x256x4x128, .f32⟩
  | 122 => ⟨S16x256x4x128, .f32⟩
  | 123 => ⟨S16x256x4x128, .f32⟩
  | 124 => ⟨S16x256x4x128, .f32⟩
  | 125 => ⟨S16x256x4x128, .f32⟩
  | 126 => ⟨S_, .f32⟩
  | 127 => ⟨S16x256x4x128, .f32⟩
  | _ => ⟨S6144x3328, .f32⟩

abbrev hbmTy0_2 (i : Nat) : BufTy := match i % 128 with
  | 0 => ⟨S16x256x4x128, .f32⟩
  | 1 => ⟨S_, .f32⟩
  | 2 => ⟨S16x256x4x128, .f32⟩
  | 3 => ⟨S16x256x4x128, .f32⟩
  | 4 => ⟨S16x256x4x128, .f32⟩
  | 5 => ⟨S16x256x4x128, .f32⟩
  | 6 => ⟨S_, .f32⟩
  | 7 => ⟨S16x256x4, .f32⟩
  | 8 => ⟨S16x256x4x1, .f32⟩
  | 9 => ⟨S_, .f32⟩
  | 10 => ⟨S16x256x4x1, .f32⟩
  | 11 => ⟨S16x256x4x1, .f32⟩
  | 12 => ⟨S_, .f32⟩
  | 13 => ⟨S16x256x4x1, .f32⟩
  | 14 => ⟨S16x256x4x1, .f32⟩
  | 15 => ⟨S16x256x4x1, .f32⟩
  | 16 => ⟨S16x256x4x128, .f32⟩
  | 17 => ⟨S16x256x4x128, .f32⟩
  | 18 => ⟨S16x256x4x128, .f32⟩
  | 19 => ⟨S16x256x4x128, .f32⟩
  | 20 => ⟨S16x256x4x128, .f32⟩
  | 21 => ⟨S16x256x4x128, .f32⟩
  | 22 => ⟨S_, .f32⟩
  | 23 => ⟨S16x256x4x128, .f32⟩
  | 24 => ⟨S16x256x4x128, .f32⟩
  | 25 => ⟨S_, .f32⟩
  | 26 => ⟨S16x256x4x128, .f32⟩
  | 27 => ⟨S16x256x4x128, .f32⟩
  | 28 => ⟨S16x256x4x128, .f32⟩
  | 29 => ⟨S16x256x4x128, .f32⟩
  | 30 => ⟨S_, .f32⟩
  | 31 => ⟨S16x256x4, .f32⟩
  | 32 => ⟨S16x256x4x1, .f32⟩
  | 33 => ⟨S_, .f32⟩
  | 34 => ⟨S16x256x4x1, .f32⟩
  | 35 => ⟨S16x256x4x1, .f32⟩
  | 36 => ⟨S_, .f32⟩
  | 37 => ⟨S16x256x4x1, .f32⟩
  | 38 => ⟨S16x256x4x1, .f32⟩
  | 39 => ⟨S16x256x4x1, .f32⟩
  | 40 => ⟨S16x256x4x128, .f32⟩
  | 41 => ⟨S16x256x4x128, .f32⟩
  | 42 => ⟨S16x256x4x128, .f32⟩
  | 43 => ⟨S16x256x4x128, .f32⟩
  | 44 => ⟨S4096x512, .f32⟩
  | 45 => ⟨S4096x512, .bf16⟩
  | 46 => ⟨S_, .bf16⟩
  | 47 => ⟨S2048x512, .bf16⟩
  | 48 => ⟨S6144x512, .bf16⟩
  | 49 => ⟨S16x1x4x128x128, .f32⟩
  | 50 => ⟨S16x1x4x128x128, .f32⟩
  | 51 => ⟨S16x2x4x128x128, .f32⟩
  | _ => ⟨S6144x3328, .f32⟩

abbrev hbmTy (i : Nat) : BufTy := match i / 128 with
  | 0 => hbmTy0_0 i
  | 1 => hbmTy0_1 i
  | 2 => hbmTy0_2 i
  | _ => ⟨S6144x3328, .f32⟩

abbrev bufTy : (tb : Table) → Fin (tcTables nBuf tb) → BufTy
  | .hbm, ⟨i, _⟩ => hbmTy i
  | _, _ => ⟨S6144x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_cst_8 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_cst_9 : Ref sig .tc := ⟨.hbm, 160, rfl⟩
abbrev main_call4_v0 : Ref sig .tc := ⟨.hbm, 161, rfl⟩
abbrev main_call4_v1 : Ref sig .tc := ⟨.hbm, 162, rfl⟩
abbrev main_call4_v2 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_cst_10 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_cst_11 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_cst_12 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_call6_v0 : Ref sig .tc := ⟨.hbm, 252, rfl⟩
abbrev main_call6_v1 : Ref sig .tc := ⟨.hbm, 253, rfl⟩
abbrev main_call6_cst : Ref sig .tc := ⟨.hbm, 254, rfl⟩
abbrev main_call6_v2 : Ref sig .tc := ⟨.hbm, 255, rfl⟩
abbrev main_call6_v3 : Ref sig .tc := ⟨.hbm, 256, rfl⟩
abbrev main_call6_cst_0 : Ref sig .tc := ⟨.hbm, 257, rfl⟩
abbrev main_call6_v4 : Ref sig .tc := ⟨.hbm, 258, rfl⟩
abbrev main_call6_v5 : Ref sig .tc := ⟨.hbm, 259, rfl⟩
abbrev main_v230 : Ref sig .tc := ⟨.hbm, 260, rfl⟩
abbrev main_v231 : Ref sig .tc := ⟨.hbm, 261, rfl⟩
abbrev main_cst_13 : Ref sig .tc := ⟨.hbm, 262, rfl⟩
abbrev main_v232 : Ref sig .tc := ⟨.hbm, 263, rfl⟩
abbrev main_v233 : Ref sig .tc := ⟨.hbm, 264, rfl⟩
abbrev main_cst_14 : Ref sig .tc := ⟨.hbm, 265, rfl⟩
abbrev main_v234 : Ref sig .tc := ⟨.hbm, 266, rfl⟩
abbrev main_v235 : Ref sig .tc := ⟨.hbm, 267, rfl⟩
abbrev main_cst_15 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_call7_v0 : Ref sig .tc := ⟨.hbm, 276, rfl⟩
abbrev main_call7_v1 : Ref sig .tc := ⟨.hbm, 277, rfl⟩
abbrev main_call7_cst : Ref sig .tc := ⟨.hbm, 278, rfl⟩
abbrev main_call7_v2 : Ref sig .tc := ⟨.hbm, 279, rfl⟩
abbrev main_call7_v3 : Ref sig .tc := ⟨.hbm, 280, rfl⟩
abbrev main_call7_cst_0 : Ref sig .tc := ⟨.hbm, 281, rfl⟩
abbrev main_call7_v4 : Ref sig .tc := ⟨.hbm, 282, rfl⟩
abbrev main_call7_v5 : Ref sig .tc := ⟨.hbm, 283, rfl⟩
abbrev main_v243 : Ref sig .tc := ⟨.hbm, 284, rfl⟩
abbrev main_v244 : Ref sig .tc := ⟨.hbm, 285, rfl⟩
abbrev main_cst_16 : Ref sig .tc := ⟨.hbm, 286, rfl⟩
abbrev main_v245 : Ref sig .tc := ⟨.hbm, 287, rfl⟩
abbrev main_v246 : Ref sig .tc := ⟨.hbm, 288, rfl⟩
abbrev main_cst_17 : Ref sig .tc := ⟨.hbm, 289, rfl⟩
abbrev main_v247 : Ref sig .tc := ⟨.hbm, 290, rfl⟩
abbrev main_v248 : Ref sig .tc := ⟨.hbm, 291, rfl⟩
abbrev main_cst_18 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_cst_19 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩

abbrev nD : Nat := 1
abbrev τ : Topo := Topo.v7x

variable {F : FTy → Type} [FloatOps F]
-- ==== Kernel2.lean ====
abbrev S32 : Shape := ⟨1, ![32]⟩
abbrev S1 : Shape := ⟨1, ![1]⟩
abbrev S16384x1024 : Shape := ⟨2, ![16384, 1024]⟩
abbrev S16384 : Shape := ⟨1, ![16384]⟩
abbrev S8x1024x1408 : Shape := ⟨3, ![8, 1024, 1408]⟩
abbrev S8x1408x1024 : Shape := ⟨3, ![8, 1408, 1024]⟩
abbrev S16384x1 : Shape := ⟨2, ![16384, 1]⟩
abbrev S16384x128 : Shape := ⟨2, ![16384, 128]⟩
abbrev S512x1024 : Shape := ⟨2, ![512, 1024]⟩
abbrev S512x128 : Shape := ⟨2, ![512, 128]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S1408x1024 : Shape := ⟨2, ![1408, 1024]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S1024x128 : Shape := ⟨2, ![1024, 128]⟩
abbrev S128x1024 : Shape := ⟨2, ![128, 1024]⟩

abbrev nBuf : Space → Nat
  | .hbm => 9
  | .vmem => 16
  | .smem => 2
  | _ => 0

abbrev bufTy : (tb : Table) → Fin (tcTables nBuf tb) → BufTy
  | .hbm, ⟨0, _⟩ => ⟨S16384x1024, .f32⟩
  | .hbm, ⟨1, _⟩ => ⟨S16384, .f32⟩
  | .hbm, ⟨2, _⟩ => ⟨S8x1024x1408, .f32⟩
  | .hbm, ⟨3, _⟩ => ⟨S8x1024x1408, .f32⟩
  | .hbm, ⟨4, _⟩ => ⟨S8x1408x1024, .f32⟩
  | .hbm, ⟨5, _⟩ => ⟨S16384x1, .f32⟩
  | .hbm, ⟨6, _⟩ => ⟨S16384x128, .f32⟩
  | .hbm, ⟨7, _⟩ => ⟨S16384x1024, .bf16⟩
  | .hbm, ⟨8, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .f32⟩
  | .local _ .vmem, ⟨7, _⟩ => ⟨S1x1024x1408, .f32⟩
  | .local _ .vmem, ⟨8, _⟩ => ⟨S1x1408x1024, .f32⟩
  | .local _ .vmem, ⟨9, _⟩ => ⟨S1x1408x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1408, .bf16⟩
  | .local _ .vmem, ⟨13, _⟩ => ⟨S1024x1408, .bf16⟩
  | .local _ .vmem, ⟨14, _⟩ => ⟨S1408x1024, .bf16⟩
  | .local _ .vmem, ⟨15, _⟩ => ⟨S512x1024, .f32⟩
  | .local _ .smem, ⟨0, _⟩ => ⟨S32, .i32⟩
  | .local _ .smem, ⟨1, _⟩ => ⟨S1, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32 : Shape := ⟨1, ![32]⟩
abbrev S1 : Shape := ⟨1, ![1]⟩
abbrev S16384x1024 : Shape := ⟨2, ![16384, 1024]⟩
abbrev S16384 : Shape := ⟨1, ![16384]⟩
abbrev S8x1024x1408 : Shape := ⟨3, ![8, 1024, 1408]⟩
abbrev S8x1408x1024 : Shape := ⟨3, ![8, 1408, 1024]⟩
abbrev S32x512 : Shape := ⟨2, ![32, 512]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x8x1408 : Shape := ⟨3, ![16384, 8, 1408]⟩
abbrev S16384x8x1 : Shape := ⟨3, ![16384, 8, 1]⟩

abbrev nBuf : Space → Nat
  | .hbm => 45
  | .vmem => 0
  | .smem => 0
  | _ => 0

abbrev bufTy : (tb : Table) → Fin (tcTables nBuf tb) → BufTy
  | .hbm, ⟨0, _⟩ => ⟨S32, .i32⟩
  | .hbm, ⟨1, _⟩ => ⟨S1, .i32⟩
  | .hbm, ⟨2, _⟩ => ⟨S16384x1024, .f32⟩
  | .hbm, ⟨3, _⟩ => ⟨S16384, .f32⟩
  | .hbm, ⟨4, _⟩ => ⟨S8x1024x1408, .f32⟩
  | .hbm, ⟨5, _⟩ => ⟨S8x1024x1408, .f32⟩
  | .hbm, ⟨6, _⟩ => ⟨S8x1408x1024, .f32⟩
  | .hbm, ⟨7, _⟩ => ⟨S32x512, .i32⟩
  | .hbm, ⟨8, _⟩ => ⟨S16384, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i1⟩
  | .hbm, ⟨13, _⟩ => ⟨S32x512, .i1⟩
  | .hbm, ⟨14, _⟩ => ⟨S16384, .i1⟩
  | .hbm, ⟨15, _⟩ => ⟨S_, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x1, .i32⟩
  | .hbm, ⟨20, _⟩ => ⟨S1x8, .i32⟩
  | .hbm, ⟨21, _⟩ => ⟨S16384x8, .i32⟩
  | .hbm, ⟨22, _⟩ => ⟨S16384x8, .i32⟩
  | .hbm, ⟨23, _⟩ => ⟨S16384x8, .i1⟩
  | .hbm, ⟨24, _⟩ => ⟨S16384x8, .f32⟩
  | .hbm, ⟨25, _⟩ => ⟨S16384x1, .f32⟩
  | .hbm, ⟨26, _⟩ => ⟨S16384x8, .f32⟩
  | .hbm, ⟨27, _⟩ => ⟨S16384x8, .f32⟩
  | .hbm, ⟨28, _⟩ => ⟨S16384x8x1408, .f32⟩
  | .hbm, ⟨29, _⟩ => ⟨S16384x8x1408, .f32⟩
  | .hbm, ⟨30, _⟩ => ⟨S16384x8x1408, .f32⟩
  | .hbm, ⟨31, _⟩ => ⟨S_, .f32⟩
  | .hbm, ⟨32, _⟩ => ⟨S16384x8x1408, .f32⟩
  | .hbm, ⟨33, _⟩ => ⟨S16384x8x1408, .f32⟩
  | .hbm, ⟨34, _⟩ => ⟨S_, .f32⟩
  | .hbm, ⟨35, _⟩ => ⟨S16384x8x1408, .f32⟩
  | .hbm, ⟨36, _⟩ => ⟨S16384x8x1408, .f32⟩
  | .hbm, ⟨37, _⟩ => ⟨S16384x8x1408, .f32⟩
  | .hbm, ⟨38, _⟩ => ⟨S16384x8x1408, .f32⟩
  | .hbm, ⟨39, _⟩ => ⟨S16384x8x1408, .f32⟩
  | .hbm, ⟨40, _⟩ => ⟨S16384x8x1, .f32⟩
  | .hbm, ⟨41, _⟩ => ⟨S16384x8x1408, .f32⟩
  | .hbm, ⟨42, _⟩ => ⟨S16384x8x1408, .f32⟩
  | .hbm, ⟨43, _⟩ => ⟨S16384x1024, .f32⟩
  | .hbm, ⟨44, _⟩ => ⟨S16384x1024, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]
-- ==== Kernel3.lean ====
abbrev S6144x1024 : Shape := ⟨2, ![6144, 1024]⟩
abbrev S16x6144 : Shape := ⟨2, ![16, 6144]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S16x1024 : Shape := ⟨2, ![16, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 10
  | .vmem => 17
  | .smem => 0
  | _ => 0

abbrev bufTy : (tb : Table) → Fin (tcTables nBuf tb) → BufTy
  | .hbm, ⟨0, _⟩ => ⟨S6144x1024, .f32⟩
  | .hbm, ⟨1, _⟩ => ⟨S16x6144, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S6144x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S1x1024, .f32⟩
  | .local _ .vmem, ⟨6, _⟩ => ⟨S1x1024, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S256x1024, .f32⟩
  | .local _ .vmem, ⟨12, _⟩ => ⟨S256x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![6, 11], ![false, false]⟩

def k0_cond1 (i : grid0.Coords) : BitVec 1 :=
  let arg1 : BitVec 32 := BitVec.ofNat 32 (i 1).val
  let c0_i32_6 : BitVec 32 := 0#32
  let v19 : BitVec 1 := Scalar.cmpi .eq arg1 c0_i32_6
  let v20 : BitVec 32 := Scalar.extui v19
  let c0_i32_7 : BitVec 32 := 0#32
  let v21 : BitVec 1 := Scalar.cmpi .ne v20 c0_i32_7
  v21

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c3_i32 : BitVec 32 := 3#32
  let v17 : BitVec 32 := Scalar.subi v16 c3_i32
  let c0_i32_5 : BitVec 32 := 0#32
  let v18 : BitVec 32 := Scalar.maxsi v17 c0_i32_5
  let v45 : Index := Scalar.indexCast v18
  let c0_24 : Index := 0#32
  ![v45.toNat, 0]
def k0_cond2 (i : grid0.Coords) : BitVec 1 :=
  let arg1 : BitVec 32 := BitVec.ofNat 32 (i 1).val
  let c10_i32 : BitVec 32 := 10#32
  let v41 : BitVec 1 := Scalar.cmpi .eq arg1 c10_i32
  let v42 : BitVec 32 := Scalar.extui v41
  let c0_i32_21 : BitVec 32 := 0#32
  let v43 : BitVec 1 := Scalar.cmpi .ne v42 c0_i32_21
  v43

def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c3_i32 : BitVec 32 := 3#32
  let v17 : BitVec 32 := Scalar.subi v16 c3_i32
  let c0_i32_5 : BitVec 32 := 0#32
  let v18 : BitVec 32 := Scalar.maxsi v17 c0_i32_5
  let v47 : Index := Scalar.indexCast v18
  let c0_25 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S6144x1024 : Shape := ⟨2, ![6144, 1024]⟩
abbrev S16x6144 : Shape := ⟨2, ![16, 6144]⟩
abbrev S1024 : Shape := ⟨1, ![1024]⟩
abbrev S1024x2816 : Shape := ⟨2, ![1024, 2816]⟩
abbrev S2816x1024 : Shape := ⟨2, ![2816, 1024]⟩
abbrev S4096x1024 : Shape := ⟨2, ![4096, 1024]⟩
abbrev S16x256x1024 : Shape := ⟨3, ![16, 256, 1024]⟩
abbrev S1x6144 : Shape := ⟨2, ![1, 6144]⟩
abbrev S6144 : Shape := ⟨1, ![6144]⟩
abbrev S_ : Shape := ⟨0, ![]⟩
abbrev S1x1x1024 : Shape := ⟨3, ![1, 1, 1024]⟩
abbrev S16x256x2816 : Shape := ⟨3, ![16, 256, 2816]⟩
abbrev S16x256 : Shape := ⟨2, ![16, 256]⟩
abbrev S16x256x1 : Shape := ⟨3, ![16, 256, 1]⟩
abbrev S2048x1024 : Shape := ⟨2, ![2048, 1024]⟩
abbrev S2x1024x1024 : Shape := ⟨3, ![2, 1024, 1024]⟩
abbrev S2x6144 : Shape := ⟨2, ![2, 6144]⟩
abbrev S2x1x6144 : Shape := ⟨3, ![2, 1, 6144]⟩
abbrev S2x1x1024 : Shape := ⟨3, ![2, 1, 1024]⟩
abbrev S2x1024x2816 : Shape := ⟨3, ![2, 1024, 2816]⟩
abbrev S2x1024 : Shape := ⟨2, ![2, 1024]⟩
abbrev S2x1024x1 : Shape := ⟨3, ![2, 1024, 1]⟩

abbrev nBuf : Space → Nat
  | .hbm => 143
  | .vmem => 0
  | .smem => 0
  | _ => 0

abbrev hbmTy0_0 (i : Nat) : BufTy := match i % 128 with
  | 0 => ⟨S6144x1024, .f32⟩
  | 1 => ⟨S16x6144, .f32⟩
  | 2 => ⟨S1024, .f32⟩
  | 3 => ⟨S1024, .f32⟩
  | 4 => ⟨S1024x2816, .f32⟩
  | 5 => ⟨S1024x2816, .f32⟩
  | 6 => ⟨S2816x1024, .f32⟩
  | 7 => ⟨S4096x1024, .f32⟩
  | 8 => ⟨S16x256x1024, .f32⟩
  | 9 => ⟨S1x6144, .f32⟩
  | 10 => ⟨S6144, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S_, .f32⟩
  | 18 => ⟨S1024, .f32⟩
  | 19 => ⟨S1024, .f32⟩
  | 20 => ⟨S1x1x1024, .f32⟩
  | 21 => ⟨S16x256x1024, .f32⟩
  | 22 => ⟨S16x256x1024, .f32⟩
  | 23 => ⟨S1x1x1024, .f32⟩
  | 24 => ⟨S16x256x1024, .f32⟩
  | 25 => ⟨S16x256x1024, .f32⟩
  | 26 => ⟨S16x256x2816, .f32⟩
  | 27 => ⟨S16x256x2816, .f32⟩
  | 28 => ⟨S16x256x2816, .f32⟩
  | 29 => ⟨S_, .f32⟩
  | 30 => ⟨S16x256x2816, .f32⟩
  | 31 => ⟨S16x256x2816, .f32⟩
  | 32 => ⟨S_, .f32⟩
  | 33 => ⟨S16x256x2816, .f32⟩
  | 34 => ⟨S16x256x2816, .f32⟩
  | 35 => ⟨S16x256x2816, .f32⟩
  | 36 => ⟨S16x256x2816, .f32⟩
  | 37 => ⟨S16x256x2816, .f32⟩
  | 38 => ⟨S16x256x1024, .f32⟩
  | 39 => ⟨S_, .f32⟩
  | 40 => ⟨S16x256x1024, .f32⟩
  | 41 => ⟨S16x256x1024, .f32⟩
  | 42 => ⟨S1x1x1024, .f32⟩
  | 43 => ⟨S16x256x1024, .f32⟩
  | 44 => ⟨S16x256x1024, .f32⟩
  | 45 => ⟨S16x256x1024, .f32⟩
  | 46 => ⟨S_, .f32⟩
  | 47 => ⟨S16x256, .f32⟩
  | 48 => ⟨S16x256x1, .f32⟩
  | 49 => ⟨S_, .f32⟩
  | 50 => ⟨S16x256x1, .f32⟩
  | 51 => ⟨S16x256x1, .f32⟩
  | 52 => ⟨S16x256x1024, .f32⟩
  | 53 => ⟨S16x256x1024, .f32⟩
  | 54 => ⟨S16x256x1024, .f32⟩
  | 55 => ⟨S_, .f32⟩
  | 56 => ⟨S16x256, .f32⟩
  | 57 => ⟨S16x256x1, .f32⟩
  | 58 => ⟨S_, .f32⟩
  | 59 => ⟨S16x256x1, .f32⟩
  | 60 => ⟨S16x256x1, .f32⟩
  | 61 => ⟨S16x256x1024, .f32⟩
  | 62 => ⟨S16x256x1024, .f32⟩
  | 63 => ⟨S_, .f32⟩
  | 64 => ⟨S16x256x1, .f32⟩
  | 65 => ⟨S16x256x1, .f32⟩
  | 66 => ⟨S16x256x1, .f32⟩
  | 67 => ⟨S16x256x1024, .f32⟩
  | 68 => ⟨S16x256x1024, .f32⟩
  | 69 => ⟨S1x1x1024, .f32⟩
  | 70 => ⟨S16x256x1024, .f32⟩
  | 71 => ⟨S16x256x1024, .f32⟩
  | 72 => ⟨S1x1x1024, .f32⟩
  | 73 => ⟨S16x256x1024, .f32⟩
  | 74 => ⟨S16x256x1024, .f32⟩
  | 75 => ⟨S2048x1024, .f32⟩
  | 76 => ⟨S2x1024x1024, .f32⟩
  | 77 => ⟨S2x6144, .f32⟩
  | 78 => ⟨S2x1x6144, .f32⟩
  | 79 => ⟨S2x1x1024, .f32⟩
  | 80 => ⟨S2x1x1024, .f32⟩
  | 81 => ⟨S2x1x1024, .f32⟩
  | 82 => ⟨S2x1x1024, .f32⟩
  | 83 => ⟨S2x1x1024, .f32⟩
  | 84 => ⟨S2x1x1024, .f32⟩
  | 85 => ⟨S_, .f32⟩
  | 86 => ⟨S2x1x1024, .f32⟩
  | 87 => ⟨S2x1x1024, .f32⟩
  | 88 => ⟨S2x1024x1024, .f32⟩
  | 89 => ⟨S2x1024x1024, .f32⟩
  | 90 => ⟨S2x1024x1024, .f32⟩
  | 91 => ⟨S2x1024x1024, .f32⟩
  | 92 => ⟨S2x1024x2816, .f32⟩
  | 93 => ⟨S2x1024x2816, .f32⟩
  | 94 => ⟨S2x1024x2816, .f32⟩
  | 95 => ⟨S_, .f32⟩
  | 96 => ⟨S2x1024x2816, .f32⟩
  | 97 => ⟨S2x1024x2816, .f32⟩
  | 98 => ⟨S_, .f32⟩
  | 99 => ⟨S2x1024x2816, .f32⟩
  | 100 => ⟨S2x1024x2816, .f32⟩
  | 101 => ⟨S2x1024x2816, .f32⟩
  | 102 => ⟨S2x1024x2816, .f32⟩
  | 103 => ⟨S2x1024x2816, .f32⟩
  | 104 => ⟨S2x1024x1024, .f32⟩
  | 105 => ⟨S_, .f32⟩
  | 106 => ⟨S2x1024x1024, .f32⟩
  | 107 => ⟨S2x1024x1024, .f32⟩
  | 108 => ⟨S2x1024x1024, .f32⟩
  | 109 => ⟨S2x1024x1024, .f32⟩
  | 110 => ⟨S2x1024x1024, .f32⟩
  | 111 => ⟨S_, .f32⟩
  | 112 => ⟨S2x1024, .f32⟩
  | 113 => ⟨S2x1024x1, .f32⟩
  | 114 => ⟨S_, .f32⟩
  | 115 => ⟨S2x1024x1, .f32⟩
  | 116 => ⟨S2x1024x1, .f32⟩
  | 117 => ⟨S2x1024x1024, .f32⟩
  | 118 => ⟨S2x1024x1024, .f32⟩
  | 119 => ⟨S2x1024x1024, .f32⟩
  | 120 => ⟨S_, .f32⟩
  | 121 => ⟨S2x1024, .f32⟩
  | 122 => ⟨S2x1024x1, .f32⟩
  | 123 => ⟨S_, .f32⟩
  | 124 => ⟨S2x1024x1, .f32⟩
  | 125 => ⟨S2x1024x1, .f32⟩
  | 126 => ⟨S2x1024x1024, .f32⟩
  | 127 => ⟨S2x1024x1024, .f32⟩
  | _ => ⟨S6144x1024, .f32⟩

abbrev hbmTy0_1 (i : Nat) : BufTy := match i % 128 with
  | 0 => ⟨S_, .f32⟩
  | 1 => ⟨S2x1024x1, .f32⟩
  | 2 => ⟨S2x1024x1, .f32⟩
  | 3 => ⟨S2x1024x1, .f32⟩
  | 4 => ⟨S2x1024x1024, .f32⟩
  | 5 => ⟨S2x1024x1024, .f32⟩
  | 6 => ⟨S1x1x1024, .f32⟩
  | 7 => ⟨S2x1024x1024, .f32⟩
  | 8 => ⟨S2x1024x1024, .f32⟩
  | 9 => ⟨S1x1x1024, .f32⟩
  | 10 => ⟨S2x1024x1024, .f32⟩
  | 11 => ⟨S2x1024x1024, .f32⟩
  | 12 => ⟨S4096x1024, .f32⟩
  | 13 => ⟨S2048x1024, .f32⟩
  | 14 => ⟨S6144x1024, .f32⟩
  | _ => ⟨S6144x1024, .f32⟩

abbrev hbmTy (i : Nat) : BufTy := match i / 128 with
  | 0 => hbmTy0_0 i
  | 1 => hbmTy0_1 i
  | _ => ⟨S6144x1024, .f32⟩

abbrev bufTy : (tb : Table) → Fin (tcTables nBuf tb) → BufTy
  | .hbm, ⟨i, _⟩ => hbmTy i
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_7 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_8 : Ref sig .tc := ⟨.hbm, 111, rfl⟩
abbrev main_v79 : Ref sig .tc := ⟨.hbm, 112, rfl⟩
abbrev main_v80 : Ref sig .tc := ⟨.hbm, 113, rfl⟩
abbrev main_cst_9 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_10 : Ref sig .tc := ⟨.hbm, 120, rfl⟩
abbrev main_v86 : Ref sig .tc := ⟨.hbm, 121, rfl⟩
abbrev main_v87 : Ref sig .tc := ⟨.hbm, 122, rfl⟩
abbrev main_cst_11 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_12 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩

abbrev nD : Nat := 1
abbrev τ : Topo := Topo.v7x

variable {F : FTy → Type} [FloatOps F]
-- ==== Kernel4.lean ====
abbrev S16x256x1024 : Shape := ⟨3, ![16, 256, 1024]⟩
abbrev S2x1024x1024 : Shape := ⟨3, ![2, 1024, 1024]⟩
abbrev S16x6144 : Shape := ⟨2, ![16, 6144]⟩
abbrev S1024x2304 : Shape := ⟨2, ![1024, 2304]⟩
abbrev S4096x1024 : Shape := ⟨2, ![4096, 1024]⟩
abbrev S2048x1024 : Shape := ⟨2, ![2048, 1024]⟩
abbrev S6144x2304 : Shape := ⟨2, ![6144, 2304]⟩
abbrev S4096x128 : Shape := ⟨2, ![4096, 128]⟩
abbrev S1024x1024 : Shape := ⟨2, ![1024, 1024]⟩
abbrev S16x1024 : Shape := ⟨2, ![16, 1024]⟩
abbrev S1024x1152 : Shape := ⟨2, ![1024, 1152]⟩
abbrev S1024x128 : Shape := ⟨2, ![1024, 128]⟩
abbrev S6144x1024 : Shape := ⟨2, ![6144, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S16x256x1024, .f32⟩
  | .hbm, ⟨1, _⟩ => ⟨S2x1024x1024, .f32⟩
  | .hbm, ⟨2, _⟩ => ⟨S16x6144, .f32⟩
  | .hbm, ⟨3, _⟩ => ⟨S1024x2304, .f32⟩
  | .hbm, ⟨4, _⟩ => ⟨S4096x1024, .f32⟩
  | .hbm, ⟨5, _⟩ => ⟨S2048x1024, .f32⟩
  | .hbm, ⟨6, _⟩ => ⟨S6144x2304, .f32⟩
  | .hbm, ⟨7, _⟩ => ⟨S4096x128, .f32⟩
  | .hbm, ⟨8, _⟩ => ⟨S4096x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1024x1152, .f32⟩
  | .local _ .vmem, ⟨7, _⟩ => ⟨S1024x1152, .f32⟩
  | .local _ .vmem, ⟨8, _⟩ => ⟨S1024x1152, .f32⟩
  | .local _ .vmem, ⟨9, _⟩ => ⟨S1024x1152, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S6144x1024, .bf16⟩
  | .local _ .vmem, ⟨15, _⟩ => ⟨S1024x1152, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 6], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32_6 : BitVec 32 := 0#32
  let v21 : BitVec 1 := Scalar.cmpi .eq arg0 c0_i32_6
  let arg1 : BitVec 32 := BitVec.ofNat 32 (i 1).val
  let c0_i32_7 : BitVec 32 := 0#32
  let v22 : BitVec 1 := Scalar.cmpi .sge arg1 c0_i32_7
  let v23 : BitVec 1 := Scalar.andi v21 v22
  let c4_i32 : BitVec 32 := 4#32
  let v24 : BitVec 1 := Scalar.cmpi .slt arg1 c4_i32
  let v25 : BitVec 1 := Scalar.andi v23 v24
  let v26 : BitVec 32 := Scalar.extui v25
  let c0_i32_8 : BitVec 32 := 0#32
  let v27 : BitVec 1 := Scalar.cmpi .ne v26 c0_i32_8
  v27

def k0_off1 (i : grid0.Coords) : Fin 2 → Nat :=
  let arg1 : BitVec 32 := BitVec.ofNat 32 (i 1).val
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c1_i32 : BitVec 32 := 1#32
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi arg1 c1_i32
  let c0_i32_3 : BitVec 32 := 0#32
  let v15 : BitVec 1 := Scalar.cmpi .ne v14 c0_i32_3
  let v16 : BitVec 1 := Scalar.andi v13 v15
  let v2 : BitVec 32 := Scalar.divsi arg1 c1_i32
  let c1_i32_4 : BitVec 32 := 1#32
  let v17 : BitVec 32 := Scalar.subi v2 c1_i32_4
  let v18 : BitVec 32 := Scalar.select v16 v17 v2
  let c3_i32 : BitVec 32 := 3#32
  let v19 : BitVec 32 := Scalar.subi v18 c3_i32
  let c0_i32_5 : BitVec 32 := 0#32
  let v20 : BitVec 32 := Scalar.maxsi v19 c0_i32_5
  let v53 : Index := Scalar.indexCast v20
  let c0_24 : Index := 0#32
  ![v53.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v66 : Index := Scalar.indexCast v1
  let c0_29 : Index := 0#32
  ![v66.toNat, 0]
def k0_cond2 (i : grid0.Coords) : BitVec 1 :=
  let arg0 : BitVec 32 := BitVec.ofNat 32 (i 0).val
  let c0_i32_9 : BitVec 32 := 0#32
  let v28 : BitVec 1 := Scalar.cmpi .eq arg0 c0_i32_9
  let arg1 : BitVec 32 := BitVec.ofNat 32 (i 1).val
  let c4_i32_10 : BitVec 32 := 4#32
  let v29 : BitVec 1 := Scalar.cmpi .sge arg1 c4_i32_10
  let v30 : BitVec 1 := Scalar.andi v28 v29
  let c6_i32 : BitVec 32 := 6#32
  let v31 : BitVec 1 := Scalar.cmpi .slt arg1 c6_i32
  let v32 : BitVec 1 := Scalar.andi v30 v31
  let v33 : BitVec 32 := Scalar.extui v32
  let c0_i32_11 : BitVec 32 := 0#32
  let v34 : BitVec 1 := Scalar.cmpi .ne v33 c0_i32_11
  v34

def k0_off3 (i : grid0.Coords) : Fin 2 → Nat :=
  let arg1 : BitVec 32 := BitVec.ofNat 32 (i 1).val
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c1_i32 : BitVec 32 := 1#32
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi arg1 c1_i32
  let c0_i32_3 : BitVec 32 := 0#32
  let v15 : BitVec 1 := Scalar.cmpi .ne v14 c0_i32_3
  let v16 : BitVec 1 := Scalar.andi v13 v15
  let v2 : BitVec 32 := Scalar.divsi arg1 c1_i32
  let c1_i32_4 : BitVec 32 := 1#32
  let v17 : BitVec 32 := Scalar.subi v2 c1_i32_4
  let v18 : BitVec 32 := Scalar.select v16 v17 v2
  let c3_i32 : BitVec 32 := 3#32
  let v19 : BitVec 32 := Scalar.subi v18 c3_i32
  let c0_i32_5 : BitVec 32 := 0#32
  let v20 : BitVec 32 := Scalar.maxsi v19 c0_i32_5
  let v53 : Index := Scalar.indexCast v20
  let c0_24 : Index := 0#32
  ![v53.toNat, 0]
def k0_off4 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v66 : Index := Scalar.indexCast v1
  let c0_29 : Index := 0#32
  ![v66.toNat, 0]
def k0_off5 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v38 : Index := Scalar.indexCast v1
  let c0 : Index := 0#32
  ![v38.toNat, 0]
def k0_cond4 (i : grid0.Coords) : BitVec 1 :=
  let arg0 : BitVec 32 := BitVec.ofNat 32 (i 0).val
  let c1_i32_18 : BitVec 32 := 1#32
  let v43 : BitVec 1 := Scalar.cmpi .eq arg0 c1_i32_18
  let arg1 : BitVec 32 := BitVec.ofNat 32 (i 1).val
  let c4_i32_19 : BitVec 32 := 4#32
  let v44 : BitVec 1 := Scalar.cmpi .slt arg1 c4_i32_19
  let v45 : BitVec 1 := Scalar.andi v43 v44
  let v46 : BitVec 32 := Scalar.extui v45
  let c0_i32_20 : BitVec 32 := 0#32
  let v47 : BitVec 1 := Scalar.cmpi .ne v46 c0_i32_20
  v47

def k0_cond5 (i : grid0.Coords) : BitVec 1 :=
  let arg0 : BitVec 32 := BitVec.ofNat 32 (i 0).val
  let c1_i32_21 : BitVec 32 := 1#32
  let v48 : BitVec 1 := Scalar.cmpi .eq arg0 c1_i32_21
  let arg1 : BitVec 32 := BitVec.ofNat 32 (i 1).val
  let c4_i32_22 : BitVec 32 := 4#32
  let v49 : BitVec 1 := Scalar.cmpi .slt arg1 c4_i32_22
  let v50 : BitVec 1 := Scalar.andi v48 v49
  let v51 : BitVec 32 := Scalar.extui v50
  let c0_i32_23 : BitVec 32 := 0#32
  let v52 : BitVec 1 := Scalar.cmpi .ne v51 c0_i32_23
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.subi arg1 c0_i32_0
  let c0_i32_1 : BitVec 32 := 0#32
  let c3_i32 : BitVec 32 := 3#32
  let v2 : BitVec 32 := Scalar.maxsi c0_i32_1 v1
  let v3 : BitVec 32 := Scalar.minsi c3_i32 v2
  let c3_i32_2 : BitVec 32 := 3#32
  let v4 : BitVec 32 := Scalar.select v0 v3 c3_i32_2
  let c0_i32_3 : BitVec 32 := 0#32
  let c0_i32_4 : BitVec 32 := 0#32
  ![v4.toNat, c0_i32_3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.subi arg1 c4_i32
  let c0_i32_0 : BitVec 32 := 0#32
  let c1_i32 : BitVec 32 := 1#32
  let v2 : BitVec 32 := Scalar.maxsi c0_i32_0 v1
  let v3 : BitVec 32 := Scalar.minsi c1_i32 v2
  let c1_i32_1 : BitVec 32 := 1#32
  let v4 : BitVec 32 := Scalar.select v0 v3 c1_i32_1
  let c0_i32_2 : BitVec 32 := 0#32
  let c0_i32_3 : BitVec 32 := 0#32
  ![v4.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c3_i32 : BitVec 32 := 3#32
  let v2 : BitVec 32 := Scalar.minsi arg1 c3_i32
  let c3_i32_1 : BitVec 32 := 3#32
  let v3 : BitVec 32 := Scalar.select v1 v2 c3_i32_1
  let c0_i32 : BitVec 32 := 0#32
  let v4 : BitVec 32 := Scalar.select v0 c0_i32 v3
  let c0_i32_2 : BitVec 32 := 0#32
  let c0_i32_3 : BitVec 32 := 0#32
  ![v4.toNat, c0_i32_2.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c3_i32 : BitVec 32 := 3#32
  let v2 : BitVec 32 := Scalar.minsi arg1 c3_i32
  let c3_i32_1 : BitVec 32 := 3#32
  let v3 : BitVec 32 := Scalar.select v1 v2 c3_i32_1
  let c0_i32 : BitVec 32 := 0#32
  let v4 : BitVec 32 := Scalar.select v0 c0_i32 v3
  let c0_i32_2 : BitVec 32 := 0#32
  let c0_i32_3 : BitVec 32 := 0#32
  ![v4.toNat, c0_i32_2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16x256x1024 : Shape := ⟨3, ![16, 256, 1024]⟩
abbrev S2x1024x1024 : Shape := ⟨3, ![2, 1024, 1024]⟩
abbrev S16x6144 : Shape := ⟨2, ![16, 6144]⟩
abbrev S1024x2304 : Shape := ⟨2, ![1024, 2304]⟩
abbrev S1x6144 : Shape := ⟨2, ![1, 6144]⟩
abbrev S6144 : Shape := ⟨1, ![6144]⟩
abbrev S1024 : Shape := ⟨1, ![1024]⟩
abbrev S_ : Shape := ⟨0, ![]⟩
abbrev S1x1x1024 : Shape := ⟨3, ![1, 1, 1024]⟩
abbrev S16x256x2304 : Shape := ⟨3, ![16, 256, 2304]⟩
abbrev S2x6144 : Shape := ⟨2, ![2, 6144]⟩
abbrev S2x1x6144 : Shape := ⟨3, ![2, 1, 6144]⟩
abbrev S2x1x1024 : Shape := ⟨3, ![2, 1, 1024]⟩
abbrev S2x1024x2304 : Shape := ⟨3, ![2, 1024, 2304]⟩
abbrev S16x256x1536 : Shape := ⟨3, ![16, 256, 1536]⟩
abbrev S16x256x512 : Shape := ⟨3, ![16, 256, 512]⟩
abbrev S16x256x128 : Shape := ⟨3, ![16, 256, 128]⟩
abbrev S4096x2304 : Shape := ⟨2, ![4096, 2304]⟩
abbrev S2048x2304 : Shape := ⟨2, ![2048, 2304]⟩
abbrev S6144x2304 : Shape := ⟨2, ![6144, 2304]⟩
abbrev S4096x128 : Shape := ⟨2, ![4096, 128]⟩

abbrev nBuf : Space → Nat
  | .hbm => 47
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024x1024, .f32⟩
  | .hbm, ⟨2, _⟩ => ⟨S16x6144, .f32⟩
  | .hbm, ⟨3, _⟩ => ⟨S1024x2304, .f32⟩
  | .hbm, ⟨4, _⟩ => ⟨S1x6144, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1x1x1024, .f32⟩
  | .hbm, ⟨16, _⟩ => ⟨S16x256x1024, .f32⟩
  | .hbm, ⟨17, _⟩ => ⟨S16x256x1024, .f32⟩
  | .hbm, ⟨18, _⟩ => ⟨S1x1x1024, .f32⟩
  | .hbm, ⟨19, _⟩ => ⟨S16x256x1024, .f32⟩
  | .hbm, ⟨20, _⟩ => ⟨S16x256x1024, .f32⟩
  | .hbm, ⟨21, _⟩ => ⟨S16x256x2304, .f32⟩
  | .hbm, ⟨22, _⟩ => ⟨S2x6144, .f32⟩
  | .hbm, ⟨23, _⟩ => ⟨S2x1x6144, .f32⟩
  | .hbm, ⟨24, _⟩ => ⟨S2x1x1024, .f32⟩
  | .hbm, ⟨25, _⟩ => ⟨S2x1x1024, .f32⟩
  | .hbm, ⟨26, _⟩ => ⟨S2x1x1024, .f32⟩
  | .hbm, ⟨27, _⟩ => ⟨S2x1x1024, .f32⟩
  | .hbm, ⟨28, _⟩ => ⟨S2x1x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x1024x1024, .f32⟩
  | .hbm, ⟨34, _⟩ => ⟨S2x1024x1024, .f32⟩
  | .hbm, ⟨35, _⟩ => ⟨S2x1024x1024, .f32⟩
  | .hbm, ⟨36, _⟩ => ⟨S2x1024x1024, .f32⟩
  | .hbm, ⟨37, _⟩ => ⟨S2x1024x2304, .f32⟩
  | .hbm, ⟨38, _⟩ => ⟨S16x256x1536, .f32⟩
  | .hbm, ⟨39, _⟩ => ⟨S16x256x512, .f32⟩
  | .hbm, ⟨40, _⟩ => ⟨S16x256x128, .f32⟩
  | .hbm, ⟨41, _⟩ => ⟨S16x256x128, .f32⟩
  | .hbm, ⟨42, _⟩ => ⟨S4096x2304, .f32⟩
  | .hbm, ⟨43, _⟩ => ⟨S2048x2304, .f32⟩
  | .hbm, ⟨44, _⟩ => ⟨S6144x2304, .f32⟩
  | .hbm, ⟨45, _⟩ => ⟨S4096x128, .f32⟩
  | .hbm, ⟨46, _⟩ => ⟨S4096x128, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩

abbrev nD : Nat := 1
abbrev τ : Topo := Topo.v7x

variable {F : FTy → Type} [FloatOps F]
-- ==== Kernel5.lean ====
abbrev S6144x1024 : Shape := ⟨2, ![6144, 1024]⟩
abbrev S16x6144 : Shape := ⟨2, ![16, 6144]⟩
abbrev S1024x3328 : Shape := ⟨2, ![1024, 3328]⟩
abbrev S6144x3328 : Shape := ⟨2, ![6144, 3328]⟩
abbrev S4096x128 : Shape := ⟨2, ![4096, 128]⟩
abbrev S1024x1024 : Shape := ⟨2, ![1024, 1024]⟩
abbrev S16x1024 : Shape := ⟨2, ![16, 1024]⟩
abbrev S1024x1664 : Shape := ⟨2, ![1024, 1664]⟩
abbrev S1024x128 : Shape := ⟨2, ![1024, 128]⟩
abbrev S1x1024 : Shape := ⟨2, ![1, 1024]⟩

abbrev nBuf : Space → Nat
  | .hbm => 5
  | .vmem => 12
  | .smem => 0
  | _ => 0

abbrev bufTy : (tb : Table) → Fin (tcTables nBuf tb) → BufTy
  | .hbm, ⟨0, _⟩ => ⟨S6144x1024, .f32⟩
  | .hbm, ⟨1, _⟩ => ⟨S16x6144, .f32⟩
  | .hbm, ⟨2, _⟩ => ⟨S1024x3328, .f32⟩
  | .hbm, ⟨3, _⟩ => ⟨S6144x3328, .f32⟩
  | .hbm, ⟨4, _⟩ => ⟨S4096x128, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x1664, .f32⟩
  | .local _ .vmem, ⟨5, _⟩ => ⟨S1024x1664, .f32⟩
  | .local _ .vmem, ⟨6, _⟩ => ⟨S1024x1664, .f32⟩
  | .local _ .vmem, ⟨7, _⟩ => ⟨S1024x1664, .f32⟩
  | .local _ .vmem, ⟨8, _⟩ => ⟨S1024x128, .f32⟩
  | .local _ .vmem, ⟨9, _⟩ => ⟨S1024x128, .f32⟩
  | .local _ .vmem, ⟨10, _⟩ => ⟨S6144x1024, .bf16⟩
  | .local _ .vmem, ⟨11, _⟩ => ⟨S1024x1664, .bf16⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 6], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32_6 : BitVec 32 := 0#32
  let v21 : BitVec 1 := Scalar.cmpi .eq arg0 c0_i32_6
  let arg1 : BitVec 32 := BitVec.ofNat 32 (i 1).val
  let c0_i32_7 : BitVec 32 := 0#32
  let v22 : BitVec 1 := Scalar.cmpi .sge arg1 c0_i32_7
  let v23 : BitVec 1 := Scalar.andi v21 v22
  let c6_i32 : BitVec 32 := 6#32
  let v24 : BitVec 1 := Scalar.cmpi .slt arg1 c6_i32
  let v25 : BitVec 1 := Scalar.andi v23 v24
  let v26 : BitVec 32 := Scalar.extui v25
  let c0_i32_8 : BitVec 32 := 0#32
  let v27 : BitVec 1 := Scalar.cmpi .ne v26 c0_i32_8
  v27

def k0_off1 (i : grid0.Coords) : Fin 2 → Nat :=
  let arg1 : BitVec 32 := BitVec.ofNat 32 (i 1).val
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c1_i32 : BitVec 32 := 1#32
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi arg1 c1_i32
  let c0_i32_3 : BitVec 32 := 0#32
  let v15 : BitVec 1 := Scalar.cmpi .ne v14 c0_i32_3
  let v16 : BitVec 1 := Scalar.andi v13 v15
  let v2 : BitVec 32 := Scalar.divsi arg1 c1_i32
  let c1_i32_4 : BitVec 32 := 1#32
  let v17 : BitVec 32 := Scalar.subi v2 c1_i32_4
  let v18 : BitVec 32 := Scalar.select v16 v17 v2
  let c3_i32 : BitVec 32 := 3#32
  let v19 : BitVec 32 := Scalar.subi v18 c3_i32
  let c0_i32_5 : BitVec 32 := 0#32
  let v20 : BitVec 32 := Scalar.maxsi v19 c0_i32_5
  let v41 : Index := Scalar.indexCast v20
  let c0_17 : Index := 0#32
  ![v41.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v53 : Index := Scalar.indexCast v1
  let c0_22 : Index := 0#32
  ![v53.toNat, 0]
def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v31 : Index := Scalar.indexCast v1
  let c0 : Index := 0#32
  ![v31.toNat, 0]
def k0_cond3 (i : grid0.Coords) : BitVec 1 :=
  let arg0 : BitVec 32 := BitVec.ofNat 32 (i 0).val
  let c0_i32_15 : BitVec 32 := 0#32
  let v36 : BitVec 1 := Scalar.cmpi .eq arg0 c0_i32_15
  let arg1 : BitVec 32 := BitVec.ofNat 32 (i 1).val
  let c4_i32 : BitVec 32 := 4#32
  let v37 : BitVec 1 := Scalar.cmpi .slt arg1 c4_i32
  let v38 : BitVec 1 := Scalar.andi v36 v37
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.subi arg1 c0_i32_0
  let c0_i32_1 : BitVec 32 := 0#32
  let c5_i32 : BitVec 32 := 5#32
  let v2 : BitVec 32 := Scalar.maxsi c0_i32_1 v1
  let v3 : BitVec 32 := Scalar.minsi c5_i32 v2
  let c5_i32_2 : BitVec 32 := 5#32
  let v4 : BitVec 32 := Scalar.select v0 v3 c5_i32_2
  let c0_i32_3 : BitVec 32 := 0#32
  let c0_i32_4 : BitVec 32 := 0#32
  ![v4.toNat, c0_i32_3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c3_i32 : BitVec 32 := 3#32
  let v2 : BitVec 32 := Scalar.minsi arg1 c3_i32
  let c3_i32_1 : BitVec 32 := 3#32
  let v3 : BitVec 32 := Scalar.select v1 v2 c3_i32_1
  let c0_i32_2 : BitVec 32 := 0#32
  let v4 : BitVec 32 := Scalar.select v0 c0_i32_2 v3
  let c0_i32_3 : BitVec 32 := 0#32
  let c0_i32_4 : BitVec 32 := 0#32
  ![v4.toNat, c0_i32_3.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S6144x1024 : Shape := ⟨2, ![6144, 1024]⟩
abbrev S16x6144 : Shape := ⟨2, ![16, 6144]⟩
abbrev S1024x3328 : Shape := ⟨2, ![1024, 3328]⟩
abbrev S4096x1024 : Shape := ⟨2, ![4096, 1024]⟩
abbrev S16x256x1024 : Shape := ⟨3, ![16, 256, 1024]⟩
abbrev S1x6144 : Shape := ⟨2, ![1, 6144]⟩
abbrev S6144 : Shape := ⟨1, ![6144]⟩
abbrev S1024 : Shape := ⟨1, ![1024]⟩
abbrev S_ : Shape := ⟨0, ![]⟩
abbrev S1x1x1024 : Shape := ⟨3, ![1, 1, 1024]⟩
abbrev S16x256x3328 : Shape := ⟨3, ![16, 256, 3328]⟩
abbrev S2048x1024 : Shape := ⟨2, ![2048, 1024]⟩
abbrev S2x1024x1024 : Shape := ⟨3, ![2, 1024, 1024]⟩
abbrev S2x6144 : Shape := ⟨2, ![2, 6144]⟩
abbrev S2x1x6144 : Shape := ⟨3, ![2, 1, 6144]⟩
abbrev S2x1x1024 : Shape := ⟨3, ![2, 1, 1024]⟩
abbrev S2x1024x3328 : Shape := ⟨3, ![2, 1024, 3328]⟩
abbrev S16x256x512 : Shape := ⟨3, ![16, 256, 512]⟩
abbrev S16x256x128 : Shape := ⟨3, ![16, 256, 128]⟩
abbrev S4096x3328 : Shape := ⟨2, ![4096, 3328]⟩
abbrev S2048x3328 : Shape := ⟨2, ![2048, 3328]⟩
abbrev S6144x3328 : Shape := ⟨2, ![6144, 3328]⟩
abbrev S4096x128 : Shape := ⟨2, ![4096, 128]⟩

abbrev nBuf : Space → Nat
  | .hbm => 53
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S16x6144, .f32⟩
  | .hbm, ⟨2, _⟩ => ⟨S1024x3328, .f32⟩
  | .hbm, ⟨3, _⟩ => ⟨S4096x1024, .f32⟩
  | .hbm, ⟨4, _⟩ => ⟨S16x256x1024, .f32⟩
  | .hbm, ⟨5, _⟩ => ⟨S1x6144, .f32⟩
  | .hbm, ⟨6, _⟩ => ⟨S6144, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S1x1x1024, .f32⟩
  | .hbm, ⟨20, _⟩ => ⟨S16x256x1024, .f32⟩
  | .hbm, ⟨21, _⟩ => ⟨S16x256x1024, .f32⟩
  | .hbm, ⟨22, _⟩ => ⟨S16x256x3328, .f32⟩
  | .hbm, ⟨23, _⟩ => ⟨S2048x1024, .f32⟩
  | .hbm, ⟨24, _⟩ => ⟨S2x1024x1024, .f32⟩
  | .hbm, ⟨25, _⟩ => ⟨S2x6144, .f32⟩
  | .hbm, ⟨26, _⟩ => ⟨S2x1x6144, .f32⟩
  | .hbm, ⟨27, _⟩ => ⟨S2x1x1024, .f32⟩
  | .hbm, ⟨28, _⟩ => ⟨S2x1x1024, .f32⟩
  | .hbm, ⟨29, _⟩ => ⟨S2x1x1024, .f32⟩
  | .hbm, ⟨30, _⟩ => ⟨S2x1x1024, .f32⟩
  | .hbm, ⟨31, _⟩ => ⟨S2x1x1024, .f32⟩
  | .hbm, ⟨32, _⟩ => ⟨S2x1x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x1024x1024, .f32⟩
  | .hbm, ⟨37, _⟩ => ⟨S2x1024x1024, .f32⟩
  | .hbm, ⟨38, _⟩ => ⟨S2x1024x1024, .f32⟩
  | .hbm, ⟨39, _⟩ => ⟨S2x1024x1024, .f32⟩
  | .hbm, ⟨40, _⟩ => ⟨S2x1024x3328, .f32⟩
  | .hbm, ⟨41, _⟩ => ⟨S16x256x512, .f32⟩
  | .hbm, ⟨42, _⟩ => ⟨S16x256x128, .f32⟩
  | .hbm, ⟨43, _⟩ => ⟨S16x256x128, .f32⟩
  | .hbm, ⟨44, _⟩ => ⟨S16x256x512, .f32⟩
  | .hbm, ⟨45, _⟩ => ⟨S16x256x512, .f32⟩
  | .hbm, ⟨46, _⟩ => ⟨S16x256x512, .f32⟩
  | .hbm, ⟨47, _⟩ => ⟨S16x256x512, .f32⟩
  | .hbm, ⟨48, _⟩ => ⟨S16x256x512, .f32⟩
  | .hbm, ⟨49, _⟩ => ⟨S4096x3328, .f32⟩
  | .hbm, ⟨50, _⟩ => ⟨S2048x3328, .f32⟩
  | .hbm, ⟨51, _⟩ => ⟨S6144x3328, .f32⟩
  | .hbm, ⟨52, _⟩ => ⟨S4096x128, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩

abbrev nD : Nat := 1
abbrev τ : Topo := Topo.v7x

variable {F : FTy → Type} [FloatOps F]
-- ==== Kernel6.lean ====
abbrev S6144x512 : Shape := ⟨2, ![6144, 512]⟩
abbrev S1024x1024 : Shape := ⟨2, ![1024, 1024]⟩
abbrev S6144x1024 : Shape := ⟨2, ![6144, 1024]⟩
abbrev S16x6144 : Shape := ⟨2, ![16, 6144]⟩
abbrev S1024 : Shape := ⟨1, ![1024]⟩
abbrev S1x1024 : Shape := ⟨2, ![1, 1024]⟩
abbrev S1024x512 : Shape := ⟨2, ![1024, 512]⟩
abbrev S16x1024 : Shape := ⟨2, ![16, 1024]⟩
abbrev S512x1024 : Shape := ⟨2, ![512, 1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S6144x512, .f32⟩
  | .hbm, ⟨1, _⟩ => ⟨S6144x512, .f32⟩
  | .hbm, ⟨2, _⟩ => ⟨S1024x1024, .f32⟩
  | .hbm, ⟨3, _⟩ => ⟨S6144x1024, .f32⟩
  | .hbm, ⟨4, _⟩ => ⟨S16x6144, .f32⟩
  | .hbm, ⟨5, _⟩ => ⟨S1024, .f32⟩
  | .hbm, ⟨6, _⟩ => ⟨S1024, .f32⟩
  | .hbm, ⟨7, _⟩ => ⟨S6144x512, .bf16⟩
  | .hbm, ⟨8, _⟩ => ⟨S6144x512, .bf16⟩
  | .hbm, ⟨9, _⟩ => ⟨S1x1024, .f32⟩
  | .hbm, ⟨10, _⟩ => ⟨S1x1024, .f32⟩
  | .hbm, ⟨11, _⟩ => ⟨S6144x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S16x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | _, _ => ⟨S6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![6], ![false]⟩

def k0_off1 (i : grid0.Coords) : Fin 2 → Nat :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .slt arg0 c0_i32_9
  let v16 : BitVec 32 := Scalar.extui v15
  let v17 : BitVec 32 := Scalar.subi v14 v16
  let c1_i32 : BitVec 32 := 1#32
  let c0_i32_10 : BitVec 32 := 0#32
  let v18 : BitVec 1 := Scalar.cmpi .sgt c1_i32 c0_i32_10
  let v19 : BitVec 32 := Scalar.extui v18
  let c0_i32_11 : BitVec 32 := 0#32
  let v20 : BitVec 1 := Scalar.cmpi .slt c1_i32 c0_i32_11
  let v21 : BitVec 32 := Scalar.extui v20
  let v22 : BitVec 32 := Scalar.subi v19 v21
  let v23 : BitVec 1 := Scalar.cmpi .ne v17 v22
  let v24 : BitVec 32 := Scalar.remsi arg0 c1_i32
  let c0_i32_12 : BitVec 32 := 0#32
  let v25 : BitVec 1 := Scalar.cmpi .ne v24 c0_i32_12
  let v26 : BitVec 1 := Scalar.andi v23 v25
  let v12 : BitVec 32 := Scalar.divsi arg0 c1_i32
  let c1_i32_13 : BitVec 32 := 1#32
  let v27 : BitVec 32 := Scalar.subi v12 c1_i32_13
  let v28 : BitVec 32 := Scalar.select v26 v27 v12
  let c3_i32 : BitVec 32 := 3#32
  let v29 : BitVec 32 := Scalar.subi v28 c3_i32
  let c0_i32_14 : BitVec 32 := 0#32
  let v30 : BitVec 32 := Scalar.maxsi v29 c0_i32_14
  let v31 : Index := Scalar.indexCast v30
  let c0_15 : Index := 0#32
  ![v31.toNat, 0]
def k0_cond2 (i : grid0.Coords) : BitVec 1 :=
  let arg0 : BitVec 32 := BitVec.ofNat 32 (i 0).val
  let c0_i32_16 : BitVec 32 := 0#32
  let v35 : BitVec 1 := Scalar.cmpi .sge arg0 c0_i32_16
  let c6_i32 : BitVec 32 := 6#32
  let v36 : BitVec 1 := Scalar.cmpi .slt arg0 c6_i32
  let v37 : BitVec 1 := Scalar.andi v35 v36
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S6144x512 : Shape := ⟨2, ![6144, 512]⟩
abbrev S1024x1024 : Shape := ⟨2, ![1024, 1024]⟩
abbrev S6144x1024 : Shape := ⟨2, ![6144, 1024]⟩
abbrev S16x6144 : Shape := ⟨2, ![16, 6144]⟩
abbrev S1024 : Shape := ⟨1, ![1024]⟩
abbrev S4096x512 : Shape := ⟨2, ![4096, 512]⟩
abbrev S16x256x512 : Shape := ⟨3, ![16, 256, 512]⟩
abbrev S4096x1024 : Shape := ⟨2, ![4096, 1024]⟩
abbrev S16x256x1024 : Shape := ⟨3, ![16, 256, 1024]⟩
abbrev S1x6144 : Shape := ⟨2, ![1, 6144]⟩
abbrev S6144 : Shape := ⟨1, ![6144]⟩
abbrev S_ : Shape := ⟨0, ![]⟩
abbrev S1x1x1024 : Shape := ⟨3, ![1, 1, 1024]⟩
abbrev S16x256 : Shape := ⟨2, ![16, 256]⟩
abbrev S16x256x1 : Shape := ⟨3, ![16, 256, 1]⟩
abbrev S2048x512 : Shape := ⟨2, ![2048, 512]⟩
abbrev S2x1024x512 : Shape := ⟨3, ![2, 1024, 512]⟩
abbrev S2048x1024 : Shape := ⟨2, ![2048, 1024]⟩
abbrev S2x1024x1024 : Shape := ⟨3, ![2, 1024, 1024]⟩
abbrev S2x6144 : Shape := ⟨2, ![2, 6144]⟩
abbrev S2x1x6144 : Shape := ⟨3, ![2, 1, 6144]⟩
abbrev S2x1x1024 : Shape := ⟨3, ![2, 1, 1024]⟩
abbrev S2x1024 : Shape := ⟨2, ![2, 1024]⟩
abbrev S2x1024x1 : Shape := ⟨3, ![2, 1024, 1]⟩

abbrev nBuf : Space → Nat
  | .hbm => 113
  | .vmem => 0
  | .smem => 0
  | _ => 0

abbrev bufTy : (tb : Table) → Fin (tcTables nBuf tb) → BufTy
  | .hbm, ⟨0, _⟩ => ⟨S6144x512, .f32⟩
  | .hbm, ⟨1, _⟩ => ⟨S6144x512, .f32⟩
  | .hbm, ⟨2, _⟩ => ⟨S1024x1024, .f32⟩
  | .hbm, ⟨3, _⟩ => ⟨S6144x1024, .f32⟩
  | .hbm, ⟨4, _⟩ => ⟨S16x6144, .f32⟩
  | .hbm, ⟨5, _⟩ => ⟨S1024, .f32⟩
  | .hbm, ⟨6, _⟩ => ⟨S1024, .f32⟩
  | .hbm, ⟨7, _⟩ => ⟨S4096x512, .f32⟩
  | .hbm, ⟨8, _⟩ => ⟨S16x256x512, .f32⟩
  | .hbm, ⟨9, _⟩ => ⟨S4096x512, .f32⟩
  | .hbm, ⟨10, _⟩ => ⟨S16x256x512, .f32⟩
  | .hbm, ⟨11, _⟩ => ⟨S4096x1024, .f32⟩
  | .hbm, ⟨12, _⟩ => ⟨S16x256x1024, .f32⟩
  | .hbm, ⟨13, _⟩ => ⟨S1x6144, .f32⟩
  | .hbm, ⟨14, _⟩ => ⟨S6144, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S16x256x1024, .f32⟩
  | .hbm, ⟨22, _⟩ => ⟨S16x256x1024, .f32⟩
  | .hbm, ⟨23, _⟩ => ⟨S_, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S16x256x1024, .f32⟩
  | .hbm, ⟨30, _⟩ => ⟨S_, .f32⟩
  | .hbm, ⟨31, _⟩ => ⟨S16x256, .f32⟩
  | .hbm, ⟨32, _⟩ => ⟨S16x256x1, .f32⟩
  | .hbm, ⟨33, _⟩ => ⟨S_, .f32⟩
  | .hbm, ⟨34, _⟩ => ⟨S16x256x1, .f32⟩
  | .hbm, ⟨35, _⟩ => ⟨S16x256x1, .f32⟩
  | .hbm, ⟨36, _⟩ => ⟨S16x256x1024, .f32⟩
  | .hbm, ⟨37, _⟩ => ⟨S16x256x1024, .f32⟩
  | .hbm, ⟨38, _⟩ => ⟨S16x256x1024, .f32⟩
  | .hbm, ⟨39, _⟩ => ⟨S_, .f32⟩
  | .hbm, ⟨40, _⟩ => ⟨S16x256, .f32⟩
  | .hbm, ⟨41, _⟩ => ⟨S16x256x1, .f32⟩
  | .hbm, ⟨42, _⟩ => ⟨S_, .f32⟩
  | .hbm, ⟨43, _⟩ => ⟨S16x256x1, .f32⟩
  | .hbm, ⟨44, _⟩ => ⟨S16x256x1, .f32⟩
  | .hbm, ⟨45, _⟩ => ⟨S16x256x1024, .f32⟩
  | .hbm, ⟨46, _⟩ => ⟨S16x256x1024, .f32⟩
  | .hbm, ⟨47, _⟩ => ⟨S_, .f32⟩
  | .hbm, ⟨48, _⟩ => ⟨S16x256x1, .f32⟩
  | .hbm, ⟨49, _⟩ => ⟨S16x256x1, .f32⟩
  | .hbm, ⟨50, _⟩ => ⟨S16x256x1, .f32⟩
  | .hbm, ⟨51, _⟩ => ⟨S16x256x1024, .f32⟩
  | .hbm, ⟨52, _⟩ => ⟨S16x256x1024, .f32⟩
  | .hbm, ⟨53, _⟩ => ⟨S1x1x1024, .f32⟩
  | .hbm, ⟨54, _⟩ => ⟨S16x256x1024, .f32⟩
  | .hbm, ⟨55, _⟩ => ⟨S16x256x1024, .f32⟩
  | .hbm, ⟨56, _⟩ => ⟨S1x1x1024, .f32⟩
  | .hbm, ⟨57, _⟩ => ⟨S16x256x1024, .f32⟩
  | .hbm, ⟨58, _⟩ => ⟨S16x256x1024, .f32⟩
  | .hbm, ⟨59, _⟩ => ⟨S2048x512, .f32⟩
  | .hbm, ⟨60, _⟩ => ⟨S2x1024x512, .f32⟩
  | .hbm, ⟨61, _⟩ => ⟨S2048x512, .f32⟩
  | .hbm, ⟨62, _⟩ => ⟨S2x1024x512, .f32⟩
  | .hbm, ⟨63, _⟩ => ⟨S2048x1024, .f32⟩
  | .hbm, ⟨64, _⟩ => ⟨S2x1024x1024, .f32⟩
  | .hbm, ⟨65, _⟩ => ⟨S2x6144, .f32⟩
  | .hbm, ⟨66, _⟩ => ⟨S2x1x6144, .f32⟩
  | .hbm, ⟨67, _⟩ => ⟨S2x1x1024, .f32⟩
  | .hbm, ⟨68, _⟩ => ⟨S2x1x1024, .f32⟩
  | .hbm, ⟨69, _⟩ => ⟨S2x1x1024, .f32⟩
  | .hbm, ⟨70, _⟩ => ⟨S2x1x1024, .f32⟩
  | .hbm, ⟨71, _⟩ => ⟨S2x1x1024, .f32⟩
  | .hbm, ⟨72, _⟩ => ⟨S2x1x1024, .f32⟩
  | .hbm, ⟨73, _⟩ => ⟨S2x1024x1024, .f32⟩
  | .hbm, ⟨74, _⟩ => ⟨S2x1024x1024, .f32⟩
  | .hbm, ⟨75, _⟩ => ⟨S_, .f32⟩
  | .hbm, ⟨76, _⟩ => ⟨S2x1024x1024, .f32⟩
  | .hbm, ⟨77, _⟩ => ⟨S2x1024x1024, .f32⟩
  | .hbm, ⟨78, _⟩ => ⟨S2x1024x1024, .f32⟩
  | .hbm, ⟨79, _⟩ => ⟨S2x1024x1024, .f32⟩
  | .hbm, ⟨80, _⟩ => ⟨S2x1024x1024, .f32⟩
  | .hbm, ⟨81, _⟩ => ⟨S_, .f32⟩
  | .hbm, ⟨82, _⟩ => ⟨S2x1024, .f32⟩
  | .hbm, ⟨83, _⟩ => ⟨S2x1024x1, .f32⟩
  | .hbm, ⟨84, _⟩ => ⟨S_, .f32⟩
  | .hbm, ⟨85, _⟩ => ⟨S2x1024x1, .f32⟩
  | .hbm, ⟨86, _⟩ => ⟨S2x1024x1, .f32⟩
  | .hbm, ⟨87, _⟩ => ⟨S2x1024x1024, .f32⟩
  | .hbm, ⟨88, _⟩ => ⟨S2x1024x1024, .f32⟩
  | .hbm, ⟨89, _⟩ => ⟨S2x1024x1024, .f32⟩
  | .hbm, ⟨90, _⟩ => ⟨S_, .f32⟩
  | .hbm, ⟨91, _⟩ => ⟨S2x1024, .f32⟩
  | .hbm, ⟨92, _⟩ => ⟨S2x1024x1, .f32⟩
  | .hbm, ⟨93, _⟩ => ⟨S_, .f32⟩
  | .hbm, ⟨94, _⟩ => ⟨S2x1024x1, .f32⟩
  | .hbm, ⟨95, _⟩ => ⟨S2x1024x1, .f32⟩
  | .hbm, ⟨96, _⟩ => ⟨S2x1024x1024, .f32⟩
  | .hbm, ⟨97, _⟩ => ⟨S2x1024x1024, .f32⟩
  | .hbm, ⟨98, _⟩ => ⟨S_, .f32⟩
  | .hbm, ⟨99, _⟩ => ⟨S2x1024x1, .f32⟩
  | .hbm, ⟨100, _⟩ => ⟨S2x1024x1, .f32⟩
  | .hbm, ⟨101, _⟩ => ⟨S2x1024x1, .f32⟩
  | .hbm, ⟨102, _⟩ => ⟨S2x1024x1024, .f32⟩
  | .hbm, ⟨103, _⟩ => ⟨S2x1024x1024, .f32⟩
  | .hbm, ⟨104, _⟩ => ⟨S1x1x1024, .f32⟩
  | .hbm, ⟨105, _⟩ => ⟨S2x1024x1024, .f32⟩
  | .hbm, ⟨106, _⟩ => ⟨S2x1024x1024, .f32⟩
  | .hbm, ⟨107, _⟩ => ⟨S1x1x1024, .f32⟩
  | .hbm, ⟨108, _⟩ => ⟨S2x1024x1024, .f32⟩
  | .hbm, ⟨109, _⟩ => ⟨S2x1024x1024, .f32⟩
  | .hbm, ⟨110, _⟩ => ⟨S4096x1024, .f32⟩
  | .hbm, ⟨111, _⟩ => ⟨S2048x1024, .f32⟩
  | .hbm, ⟨112, _⟩ => ⟨S6144x1024, .f32⟩
  | _, _ => ⟨S6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_6 : Ref sig .tc := ⟨.hbm, 81, rfl⟩
abbrev main_v67 : Ref sig .tc := ⟨.hbm, 82, rfl⟩
abbrev main_v68 : Ref sig .tc := ⟨.hbm, 83, rfl⟩
abbrev main_cst_7 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_cst_9 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_10 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩

abbrev nD : Nat := 1
abbrev τ : Topo := Topo.v7x

variable {F : FTy → Type} [FloatOps F]
-- ==== Kernel7.lean ====
abbrev S6144x512 : Shape := ⟨2, ![6144, 512]⟩
abbrev S1024x1024 : Shape := ⟨2, ![1024, 1024]⟩
abbrev S16x256x1024 : Shape := ⟨3, ![16, 256, 1024]⟩
abbrev S2x1024x1024 : Shape := ⟨3, ![2, 1024, 1024]⟩
abbrev S16x6144 : Shape := ⟨2, ![16, 6144]⟩
abbrev S1024 : Shape := ⟨1, ![1024]⟩
abbrev S4096x1024 : Shape := ⟨2, ![4096, 1024]⟩
abbrev S2048x1024 : Shape := ⟨2, ![2048, 1024]⟩
abbrev S1x1024 : Shape := ⟨2, ![1, 1024]⟩
abbrev S6144x1024 : Shape := ⟨2, ![6144, 1024]⟩
abbrev S1024x512 : Shape := ⟨2, ![1024, 512]⟩
abbrev S16x1024 : Shape := ⟨2, ![16, 1024]⟩
abbrev S512x1024 : Shape := ⟨2, ![512, 1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S6144x512, .f32⟩
  | .hbm, ⟨1, _⟩ => ⟨S6144x512, .f32⟩
  | .hbm, ⟨2, _⟩ => ⟨S1024x1024, .f32⟩
  | .hbm, ⟨3, _⟩ => ⟨S16x256x1024, .f32⟩
  | .hbm, ⟨4, _⟩ => ⟨S2x1024x1024, .f32⟩
  | .hbm, ⟨5, _⟩ => ⟨S16x6144, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S2048x1024, .f32⟩
  | .hbm, ⟨10, _⟩ => ⟨S6144x512, .bf16⟩
  | .hbm, ⟨11, _⟩ => ⟨S6144x512, .bf16⟩
  | .hbm, ⟨12, _⟩ => ⟨S1x1024, .f32⟩
  | .hbm, ⟨13, _⟩ => ⟨S1x1024, .f32⟩
  | .hbm, ⟨14, _⟩ => ⟨S6144x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S16x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | _, _ => ⟨S6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![6], ![false]⟩

def k0_off1 (i : grid0.Coords) : Fin 2 → Nat :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .slt arg0 c0_i32_9
  let v16 : BitVec 32 := Scalar.extui v15
  let v17 : BitVec 32 := Scalar.subi v14 v16
  let c1_i32 : BitVec 32 := 1#32
  let c0_i32_10 : BitVec 32 := 0#32
  let v18 : BitVec 1 := Scalar.cmpi .sgt c1_i32 c0_i32_10
  let v19 : BitVec 32 := Scalar.extui v18
  let c0_i32_11 : BitVec 32 := 0#32
  let v20 : BitVec 1 := Scalar.cmpi .slt c1_i32 c0_i32_11
  let v21 : BitVec 32 := Scalar.extui v20
  let v22 : BitVec 32 := Scalar.subi v19 v21
  let v23 : BitVec 1 := Scalar.cmpi .ne v17 v22
  let v24 : BitVec 32 := Scalar.remsi arg0 c1_i32
  let c0_i32_12 : BitVec 32 := 0#32
  let v25 : BitVec 1 := Scalar.cmpi .ne v24 c0_i32_12
  let v26 : BitVec 1 := Scalar.andi v23 v25
  let v12 : BitVec 32 := Scalar.divsi arg0 c1_i32
  let c1_i32_13 : BitVec 32 := 1#32
  let v27 : BitVec 32 := Scalar.subi v12 c1_i32_13
  let v28 : BitVec 32 := Scalar.select v26 v27 v12
  let c3_i32 : BitVec 32 := 3#32
  let v29 : BitVec 32 := Scalar.subi v28 c3_i32
  let c0_i32_14 : BitVec 32 := 0#32
  let v30 : BitVec 32 := Scalar.maxsi v29 c0_i32_14
  let v31 : Index := Scalar.indexCast v30
  let c0_15 : Index := 0#32
  ![v31.toNat, 0]
def k0_cond2 (i : grid0.Coords) : BitVec 1 :=
  let arg0 : BitVec 32 := BitVec.ofNat 32 (i 0).val
  let c0_i32_16 : BitVec 32 := 0#32
  let v35 : BitVec 1 := Scalar.cmpi .sge arg0 c0_i32_16
  let c4_i32 : BitVec 32 := 4#32
  let v36 : BitVec 1 := Scalar.cmpi .slt arg0 c4_i32
  let v37 : BitVec 1 := Scalar.andi v35 v36
  let v38 : BitVec 32 := Scalar.extui v37
  let c0_i32_17 : BitVec 32 := 0#32
  let v39 : BitVec 1 := Scalar.cmpi .ne v38 c0_i32_17
  v39

def k0_cond3 (i : grid0.Coords) : BitVec 1 :=
  let arg0 : BitVec 32 := BitVec.ofNat 32 (i 0).val
  let c4_i32_18 : BitVec 32 := 4#32
  let v40 : BitVec 1 := Scalar.cmpi .sge arg0 c4_i32_18
  let c6_i32 : BitVec 32 := 6#32
  let v41 : BitVec 1 := Scalar.cmpi .slt arg0 c6_i32
  let v42 : BitVec 1 := Scalar.andi v40 v41
  let v43 : BitVec 32 := Scalar.extui v42
  let c0_i32_19 : BitVec 32 := 0#32
  let v44 : BitVec 1 := Scalar.cmpi .ne v43 c0_i32_19
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S6144x512 : Shape := ⟨2, ![6144, 512]⟩
abbrev S1024x1024 : Shape := ⟨2, ![1024, 1024]⟩
abbrev S16x256x1024 : Shape := ⟨3, ![16, 256, 1024]⟩
abbrev S2x1024x1024 : Shape := ⟨3, ![2, 1024, 1024]⟩
abbrev S16x6144 : Shape := ⟨2, ![16, 6144]⟩
abbrev S1024 : Shape := ⟨1, ![1024]⟩
abbrev S4096x512 : Shape := ⟨2, ![4096, 512]⟩
abbrev S16x256x512 : Shape := ⟨3, ![16, 256, 512]⟩
abbrev S1x6144 : Shape := ⟨2, ![1, 6144]⟩
abbrev S6144 : Shape := ⟨1, ![6144]⟩
abbrev S_ : Shape := ⟨0, ![]⟩
abbrev S1x1x1024 : Shape := ⟨3, ![1, 1, 1024]⟩
abbrev S16x256 : Shape := ⟨2, ![16, 256]⟩
abbrev S16x256x1 : Shape := ⟨3, ![16, 256, 1]⟩
abbrev S2048x512 : Shape := ⟨2, ![2048, 512]⟩
abbrev S2x1024x512 : Shape := ⟨3, ![2, 1024, 512]⟩
abbrev S2x6144 : Shape := ⟨2, ![2, 6144]⟩
abbrev S2x1x6144 : Shape := ⟨3, ![2, 1, 6144]⟩
abbrev S2x1x1024 : Shape := ⟨3, ![2, 1, 1024]⟩
abbrev S2x1024 : Shape := ⟨2, ![2, 1024]⟩
abbrev S2x1024x1 : Shape := ⟨3, ![2, 1024, 1]⟩
abbrev S4096x1024 : Shape := ⟨2, ![4096, 1024]⟩
abbrev S2048x1024 : Shape := ⟨2, ![2048, 1024]⟩
abbrev S6144x1024 : Shape := ⟨2, ![6144, 1024]⟩

abbrev nBuf : Space → Nat
  | .hbm => 110
  | .vmem => 0
  | .smem => 0
  | _ => 0

abbrev bufTy : (tb : Table) → Fin (tcTables nBuf tb) → BufTy
  | .hbm, ⟨0, _⟩ => ⟨S6144x512, .f32⟩
  | .hbm, ⟨1, _⟩ => ⟨S6144x512, .f32⟩
  | .hbm, ⟨2, _⟩ => ⟨S1024x1024, .f32⟩
  | .hbm, ⟨3, _⟩ => ⟨S16x256x1024, .f32⟩
  | .hbm, ⟨4, _⟩ => ⟨S2x1024x1024, .f32⟩
  | .hbm, ⟨5, _⟩ => ⟨S16x6144, .f32⟩
  | .hbm, ⟨6, _⟩ => ⟨S1024, .f32⟩
  | .hbm, ⟨7, _⟩ => ⟨S1024, .f32⟩
  | .hbm, ⟨8, _⟩ => ⟨S4096x512, .f32⟩
  | .hbm, ⟨9, _⟩ => ⟨S16x256x512, .f32⟩
  | .hbm, ⟨10, _⟩ => ⟨S4096x512, .f32⟩
  | .hbm, ⟨11, _⟩ => ⟨S16x256x512, .f32⟩
  | .hbm, ⟨12, _⟩ => ⟨S1x6144, .f32⟩
  | .hbm, ⟨13, _⟩ => ⟨S6144, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S16x256x1024, .f32⟩
  | .hbm, ⟨21, _⟩ => ⟨S16x256x1024, .f32⟩
  | .hbm, ⟨22, _⟩ => ⟨S_, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S16x256, .f32⟩
  | .hbm, ⟨31, _⟩ => ⟨S16x256x1, .f32⟩
  | .hbm, ⟨32, _⟩ => ⟨S_, .f32⟩
  | .hbm, ⟨33, _⟩ => ⟨S16x256x1, .f32⟩
  | .hbm, ⟨34, _⟩ => ⟨S16x256x1, .f32⟩
  | .hbm, ⟨35, _⟩ => ⟨S16x256x1024, .f32⟩
  | .hbm, ⟨36, _⟩ => ⟨S16x256x1024, .f32⟩
  | .hbm, ⟨37, _⟩ => ⟨S16x256x1024, .f32⟩
  | .hbm, ⟨38, _⟩ => ⟨S_, .f32⟩
  | .hbm, ⟨39, _⟩ => ⟨S16x256, .f32⟩
  | .hbm, ⟨40, _⟩ => ⟨S16x256x1, .f32⟩
  | .hbm, ⟨41, _⟩ => ⟨S_, .f32⟩
  | .hbm, ⟨42, _⟩ => ⟨S16x256x1, .f32⟩
  | .hbm, ⟨43, _⟩ => ⟨S16x256x1, .f32⟩
  | .hbm, ⟨44, _⟩ => ⟨S16x256x1024, .f32⟩
  | .hbm, ⟨45, _⟩ => ⟨S16x256x1024, .f32⟩
  | .hbm, ⟨46, _⟩ => ⟨S_, .f32⟩
  | .hbm, ⟨47, _⟩ => ⟨S16x256x1, .f32⟩
  | .hbm, ⟨48, _⟩ => ⟨S16x256x1, .f32⟩
  | .hbm, ⟨49, _⟩ => ⟨S16x256x1, .f32⟩
  | .hbm, ⟨50, _⟩ => ⟨S16x256x1024, .f32⟩
  | .hbm, ⟨51, _⟩ => ⟨S16x256x1024, .f32⟩
  | .hbm, ⟨52, _⟩ => ⟨S1x1x1024, .f32⟩
  | .hbm, ⟨53, _⟩ => ⟨S16x256x1024, .f32⟩
  | .hbm, ⟨54, _⟩ => ⟨S16x256x1024, .f32⟩
  | .hbm, ⟨55, _⟩ => ⟨S1x1x1024, .f32⟩
  | .hbm, ⟨56, _⟩ => ⟨S16x256x1024, .f32⟩
  | .hbm, ⟨57, _⟩ => ⟨S16x256x1024, .f32⟩
  | .hbm, ⟨58, _⟩ => ⟨S2048x512, .f32⟩
  | .hbm, ⟨59, _⟩ => ⟨S2x1024x512, .f32⟩
  | .hbm, ⟨60, _⟩ => ⟨S2048x512, .f32⟩
  | .hbm, ⟨61, _⟩ => ⟨S2x1024x512, .f32⟩
  | .hbm, ⟨62, _⟩ => ⟨S2x6144, .f32⟩
  | .hbm, ⟨63, _⟩ => ⟨S2x1x6144, .f32⟩
  | .hbm, ⟨64, _⟩ => ⟨S2x1x1024, .f32⟩
  | .hbm, ⟨65, _⟩ => ⟨S2x1x1024, .f32⟩
  | .hbm, ⟨66, _⟩ => ⟨S2x1x1024, .f32⟩
  | .hbm, ⟨67, _⟩ => ⟨S2x1x1024, .f32⟩
  | .hbm, ⟨68, _⟩ => ⟨S2x1x1024, .f32⟩
  | .hbm, ⟨69, _⟩ => ⟨S2x1x1024, .f32⟩
  | .hbm, ⟨70, _⟩ => ⟨S2x1024x1024, .f32⟩
  | .hbm, ⟨71, _⟩ => ⟨S2x1024x1024, .f32⟩
  | .hbm, ⟨72, _⟩ => ⟨S_, .f32⟩
  | .hbm, ⟨73, _⟩ => ⟨S2x1024x1024, .f32⟩
  | .hbm, ⟨74, _⟩ => ⟨S2x1024x1024, .f32⟩
  | .hbm, ⟨75, _⟩ => ⟨S2x1024x1024, .f32⟩
  | .hbm, ⟨76, _⟩ => ⟨S2x1024x1024, .f32⟩
  | .hbm, ⟨77, _⟩ => ⟨S2x1024x1024, .f32⟩
  | .hbm, ⟨78, _⟩ => ⟨S_, .f32⟩
  | .hbm, ⟨79, _⟩ => ⟨S2x1024, .f32⟩
  | .hbm, ⟨80, _⟩ => ⟨S2x1024x1, .f32⟩
  | .hbm, ⟨81, _⟩ => ⟨S_, .f32⟩
  | .hbm, ⟨82, _⟩ => ⟨S2x1024x1, .f32⟩
  | .hbm, ⟨83, _⟩ => ⟨S2x1024x1, .f32⟩
  | .hbm, ⟨84, _⟩ => ⟨S2x1024x1024, .f32⟩
  | .hbm, ⟨85, _⟩ => ⟨S2x1024x1024, .f32⟩
  | .hbm, ⟨86, _⟩ => ⟨S2x1024x1024, .f32⟩
  | .hbm, ⟨87, _⟩ => ⟨S_, .f32⟩
  | .hbm, ⟨88, _⟩ => ⟨S2x1024, .f32⟩
  | .hbm, ⟨89, _⟩ => ⟨S2x1024x1, .f32⟩
  | .hbm, ⟨90, _⟩ => ⟨S_, .f32⟩
  | .hbm, ⟨91, _⟩ => ⟨S2x1024x1, .f32⟩
  | .hbm, ⟨92, _⟩ => ⟨S2x1024x1, .f32⟩
  | .hbm, ⟨93, _⟩ => ⟨S2x1024x1024, .f32⟩
  | .hbm, ⟨94, _⟩ => ⟨S2x1024x1024, .f32⟩
  | .hbm, ⟨95, _⟩ => ⟨S_, .f32⟩
  | .hbm, ⟨96, _⟩ => ⟨S2x1024x1, .f32⟩
  | .hbm, ⟨97, _⟩ => ⟨S2x1024x1, .f32⟩
  | .hbm, ⟨98, _⟩ => ⟨S2x1024x1, .f32⟩
  | .hbm, ⟨99, _⟩ => ⟨S2x1024x1024, .f32⟩
  | .hbm, ⟨100, _⟩ => ⟨S2x1024x1024, .f32⟩
  | .hbm, ⟨101, _⟩ => ⟨S1x1x1024, .f32⟩
  | .hbm, ⟨102, _⟩ => ⟨S2x1024x1024, .f32⟩
  | .hbm, ⟨103, _⟩ => ⟨S2x1024x1024, .f32⟩
  | .hbm, ⟨104, _⟩ => ⟨S1x1x1024, .f32⟩
  | .hbm, ⟨105, _⟩ => ⟨S2x1024x1024, .f32⟩
  | .hbm, ⟨106, _⟩ => ⟨S2x1024x1024, .f32⟩
  | .hbm, ⟨107, _⟩ => ⟨S4096x1024, .f32⟩
  | .hbm, ⟨108, _⟩ => ⟨S2048x1024, .f32⟩
  | .hbm, ⟨109, _⟩ => ⟨S6144x1024, .f32⟩
  | _, _ => ⟨S6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_6 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩

abbrev nD : Nat := 1
abbrev τ : Topo := Topo.v7x

variable {F : FTy → Type} [FloatOps F]
-- ==== Kernel8.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S13x1024 : Shape := ⟨2, ![13, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S13x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S6144 : Shape := ⟨1, ![6144]⟩
abbrev S1x6144 : Shape := ⟨2, ![1, 6144]⟩
abbrev S13x1024 : Shape := ⟨2, ![13, 1024]⟩
abbrev S13x6144 : Shape := ⟨2, ![13, 6144]⟩
abbrev S16x6144 : Shape := ⟨2, ![16, 6144]⟩
abbrev S1x16x6144 : Shape := ⟨3, ![1, 16, 6144]⟩
abbrev S2x16x6144 : Shape := ⟨3, ![2, 16, 6144]⟩

abbrev nBuf : Space → Nat
  | .hbm => 113
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1024x6144, .f32⟩
  | .hbm, ⟨14, _⟩ => ⟨S1024x6144, .f32⟩
  | .hbm, ⟨15, _⟩ => ⟨S6144, .f32⟩
  | .hbm, ⟨16, _⟩ => ⟨S1x6144, .f32⟩
  | .hbm, ⟨17, _⟩ => ⟨S6144, .f32⟩
  | .hbm, ⟨18, _⟩ => ⟨S6144, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S2x1024, .f32⟩
  | .hbm, ⟨23, _⟩ => ⟨S2x1024, .f32⟩
  | .hbm, ⟨24, _⟩ => ⟨S_, .f32⟩
  | .hbm, ⟨25, _⟩ => ⟨S2x1024, .f32⟩
  | .hbm, ⟨26, _⟩ => ⟨S2x1024, .f32⟩
  | .hbm, ⟨27, _⟩ => ⟨S2x1024, .f32⟩
  | .hbm, ⟨28, _⟩ => ⟨S1x1024x6144, .f32⟩
  | .hbm, ⟨29, _⟩ => ⟨S1024x6144, .f32⟩
  | .hbm, ⟨30, _⟩ => ⟨S2x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S2x6144, .f32⟩
  | .hbm, ⟨35, _⟩ => ⟨S2x6144, .f32⟩
  | .hbm, ⟨36, _⟩ => ⟨S_, .f32⟩
  | .hbm, ⟨37, _⟩ => ⟨S13x1024, .f32⟩
  | .hbm, ⟨38, _⟩ => ⟨S13x1024, .f32⟩
  | .hbm, ⟨39, _⟩ => ⟨S13x1024, .f32⟩
  | .hbm, ⟨40, _⟩ => ⟨S_, .f32⟩
  | .hbm, ⟨41, _⟩ => ⟨S13x1024, .f32⟩
  | .hbm, ⟨42, _⟩ => ⟨S13x1024, .f32⟩
  | .hbm, ⟨43, _⟩ => ⟨S_, .f32⟩
  | .hbm, ⟨44, _⟩ => ⟨S13x1024, .f32⟩
  | .hbm, ⟨45, _⟩ => ⟨S13x1024, .f32⟩
  | .hbm, ⟨46, _⟩ => ⟨S13x1024, .f32⟩
  | .hbm, ⟨47, _⟩ => ⟨S1x1024x6144, .f32⟩
  | .hbm, ⟨48, _⟩ => ⟨S1024x6144, .f32⟩
  | .hbm, ⟨49, _⟩ => ⟨S13x6144, .f32⟩
  | .hbm, ⟨50, _⟩ => ⟨S1x6144, .f32⟩
  | .hbm, ⟨51, _⟩ => ⟨S6144, .f32⟩
  | .hbm, ⟨52, _⟩ => ⟨S1x6144, .f32⟩
  | .hbm, ⟨53, _⟩ => ⟨S13x6144, .f32⟩
  | .hbm, ⟨54, _⟩ => ⟨S13x6144, .f32⟩
  | .hbm, ⟨55, _⟩ => ⟨S1x6144, .f32⟩
  | .hbm, ⟨56, _⟩ => ⟨S16x6144, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S1x1024x6144, .f32⟩
  | .hbm, ⟨67, _⟩ => ⟨S1024x6144, .f32⟩
  | .hbm, ⟨68, _⟩ => ⟨S6144, .f32⟩
  | .hbm, ⟨69, _⟩ => ⟨S1x6144, .f32⟩
  | .hbm, ⟨70, _⟩ => ⟨S6144, .f32⟩
  | .hbm, ⟨71, _⟩ => ⟨S6144, .f32⟩
  | .hbm, ⟨72, _⟩ => ⟨S2x1024, .f32⟩
  | .hbm, ⟨73, _⟩ => ⟨S2x1024, .f32⟩
  | .hbm, ⟨74, _⟩ => ⟨S_, .f32⟩
  | .hbm, ⟨75, _⟩ => ⟨S2x1024, .f32⟩
  | .hbm, ⟨76, _⟩ => ⟨S2x1024, .f32⟩
  | .hbm, ⟨77, _⟩ => ⟨S_, .f32⟩
  | .hbm, ⟨78, _⟩ => ⟨S2x1024, .f32⟩
  | .hbm, ⟨79, _⟩ => ⟨S2x1024, .f32⟩
  | .hbm, ⟨80, _⟩ => ⟨S2x1024, .f32⟩
  | .hbm, ⟨81, _⟩ => ⟨S1x1024x6144, .f32⟩
  | .hbm, ⟨82, _⟩ => ⟨S1024x6144, .f32⟩
  | .hbm, ⟨83, _⟩ => ⟨S2x6144, .f32⟩
  | .hbm, ⟨84, _⟩ => ⟨S1x6144, .f32⟩
  | .hbm, ⟨85, _⟩ => ⟨S6144, .f32⟩
  | .hbm, ⟨86, _⟩ => ⟨S1x6144, .f32⟩
  | .hbm, ⟨87, _⟩ => ⟨S2x6144, .f32⟩
  | .hbm, ⟨88, _⟩ => ⟨S2x6144, .f32⟩
  | .hbm, ⟨89, _⟩ => ⟨S_, .f32⟩
  | .hbm, ⟨90, _⟩ => ⟨S13x1024, .f32⟩
  | .hbm, ⟨91, _⟩ => ⟨S13x1024, .f32⟩
  | .hbm, ⟨92, _⟩ => ⟨S13x1024, .f32⟩
  | .hbm, ⟨93, _⟩ => ⟨S_, .f32⟩
  | .hbm, ⟨94, _⟩ => ⟨S13x1024, .f32⟩
  | .hbm, ⟨95, _⟩ => ⟨S13x1024, .f32⟩
  | .hbm, ⟨96, _⟩ => ⟨S_, .f32⟩
  | .hbm, ⟨97, _⟩ => ⟨S13x1024, .f32⟩
  | .hbm, ⟨98, _⟩ => ⟨S13x1024, .f32⟩
  | .hbm, ⟨99, _⟩ => ⟨S13x1024, .f32⟩
  | .hbm, ⟨100, _⟩ => ⟨S1x1024x6144, .f32⟩
  | .hbm, ⟨101, _⟩ => ⟨S1024x6144, .f32⟩
  | .hbm, ⟨102, _⟩ => ⟨S13x6144, .f32⟩
  | .hbm, ⟨103, _⟩ => ⟨S1x6144, .f32⟩
  | .hbm, ⟨104, _⟩ => ⟨S6144, .f32⟩
  | .hbm, ⟨105, _⟩ => ⟨S1x6144, .f32⟩
  | .hbm, ⟨106, _⟩ => ⟨S13x6144, .f32⟩
  | .hbm, ⟨107, _⟩ => ⟨S13x6144, .f32⟩
  | .hbm, ⟨108, _⟩ => ⟨S1x6144, .f32⟩
  | .hbm, ⟨109, _⟩ => ⟨S16x6144, .f32⟩
  | .hbm, ⟨110, _⟩ => ⟨S1x16x6144, .f32⟩
  | .hbm, ⟨111, _⟩ => ⟨S1x16x6144, .f32⟩
  | .hbm, ⟨112, _⟩ => ⟨S2x16x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_call3_v0 : Ref sig .tc := ⟨.hbm, 57, rfl⟩
abbrev main_call3_v1 : Ref sig .tc := ⟨.hbm, 58, rfl⟩
abbrev main_call3_cst : Ref sig .tc := ⟨.hbm, 59, rfl⟩
abbrev main_call3_v2 : Ref sig .tc := ⟨.hbm, 60, rfl⟩
abbrev main_call3_v3 : Ref sig .tc := ⟨.hbm, 61, rfl⟩
abbrev main_call3_cst_0 : Ref sig .tc := ⟨.hbm, 62, rfl⟩
abbrev main_call3_v4 : Ref sig .tc := ⟨.hbm, 63, rfl⟩
abbrev main_call3_v5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_call4_v0 : Ref sig .tc := ⟨.hbm, 72, rfl⟩
abbrev main_call4_v1 : Ref sig .tc := ⟨.hbm, 73, rfl⟩
abbrev main_call4_cst : Ref sig .tc := ⟨.hbm, 74, rfl⟩
abbrev main_call4_v2 : Ref sig .tc := ⟨.hbm, 75, rfl⟩
abbrev main_call4_v3 : Ref sig .tc := ⟨.hbm, 76, rfl⟩
abbrev main_call4_cst_0 : Ref sig .tc := ⟨.hbm, 77, rfl⟩
abbrev main_call4_v4 : Ref sig .tc := ⟨.hbm, 78, rfl⟩
abbrev main_call4_v5 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_0 : Ref sig .tc := ⟨.hbm, 89, rfl⟩
abbrev main_v44 : Ref sig .tc := ⟨.hbm, 90, rfl⟩
abbrev main_call5_v0 : Ref sig .tc := ⟨.hbm, 91, rfl⟩
abbrev main_call5_v1 : Ref sig .tc := ⟨.hbm, 92, rfl⟩
abbrev main_call5_cst : Ref sig .tc := ⟨.hbm, 93, rfl⟩
abbrev main_call5_v2 : Ref sig .tc := ⟨.hbm, 94, rfl⟩
abbrev main_call5_v3 : Ref sig .tc := ⟨.hbm, 95, rfl⟩
abbrev main_call5_cst_0 : Ref sig .tc := ⟨.hbm, 96, rfl⟩
abbrev main_call5_v4 : Ref sig .tc := ⟨.hbm, 97, rfl⟩
abbrev main_call5_v5 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pointwise

/-! What one grid point of the kernel leaves in its two output blocks, in a vocabulary of its own: the two chunked
recurrences of a head over the 256 rows of a sequence, as vector operations on the blocks the point reads. -/

@[expose] public section

set_option maxRecDepth 16384

noncomputable section

namespace Cert.Proof.Block

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

/-- A float word splat over a shape. -/
def lit (s : Shape) (w : BitVec 32) : FVec F s .f32 := broadcast s (Scalar.ofBits .f32 w)
/-- The first chunk of a sequence. -/
def lo (x : FVec F S256x128 .f32) : FVec F S128x128 .f32 :=
  extractStridedSlice S128x128 ![0, 0] x slices_S256x128_o0_0_S128x128
/-- The second chunk of a sequence. -/
def hi (x : FVec F S256x128 .f32) : FVec F S128x128 .f32 :=
  extractStridedSlice S128x128 ![128, 0] x slices_S256x128_o128_0_S128x128
/-- The queries, scaled by the reciprocal square root of the head's width. -/
def scaled (q : FVec F S256x128 .f32) : FVec F S256x128 .f32 := mulf q (lit S256x128 0x3DB504F3#32)
/-- The position within a chunk, as a column. -/
def pos : FVec F S128x1 .f32 := sitofp .f32 (iota .tc S128x1 32 [0] iota_S128x1_d0_w32)
/-- The difference of the query's and the key's positions. -/
def diff : FVec F S128x128 .f32 :=
  subf (broadcastTo S128x128 (pos (F := F)) broadcasts_S128x1_S128x128)
    (broadcastTo S128x128 (sitofp .f32 (iota .tc S1x128 32 [1] iota_S1x128_d1_w32) : FVec F S1x128 .f32) broadcasts_S1x128_S128x128)
/-- The logarithm of the decay: of the logistic function of the parameter. -/
def logG (a : Elt F .f32) : FVec F S1x1 .f32 := log (logistic (broadcast S1x1 a))
/-- A column of exponents times the logarithm of the decay, exponentiated. -/
def expCol (x : FVec F S128x1 .f32) (a : Elt F .f32) : FVec F S128x1 .f32 :=
  exp (mulf x (broadcastTo S128x1 (logG a) broadcasts_S1x1_S128x1))
/-- The decay of the state over a chunk. -/
def cDec (a : Elt F .f32) : FVec F S1x1 .f32 := exp (mulf (lit S1x1 0x43000000#32) (logG a))
/-- The forward direction's mask: the decay from the key's to the query's position, zero after the query. -/
def maskF (a : Elt F .f32) : FVec F S128x128 .f32 :=
  exp (select (cmpf .oge (diff (F := F)) (lit S128x128 0x00000000#32))
    (mulf diff (broadcastTo S128x128 (logG a) broadcasts_S1x1_S128x128)) (lit S128x128 0xFF800000#32))
/-- The backward direction's mask: the decay from the query's to the key's position, zero before the query. -/
def maskB (a : Elt F .f32) : FVec F S128x128 .f32 :=
  exp (select (cmpf .ole (diff (F := F)) (lit S128x128 0x00000000#32))
    (mulf (subf (lit S128x128 0x00000000#32) diff) (broadcastTo S128x128 (logG a) broadcasts_S1x1_S128x128))
    (lit S128x128 0xFF800000#32))
/-- The forward direction's decay of the queries. -/
def qDecF (a : Elt F .f32) : FVec F S128x1 .f32 := expCol (addf pos (lit S128x1 0x3F800000#32)) a
/-- The forward direction's decay of the keys. -/
def kDecF (a : Elt F .f32) : FVec F S128x1 .f32 := expCol (subf (lit S128x1 0x42FE0000#32) pos) a
/-- The backward direction's decay of the queries. -/
def qDecB (a : Elt F .f32) : FVec F S128x1 .f32 := expCol (subf (lit S128x1 0x43000000#32) pos) a
/-- The backward direction's decay of the keys. -/
def kDecB (a : Elt F .f32) : FVec F S128x1 .f32 := expCol pos a

/-- A chunk's outputs: the masked scores times the values, and the decayed queries times the state. -/
def outC (mask : FVec F S128x128 .f32) (qd : FVec F S128x1 .f32) (q k v st : FVec F S128x128 .f32) : FVec F S128x128 .f32 :=
  addf
    (matmul dot_S128x128_S128x128_S128x128_1_0_0_1_n_n none
      (truncf .bf16 (mulf (matmul dot_S128x128_S128x128_S128x128_1_1_0_0_n_n none (truncf .bf16 q bitsLt_bf16_f32)
        (truncf .bf16 k bitsLt_bf16_f32) (constant S128x128 .f32 0x00000000#32)) mask) bitsLt_bf16_f32)
      (truncf .bf16 v bitsLt_bf16_f32) (constant S128x128 .f32 0x00000000#32))
    (matmul dot_S128x128_S128x128_S128x128_1_0_0_1_n_n none
      (truncf .bf16 (mulf q (broadcastTo S128x128 qd broadcasts_S128x1_S128x128)) bitsLt_bf16_f32)
      (truncf .bf16 st bitsLt_bf16_f32) (constant S128x128 .f32 0x00000000#32))
/-- The state after a chunk. -/
def stC (kd : FVec F S128x1 .f32) (cd : FVec F S1x1 .f32) (k v st : FVec F S128x128 .f32) : FVec F S128x128 .f32 :=
  addf (mulf st (broadcastTo S128x128 cd broadcasts_S1x1_S128x128))
    (matmul dot_S128x128_S128x128_S128x128_0_0_1_1_n_n none
      (truncf .bf16 (mulf k (broadcastTo S128x128 kd broadcasts_S128x1_S128x128)) bitsLt_bf16_f32)
      (truncf .bf16 v bitsLt_bf16_f32) (constant S128x128 .f32 0x00000000#32))
/-- The state before the first chunk. -/
def st0 : FVec F S128x128 .f32 := lit S128x128 0x00000000#32
/-- The forward direction's outputs over a sequence. -/
def fwd (a : Elt F .f32) (q k v : FVec F S256x128 .f32) : FVec F S256x128 .f32 :=
  concatenate S256x128 0
    [⟨S128x128, outC (maskF a) (qDecF a) (lo (scaled q)) (lo k) (lo v) st0⟩,
     ⟨S128x128, outC (maskF a) (qDecF a) (hi (scaled q)) (hi k) (hi v) (stC (kDecF a) (cDec a) (lo k) (lo v) st0)⟩]
    concatenates_S128x128_S128x128_S256x128_d0
/-- The backward direction's outputs over a sequence. -/
def bwd (a : Elt F .f32) (q k v : FVec F S256x128 .f32) : FVec F S256x128 .f32 :=
  concatenate S256x128 0
    [⟨S128x128, outC (maskB a) (qDecB a) (lo (scaled q)) (lo k) (lo v) (stC (kDecB a) (cDec a) (hi k) (hi v) st0)⟩,
     ⟨S128x128, outC (maskB a) (qDecB a) (hi (scaled q)) (hi k) (hi v) st0⟩]
    concatenates_S128x128_S128x128_S256x128_d0
/-- The forward direction's last state, as the block stored. -/
def stF (a : Elt F .f32) (k v : FVec F S256x128 .f32) : FVec F S1x1x1x128x128 .f32 :=
  shapeCast S1x1x1x128x128
    (stC (kDecF a) (cDec a) (hi k) (hi v) (stC (kDecF a) (cDec a) (lo k) (lo v) st0)) shapeCasts_S128x128_S1x1x1x128x128
/-- The backward direction's last state, as the block stored. -/
def stB (a : Elt F .f32) (k v : FVec F S256x128 .f32) : FVec F S1x1x1x128x128 .f32 :=
  shapeCast S1x1x1x128x128
    (stC (kDecB a) (cDec a) (lo k) (lo v) (stC (kDecB a) (cDec a) (hi k) (hi v) st0)) shapeCasts_S128x128_S1x1x1x128x128
/-- Rows over the root of the mean of their squares, times the gate's silu. -/
def gated (g o : FVec F S256x128 .f32) : FVec F S256x128 .f32 :=
  mulf (mulf g (logistic g))
    (mulf o (broadcastTo S256x128
      (rsqrt (addf (divf (shapeCast S256x1
          (multiReduction .add [1] S256 (mulf o o) 0x00000000#32 reduces_S256x128_S256 (.inl rfl) rfl) shapeCasts_S256_S256x1)
        (lit S256x1 0x43000000#32)) (lit S256x1 0x358637BD#32))) broadcasts_S256x1_S256x128))
/-- The rows of the output block that belong to one sequence. -/
def yOut (a b : Elt F .f32) (q k v gf gb : FVec F S256x128 .f32) : FVec F S256x128 .bf16 :=
  truncf .bf16 (addf (gated gf (fwd a q k v)) (gated gb (bwd b q k v))) bitsLt_bf16_f32

variable (m : (ℓ : Loc nD τ sig) → Buf (Elt F) ℓ)

/-- The rows of a block of four sequences that belong to one. -/
def seq0 (X : Vec F S1024x128 .f32) : FVec F S256x128 .f32 := View.ld X (Rect.unit ![0, 0] ![256, 128] inb_S1024x128_S256x128_0_0)
/-- The second sequence's. -/
def seq1 (X : Vec F S1024x128 .f32) : FVec F S256x128 .f32 := View.ld X (Rect.unit ![256, 0] ![256, 128] inb_S1024x128_S256x128_256_0)
/-- The third sequence's. -/
def seq2 (X : Vec F S1024x128 .f32) : FVec F S256x128 .f32 := View.ld X (Rect.unit ![512, 0] ![256, 128] inb_S1024x128_S256x128_512_0)
/-- The fourth sequence's. -/
def seq3 (X : Vec F S1024x128 .f32) : FVec F S256x128 .f32 := View.ld X (Rect.unit ![768, 0] ![256, 128] inb_S1024x128_S256x128_768_0)

/-- The head's parameter for the forward direction, read out of the table. -/
def parF (i : grid0.Coords) (X : Vec F S2x4 .f32) : Elt F .f32 :=
  View.ld X (Rect.unit (s := S2x4) (k0_off1 i) S1x1.size (k0_off1_inb i)) (Shape.Idx.first (numel1_S1x1.symm ▸ Nat.one_pos))
/-- The head's parameter for the backward direction. -/
def parB (i : grid0.Coords) (X : Vec F S2x4 .f32) : Elt F .f32 :=
  View.ld X (Rect.unit (s := S2x4) (k0_off2 i) S1x1.size (k0_off2_inb i)) (Shape.Idx.first (numel1_S1x1.symm ▸ Nat.one_pos))

set_option maxHeartbeats 4000000 in
/-- What a point leaves in the output block: the rows of the four sequences. -/
theorem out6 (c : Dev nD) (t : Fin cfg0.N) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)
      = View.canon (Val := Elt F) (s := S1024x128) (e := .bf16)
        [⟨Rect.unit ![768, 0] ![256, 128] inb_S1024x128_S256x128_768_0, yOut (parF (grid0.coords t) (iblk m c 0 t)) (parB (grid0.coords t) (iblk m c 0 t)) (seq3 (iblk m c 1 t)) (seq3 (iblk m c 2 t)) (seq3 (iblk m c 3 t)) (seq3 (iblk m c 4 t)) (seq3 (iblk m c 5 t))⟩,
         ⟨Rect.unit ![512, 0] ![256, 128] inb_S1024x128_S256x128_512_0, yOut (parF (grid0.coords t) (iblk m c 0 t)) (parB (grid0.coords t) (iblk m c 0 t)) (seq2 (iblk m c 1 t)) (seq2 (iblk m c 2 t)) (seq2 (iblk m c 3 t)) (seq2 (iblk m c 4 t)) (seq2 (iblk m c 5 t))⟩,
         ⟨Rect.unit ![256, 0] ![256, 128] inb_S1024x128_S256x128_256_0, yOut (parF (grid0.coords t) (iblk m c 0 t)) (parB (grid0.coords t) (iblk m c 0 t)) (seq1 (iblk m c 1 t)) (seq1 (iblk m c 2 t)) (seq1 (iblk m c 3 t)) (seq1 (iblk m c 4 t)) (seq1 (iblk m c 5 t))⟩,
         ⟨Rect.unit ![0, 0] ![256, 128] inb_S1024x128_S256x128_0_0, yOut (parF (grid0.coords t) (iblk m c 0 t)) (parB (grid0.coords t) (iblk m c 0 t)) (seq0 (iblk m c 1 t)) (seq0 (iblk m c 2 t)) (seq0 (iblk m c 3 t)) (seq0 (iblk m c 4 t)) (seq0 (iblk m c 5 t))⟩] := by
  unfold out0_A_6
  rw [View.read_writes_eq_canon _ _ _ (cover0_A_6 _ _ _ _ _ _ _ _ _ _ _ _ _ _ _ _ _ _ _ _ _ _ _ _)]
  unfold kernelRun0_A
  dsimp only
  sl_unfold_words
  dsimp only
  simp only [View.readAt_eq_ld, (hs0_0 t).read_unread, (hs0_1 t).read_unread, (hs0_2 t).read_unread, (hs0_3 t).read_unread, (hs0_4 t).read_unread, (hs0_5 t).read_unread]
  rfl

set_option maxHeartbeats 4000000 in
/-- What a point leaves in the state block: the last states of the four sequences, forward and backward. -/
theorem out7 (c : Dev nD) (t : Fin cfg0.N) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)
      = View.canon (Val := Elt F) (s := S4x2x1x128x128) (e := .f32)
        [⟨Rect.unit ![3, 1, 0, 0, 0] ![1, 1, 1, 128, 128] inb_S4x2x1x128x128_S1x1x1x128x128_3_1_0_0_0, stB (parB (grid0.coords t) (iblk m c 0 t)) (seq3 (iblk m c 2 t)) (seq3 (iblk m c 3 t))⟩,
         ⟨Rect.unit ![2, 1, 0, 0, 0] ![1, 1, 1, 128, 128] inb_S4x2x1x128x128_S1x1x1x128x128_2_1_0_0_0, stB (parB (grid0.coords t) (iblk m c 0 t)) (seq2 (iblk m c 2 t)) (seq2 (iblk m c 3 t))⟩,
         ⟨Rect.unit ![1, 1, 0, 0, 0] ![1, 1, 1, 128, 128] inb_S4x2x1x128x128_S1x1x1x128x128_1_1_0_0_0, stB (parB (grid0.coords t) (iblk m c 0 t)) (seq1 (iblk m c 2 t)) (seq1 (iblk m c 3 t))⟩,
         ⟨Rect.unit ![0, 1, 0, 0, 0] ![1, 1, 1, 128, 128] inb_S4x2x1x128x128_S1x1x1x128x128_0_1_0_0_0, stB (parB (grid0.coords t) (iblk m c 0 t)) (seq0 (iblk m c 2 t)) (seq0 (iblk m c 3 t))⟩,
         ⟨Rect.unit ![3, 0, 0, 0, 0] ![1, 1, 1, 128, 128] inb_S4x2x1x128x128_S1x1x1x128x128_3_0_0_0_0, stF (parF (grid0.coords t) (iblk m c 0 t)) (seq3 (iblk m c 2 t)) (seq3 (iblk m c 3 t))⟩,
         ⟨Rect.unit ![2, 0, 0, 0, 0] ![1, 1, 1, 128, 128] inb_S4x2x1x128x128_S1x1x1x128x128_2_0_0_0_0, stF (parF (grid0.coords t) (iblk m c 0 t)) (seq2 (iblk m c 2 t)) (seq2 (iblk m c 3 t))⟩,
         ⟨Rect.unit ![1, 0, 0, 0, 0] ![1, 1, 1, 128, 128] inb_S4x2x1x128x128_S1x1x1x128x128_1_0_0_0_0, stF (parF (grid0.coords t) (iblk m c 0 t)) (seq1 (iblk m c 2 t)) (seq1 (iblk m c 3 t))⟩,
         ⟨Rect.unit ![0, 0, 0, 0, 0] ![1, 1, 1, 128, 128] inb_S4x2x1x128x128_S1x1x1x128x128_0_0_0_0_0, stF (parF (grid0.coords t) (iblk m c 0 t)) (seq0 (iblk m c 2 t)) (seq0 (iblk m c 3 t))⟩] := by
  unfold out0_A_7
  rw [View.read_writes_eq_canon _ _ _ (cover0_A_7 _ _ _ _ _ _ _ _ _ _ _ _ _ _ _ _ _ _ _ _ _ _ _ _)]
  unfold kernelRun0_A
  dsimp only
  sl_unfold_words
  dsimp only
  simp only [View.readAt_eq_ld, (hs0_0 t).read_unread, (hs0_1 t).read_unread, (hs0_2 t).read_unread, (hs0_3 t).read_unread, (hs0_4 t).read_unread, (hs0_5 t).read_unread]
  rfl

end Cert.Proof.Block
end

end
-- ==== Proof.Spec.lean ====
module

public import Idealize.ShloMosaic.Lib.Pointwise

/-! Chunked retention of one head over one sequence of 256 rows, as functions of extended reals, in both directions,
and the one fact that joins the kernel's backward direction to the reference's: reversing the rows of a sequence and
running forward is running backward. -/

@[expose] public section

noncomputable section

namespace Cert.Proof.Spec

open Idealize.ShloMosaic

/-- A position as an extended real. -/
def pos (i : Fin 128) : EReal := FloatOps.sitofp (F := Ideal) FTy.f32 (BitVec.ofNat 32 i.val)
/-- The word of a float constant. -/
def w (b : BitVec 32) : EReal := Ideal.ofBits FTy.f32 b
/-- The logarithm of the decay. -/
def logG (a : EReal) : EReal := Ideal.log (Ideal.logistic a)
/-- The forward mask. -/
def maskF (a : EReal) (i j : Fin 128) : EReal :=
  Ideal.exp (if 0 ≤ pos i - pos j then (pos i - pos j) * logG a else w 0xFF800000#32)
/-- The backward mask. -/
def maskB (a : EReal) (i j : Fin 128) : EReal :=
  Ideal.exp (if pos i - pos j ≤ 0 then (0 - (pos i - pos j)) * logG a else w 0xFF800000#32)
/-- The forward decay of a query. -/
def qF (a : EReal) (i : Fin 128) : EReal := Ideal.exp ((pos i + 1) * logG a)
/-- The forward decay of a key. -/
def kF (a : EReal) (i : Fin 128) : EReal := Ideal.exp ((w 0x42FE0000#32 - pos i) * logG a)
/-- The backward decay of a query. -/
def qB (a : EReal) (i : Fin 128) : EReal := Ideal.exp ((w 0x43000000#32 - pos i) * logG a)
/-- The backward decay of a key. -/
def kB (a : EReal) (i : Fin 128) : EReal := Ideal.exp (pos i * logG a)
/-- The decay of the state over a chunk. -/
def cD (a : EReal) : EReal := Ideal.exp (w 0x43000000#32 * logG a)

/-- A chunk's output. -/
def outC (mask : Fin 128 → Fin 128 → EReal) (qd : Fin 128 → EReal) (q k v st : Fin 128 → Fin 128 → EReal)
    (i e : Fin 128) : EReal :=
  ∑ x, (∑ y, q i y * k x y) * mask i x * v x e + ∑ x, q i x * qd i * st x e
/-- The state after a chunk. -/
def stC (kd : Fin 128 → EReal) (cd : EReal) (k v st : Fin 128 → Fin 128 → EReal) (i e : Fin 128) : EReal :=
  st i e * cd + ∑ x, k x i * kd x * v x e
/-- The state before the first chunk. -/
def st0 : Fin 128 → Fin 128 → EReal := fun _ _ => 0
/-- The first chunk. -/
def lo (x : Fin 256 → Fin 128 → EReal) : Fin 128 → Fin 128 → EReal := fun i e => x ⟨i.val, by omega⟩ e
/-- The second chunk. -/
def hi (x : Fin 256 → Fin 128 → EReal) : Fin 128 → Fin 128 → EReal := fun i e => x ⟨128 + i.val, by omega⟩ e

/-- The forward outputs. -/
def oF (a : EReal) (q k v : Fin 256 → Fin 128 → EReal) (n : Fin 256) (e : Fin 128) : EReal :=
  if h : n.val < 128 then outC (maskF a) (qF a) (lo q) (lo k) (lo v) st0 ⟨n.val, h⟩ e
  else outC (maskF a) (qF a) (hi q) (hi k) (hi v) (stC (kF a) (cD a) (lo k) (lo v) st0) ⟨n.val - 128, by omega⟩ e
/-- The backward outputs. -/
def oB (a : EReal) (q k v : Fin 256 → Fin 128 → EReal) (n : Fin 256) (e : Fin 128) : EReal :=
  if h : n.val < 128 then
    outC (maskB a) (qB a) (lo q) (lo k) (lo v) (stC (kB a) (cD a) (hi k) (hi v) st0) ⟨n.val, h⟩ e
  else outC (maskB a) (qB a) (hi q) (hi k) (hi v) st0 ⟨n.val - 128, by omega⟩ e
/-- The last forward state. -/
def sF (a : EReal) (k v : Fin 256 → Fin 128 → EReal) : Fin 128 → Fin 128 → EReal :=
  stC (kF a) (cD a) (hi k) (hi v) (stC (kF a) (cD a) (lo k) (lo v) st0)
/-- The last backward state. -/
def sB (a : EReal) (k v : Fin 256 → Fin 128 → EReal) : Fin 128 → Fin 128 → EReal :=
  stC (kB a) (cD a) (lo k) (lo v) (stC (kB a) (cD a) (hi k) (hi v) st0)
/-- Rows over the root of their mean square, times the gate's silu. -/
def gated (g o : Fin 256 → Fin 128 → EReal) (n : Fin 256) (e : Fin 128) : EReal :=
  g n e * Ideal.logistic (g n e) *
    (o n e * Ideal.rsqrt (Ideal.div (∑ x, o n x * o n x) (w 0x43000000#32) + w 0x358637BD#32))
/-- A sequence's outputs for one head. -/
def y (a b : EReal) (q k v gf gb : Fin 256 → Fin 128 → EReal) (n : Fin 256) (e : Fin 128) : EReal :=
  gated gf (oF a q k v) n e + gated gb (oB b q k v) n e

/-! ## Reversal -/

/-- The rows of a sequence in the opposite order. -/
def flip (x : Fin 256 → Fin 128 → EReal) : Fin 256 → Fin 128 → EReal := fun n e => x n.rev e

theorem pos_eq (i : Fin 128) : pos i = (((i.val : ℝ)) : EReal) := by
  have h : ((BitVec.ofNat 32 i.val).toInt) = (i.val : ℤ) := by
    exact BitVec.toInt_ofNat' .. |>.trans (Int.bmod_eq_of_le (by omega) (by omega))
  show (((BitVec.ofNat 32 i.val).toInt : ℝ) : EReal) = _
  rw [h]; norm_cast

theorem w128 : w 0x43000000#32 = ((128 : ℝ) : EReal) := by
  unfold w; simp [Ideal.ofBits, Ideal.ieee, -EReal.coe_mul]; norm_num
theorem w127 : w 0x42FE0000#32 = ((127 : ℝ) : EReal) := by
  unfold w; simp [Ideal.ofBits, Ideal.ieee, -EReal.coe_mul]; norm_num

theorem pos_rev (i : Fin 128) : pos i.rev = (((127 - i.val : ℝ)) : EReal) := by
  rw [pos_eq, Fin.val_rev]
  congr 1
  have : 128 - (i.val + 1) = 127 - i.val := by omega
  rw [this, Nat.cast_sub (by omega)]; norm_num

theorem maskF_rev (a : EReal) (i j : Fin 128) : maskF a i.rev j.rev = maskB a i j := by
  unfold maskF maskB
  have h : pos i.rev - pos j.rev = 0 - (pos i - pos j) := by
    rw [pos_rev, pos_rev, pos_eq, pos_eq, ← EReal.coe_zero, ← EReal.coe_sub, ← EReal.coe_sub, ← EReal.coe_sub]
    congr 1; ring
  have h2 : (0 ≤ pos i.rev - pos j.rev) ↔ pos i - pos j ≤ 0 := by
    rw [pos_rev, pos_rev, pos_eq, pos_eq, ← EReal.coe_zero, ← EReal.coe_sub, ← EReal.coe_sub, EReal.coe_le_coe_iff,
      EReal.coe_le_coe_iff]
    constructor <;> intro h <;> linarith
  rw [if_congr h2 rfl rfl, h]

theorem qF_rev (a : EReal) (i : Fin 128) : qF a i.rev = qB a i := by
  unfold qF qB
  rw [pos_rev, pos_eq, w128, ← EReal.coe_one, ← EReal.coe_add, ← EReal.coe_sub]
  congr 3; ring

theorem kF_rev (a : EReal) (i : Fin 128) : kF a i.rev = kB a i := by
  unfold kF kB
  rw [pos_rev, pos_eq, w127, ← EReal.coe_sub]
  congr 3; ring

theorem sum_rev (f : Fin 128 → EReal) : ∑ x : Fin 128, f x.rev = ∑ x, f x := Equiv.sum_comp Fin.revPerm f

theorem lo_flip (x : Fin 256 → Fin 128 → EReal) (i e : Fin 128) : lo (flip x) i e = hi x i.rev e := by
  unfold lo hi flip; congr 1; apply Fin.ext; simp only [Fin.val_rev]; omega
theorem hi_flip (x : Fin 256 → Fin 128 → EReal) (i e : Fin 128) : hi (flip x) i e = lo x i.rev e := by
  unfold lo hi flip; congr 1; apply Fin.ext; simp only [Fin.val_rev]; omega

/-- A state update over reversed rows. -/
theorem stC_rev (a : EReal) {k v k' v' s : Fin 128 → Fin 128 → EReal} (hk : ∀ i e, k' i e = k i.rev e)
    (hv : ∀ i e, v' i e = v i.rev e) : stC (kF a) (cD a) k' v' s = stC (kB a) (cD a) k v s := by
  funext i e
  unfold stC
  congr 1
  rw [← sum_rev]
  refine Finset.sum_congr rfl fun x _ => ?_
  rw [hk, hv, Fin.rev_rev, kF_rev]

/-- A chunk's output over reversed rows. -/
theorem outC_rev (a : EReal) {q k v q' k' v' s : Fin 128 → Fin 128 → EReal} (hq : ∀ i e, q' i e = q i.rev e)
    (hk : ∀ i e, k' i e = k i.rev e) (hv : ∀ i e, v' i e = v i.rev e) (i e : Fin 128) :
    outC (maskF a) (qF a) q' k' v' s i.rev e = outC (maskB a) (qB a) q k v s i e := by
  unfold outC
  congr 1
  · rw [← sum_rev]
    refine Finset.sum_congr rfl fun x _ => ?_
    rw [hv, Fin.rev_rev, maskF_rev]
    congr 2
    refine Finset.sum_congr rfl fun z _ => ?_
    rw [hq, hk, Fin.rev_rev, Fin.rev_rev]
  · refine Finset.sum_congr rfl fun x _ => ?_
    rw [hq, Fin.rev_rev, qF_rev]

/-- The forward run over the reversed sequence ends in the backward run's state. -/
theorem sF_flip (a : EReal) (k v : Fin 256 → Fin 128 → EReal) : sF a (flip k) (flip v) = sB a k v := by
  unfold sF sB
  rw [stC_rev a (hi_flip k) (hi_flip v), stC_rev a (lo_flip k) (lo_flip v)]

/-- The forward run over the reversed sequence gives the backward run's rows, reversed. -/
theorem oF_flip (a : EReal) (q k v : Fin 256 → Fin 128 → EReal) (n : Fin 256) (e : Fin 128) :
    oF a (flip q) (flip k) (flip v) n.rev e = oB a q k v n e := by
  unfold oF oB
  by_cases h : n.val < 128
  · have h' : ¬ (n.rev).val < 128 := by rw [Fin.val_rev]; omega
    rw [dif_neg h', dif_pos h, stC_rev a (lo_flip k) (lo_flip v)]
    have hi' : (⟨(n.rev).val - 128, by omega⟩ : Fin 128) = (⟨n.val, h⟩ : Fin 128).rev := by
      apply Fin.ext; simp only [Fin.val_rev]; omega
    rw [hi']
    exact outC_rev a (hi_flip q) (hi_flip k) (hi_flip v) _ e
  · have h' : (n.rev).val < 128 := by rw [Fin.val_rev]; omega
    rw [dif_pos h', dif_neg h]
    have hi' : (⟨(n.rev).val, h'⟩ : Fin 128) = (⟨n.val - 128, by omega⟩ : Fin 128).rev := by
      apply Fin.ext; simp only [Fin.val_rev]; omega
    rw [hi']
    exact outC_rev a (lo_flip q) (lo_flip k) (lo_flip v) _ e

/-! ## The two result arrays -/

/-- The columns of the odd layer's in-projection that belong to a head: `c` is where the group of columns starts. -/
def col (u : Fin 6144 → Fin 3328 → EReal) (c : ℕ) (hc : c ≤ 2816) (b : Fin 16) (h : Fin 4) : Fin 256 → Fin 128 → EReal :=
  fun n d => u ⟨b.val * 256 + n.val, by omega⟩ ⟨c + (h.val * 128 + d.val), by omega⟩
/-- The scaled queries of a head. -/
def qs (u : Fin 6144 → Fin 3328 → EReal) (b : Fin 16) (h : Fin 4) : Fin 256 → Fin 128 → EReal :=
  fun n d => col u 768 (by decide) b h n d * w 0x3DB504F3#32
/-- The rows of a batch entry's head. -/
def yy (u : Fin 6144 → Fin 3328 → EReal) (r : Fin 2 → Fin 4 → EReal) (b : Fin 16) (h : Fin 4) : Fin 256 → Fin 128 → EReal :=
  y (r 0 h) (r 1 h) (qs u b h) (col u 1280 (by decide) b h) (col u 1792 (by decide) b h) (col u 2304 (by decide) b h)
    (col u 2816 (by decide) b h)
/-- The last states of a batch entry's head. -/
def ss (u : Fin 6144 → Fin 3328 → EReal) (r : Fin 2 → Fin 4 → EReal) (b : Fin 16) (z : Fin 2) (h : Fin 4) :
    Fin 128 → Fin 128 → EReal :=
  if z.val = 0 then sF (r 0 h) (col u 1280 (by decide) b h) (col u 1792 (by decide) b h)
  else sB (r 1 h) (col u 1280 (by decide) b h) (col u 1792 (by decide) b h)

end Cert.Proof.Spec
end

end
-- ==== Proof.BlockAt.lean ====
module

public import proofs.«01_k».proof.Proof.Block
public import proofs.«01_k».proof.Proof.Spec

/-! The vector operations of a grid point, read entry by entry at the ideal values: each is the function of
`Proof/Spec.lean` of the same name. -/

@[expose] public section

set_option maxRecDepth 16384

noncomputable section

namespace Cert.Proof.Block

open Cert.KernelIdeal Cert.KernelIdeal.Gen Idealize.ShloMosaic Idealize.ShloMosaic.TcCoe Idealize.ShloMosaic.Tactic

/-- A 256-row vector by rows and columns. -/
def mat (x : FVec Ideal S256x128 .f32) : Fin 256 → Fin 128 → EReal := fun i e => x (ix2 i e)
/-- A 128-row vector by rows and columns. -/
def mat1 (x : FVec Ideal S128x128 .f32) : Fin 128 → Fin 128 → EReal := fun i e => x (ix2 i e)
/-- A column by rows. -/
def vec1 (x : FVec Ideal S128x1 .f32) : Fin 128 → EReal := fun i => x (ix2 i 0)

theorem lo_at (x : FVec Ideal S256x128 .f32) : mat1 (lo x) = Spec.lo (mat x) := by
  funext i e; unfold mat1 Spec.lo mat; pointwise [lo]
theorem hi_at (x : FVec Ideal S256x128 .f32) : mat1 (hi x) = Spec.hi (mat x) := by
  funext i e; unfold mat1 Spec.hi mat; pointwise [hi]
theorem st0_at : mat1 st0 = Spec.st0 := by
  funext i e; unfold mat1 Spec.st0; pointwise [st0, lit]
theorem scaled_at (x : FVec Ideal S256x128 .f32) : mat (scaled x) = fun i e => mat x i e * Spec.w 0x3DB504F3#32 := by
  funext i e; unfold mat Spec.w; pointwise [scaled, lit]
theorem maskF_at (a : EReal) : mat1 (maskF (F := Ideal) a) = Spec.maskF a := by
  funext i e; unfold mat1 Spec.maskF Spec.logG Spec.w Spec.pos; pointwise [maskF, diff, pos, logG, lit]
theorem maskB_at (a : EReal) : mat1 (maskB (F := Ideal) a) = Spec.maskB a := by
  funext i e; unfold mat1 Spec.maskB Spec.logG Spec.w Spec.pos; pointwise [maskB, diff, pos, logG, lit]
theorem qDecF_at (a : EReal) : vec1 (qDecF (F := Ideal) a) = Spec.qF a := by
  funext i; unfold vec1 Spec.qF Spec.logG Spec.pos; pointwise [qDecF, expCol, pos, logG, lit]
theorem kDecF_at (a : EReal) : vec1 (kDecF (F := Ideal) a) = Spec.kF a := by
  funext i; unfold vec1 Spec.kF Spec.logG Spec.pos Spec.w; pointwise [kDecF, expCol, pos, logG, lit]
theorem qDecB_at (a : EReal) : vec1 (qDecB (F := Ideal) a) = Spec.qB a := by
  funext i; unfold vec1 Spec.qB Spec.logG Spec.pos Spec.w; pointwise [qDecB, expCol, pos, logG, lit]
theorem kDecB_at (a : EReal) : vec1 (kDecB (F := Ideal) a) = Spec.kB a := by
  funext i; unfold vec1 Spec.kB Spec.logG Spec.pos; pointwise [kDecB, expCol, pos, logG, lit]
theorem cDec_at (a : EReal) : cDec (F := Ideal) a (ix2 0 0) = Spec.cD a := by
  unfold Spec.cD Spec.logG Spec.w; pointwise [cDec, logG, lit]

theorem outC_at (mask : FVec Ideal S128x128 .f32) (qd : FVec Ideal S128x1 .f32) (q k v st : FVec Ideal S128x128 .f32) :
    mat1 (outC mask qd q k v st) = Spec.outC (mat1 mask) (vec1 qd) (mat1 q) (mat1 k) (mat1 v) (mat1 st) := by
  funext i e; unfold Spec.outC mat1 vec1; pointwise [outC]
theorem stC_at (kd : FVec Ideal S128x1 .f32) (cd : FVec Ideal S1x1 .f32) (k v st : FVec Ideal S128x128 .f32) :
    mat1 (stC kd cd k v st) = Spec.stC (vec1 kd) (cd (ix2 0 0)) (mat1 k) (mat1 v) (mat1 st) := by
  funext i e; unfold Spec.stC mat1 vec1; pointwise [stC]

/-- The forward outputs. -/
theorem fwd_at (a : EReal) (q k v : FVec Ideal S256x128 .f32) :
    mat (fwd (F := Ideal) a q k v) = Spec.oF a (mat (scaled q)) (mat k) (mat v) := by
  funext n e
  unfold Spec.oF
  simp only [← lo_at, ← hi_at, ← st0_at, ← maskF_at, ← qDecF_at, ← kDecF_at, ← cDec_at, ← stC_at, ← outC_at]
  unfold mat mat1; pointwise [fwd]
/-- The backward outputs. -/
theorem bwd_at (a : EReal) (q k v : FVec Ideal S256x128 .f32) :
    mat (bwd (F := Ideal) a q k v) = Spec.oB a (mat (scaled q)) (mat k) (mat v) := by
  funext n e
  unfold Spec.oB
  simp only [← lo_at, ← hi_at, ← st0_at, ← maskB_at, ← qDecB_at, ← kDecB_at, ← cDec_at, ← stC_at, ← outC_at]
  unfold mat mat1; pointwise [bwd]
/-- The last forward state. -/
theorem stF_at (a : EReal) (k v : FVec Ideal S256x128 .f32) (i e : Fin 128) :
    stF (F := Ideal) a k v (ix5 0 0 0 i e) = Spec.sF a (mat k) (mat v) i e := by
  unfold Spec.sF
  simp only [← lo_at, ← hi_at, ← st0_at, ← kDecF_at, ← cDec_at, ← stC_at]
  unfold mat1; pointwise [stF]
/-- The last backward state. -/
theorem stB_at (a : EReal) (k v : FVec Ideal S256x128 .f32) (i e : Fin 128) :
    stB (F := Ideal) a k v (ix5 0 0 0 i e) = Spec.sB a (mat k) (mat v) i e := by
  unfold Spec.sB
  simp only [← lo_at, ← hi_at, ← st0_at, ← kDecB_at, ← cDec_at, ← stC_at]
  unfold mat1; pointwise [stB]
/-- The gated rows. -/
theorem gated_at (g o : FVec Ideal S256x128 .f32) (n : Fin 256) (e : Fin 128) :
    gated g o (ix2 n e) = Spec.gated (mat g) (mat o) n e := by
  unfold Spec.gated mat Spec.w; pointwise [gated, lit]
/-- The rows stored. -/
theorem yOut_at (a b : EReal) (q k v gf gb : FVec Ideal S256x128 .f32) (n : Fin 256) (e : Fin 128) :
    yOut (F := Ideal) a b q k v gf gb (ix2 n e)
      = Spec.y a b (fun i e => mat q i e * Spec.w 0x3DB504F3#32) (mat k) (mat v) (mat gf) (mat gb) n e := by
  unfold Spec.y
  rw [← scaled_at, ← fwd_at, ← bwd_at, ← gated_at, ← gated_at]
  pointwise [yOut]

end Cert.Proof.Block
end

end
-- ==== Proof.Arrays.lean ====
module

public import proofs.«01_k».proof.Proof.BlockAt
public import Idealize.ShloMosaic.Lib.Pipeline.ValueKit

/-! The kernel's two result arrays at the ideal values: every batch entry's head as `Proof/Spec.lean` has it, and zero in
the rows past the prompt's. -/

@[expose] public section

set_option maxRecDepth 16384

noncomputable section

namespace Cert.Proof.Arrays

open Cert.KernelIdeal Cert.KernelIdeal.Gen Idealize.ShloMosaic Idealize.ShloMosaic.TcCoe Idealize.ShloMosaic.Tactic Idealize.SL.Sem
open Idealize.ShloMosaic.Pipeline (Dat)
open Cert.Proof.Block

/-- An array of two axes by rows and columns. -/
def tab (x : Vec Ideal S6144x3328 .f32) : Fin 6144 → Fin 3328 → EReal := fun i j => x (ix2 i j)
/-- The decay parameters by direction and head. -/
def par (x : Vec Ideal S1x2x4 .f32) : Fin 2 → Fin 4 → EReal := fun z h => x (ix3 0 z h)

/-- The first result: the prompt's rows, then zeros. -/
def G6 (x : Vec Ideal S6144x3328 .f32) (p : Vec Ideal S1x2x4 .f32) : Vec Ideal S6144x512 .bf16 := fun i =>
  if h : (i 0).val < 4096 then
    Spec.yy (tab x) (par p) ⟨(i 0).val / 256, by omega⟩ ⟨(i 1).val / 128, by have : (i 1).val < 512 := (i 1).isLt; omega⟩
      ⟨(i 0).val % 256, by omega⟩ ⟨(i 1).val % 128, by omega⟩
  else 0
/-- The second result: the last states. -/
def G7 (x : Vec Ideal S6144x3328 .f32) (p : Vec Ideal S1x2x4 .f32) : Vec Ideal S16x2x4x128x128 .f32 := fun i =>
  Spec.ss (tab x) (par p) (i 0) (i 1) (i 2) (i 3) (i 4)

variable (m : (ℓ : Loc nD τ sig) → Buf (Elt Ideal) ℓ)

/-- The first argument's array. -/
abbrev X (c : Dev nD) : Vec Ideal S6144x3328 .f32 := m ((c : Thread nD τ).loc main_arg0)
/-- The second argument's array. -/
abbrev D (c : Dev nD) : Vec Ideal S1x2x4 .f32 := m ((c : Thread nD τ).loc main_arg1)

/-- The group of four batch entries at a point. -/
def gb (t : Fin cfg0.N) : Fin 4 := grid0.coords t 0
/-- The head at a point. -/
def gh (t : Fin cfg0.N) : Fin 4 := grid0.coords t 1

theorem e1 : ∀ t : Fin cfg0.N, win0_1.index t = ![(gb t).val, 6 + (gh t).val] :=
  (by decide +kernel : ∀ t : Fin grid0.N, win0_1.index t = ![(gb t).val, 6 + (gh t).val])
theorem e2 : ∀ t : Fin cfg0.N, win0_2.index t = ![(gb t).val, 10 + (gh t).val] :=
  (by decide +kernel : ∀ t : Fin grid0.N, win0_2.index t = ![(gb t).val, 10 + (gh t).val])
theorem e3 : ∀ t : Fin cfg0.N, win0_3.index t = ![(gb t).val, 14 + (gh t).val] :=
  (by decide +kernel : ∀ t : Fin grid0.N, win0_3.index t = ![(gb t).val, 14 + (gh t).val])
theorem e4 : ∀ t : Fin cfg0.N, win0_4.index t = ![(gb t).val, 18 + (gh t).val] :=
  (by decide +kernel : ∀ t : Fin grid0.N, win0_4.index t = ![(gb t).val, 18 + (gh t).val])
theorem e5 : ∀ t : Fin cfg0.N, win0_5.index t = ![(gb t).val, 22 + (gh t).val] :=
  (by decide +kernel : ∀ t : Fin grid0.N, win0_5.index t = ![(gb t).val, 22 + (gh t).val])
theorem e6 : ∀ t : Fin cfg0.N, win0_6.index t = ![(gb t).val, (gh t).val] :=
  (by decide +kernel : ∀ t : Fin grid0.N, win0_6.index t = ![(gb t).val, (gh t).val])
theorem e7 : ∀ t : Fin cfg0.N, win0_7.index t = ![(gb t).val, 0, (gh t).val, 0, 0] :=
  (by decide +kernel : ∀ t : Fin grid0.N, win0_7.index t = ![(gb t).val, 0, (gh t).val, 0, 0])
theorem e0 : ∀ t : Fin cfg0.N, win0_0.index t = ![0, 0] :=
  (by decide +kernel : ∀ t : Fin grid0.N, win0_0.index t = ![0, 0])

/-- The columns of a block of four batch entries are those of the array's head. -/
theorem cols {c : ℕ} (hc : c ≤ 2816) (x : Vec Ideal S6144x3328 .f32) (B : Vec Ideal S1024x128 .f32) (b : Fin 4) (h : Fin 4)
    (hB : ∀ (r : Fin 1024) (d : Fin 128), B (ix2 r d) = x (ix2 ⟨b.val * 1024 + r.val, by omega⟩ ⟨c + (h.val * 128 + d.val), by omega⟩)) :
    mat (seq0 B) = Spec.col (tab x) c hc ⟨4 * b.val + 0, by omega⟩ h
    ∧ mat (seq1 B) = Spec.col (tab x) c hc ⟨4 * b.val + 1, by omega⟩ h
    ∧ mat (seq2 B) = Spec.col (tab x) c hc ⟨4 * b.val + 2, by omega⟩ h
    ∧ mat (seq3 B) = Spec.col (tab x) c hc ⟨4 * b.val + 3, by omega⟩ h := by
  refine ⟨?_, ?_, ?_, ?_⟩ <;> funext n d <;> unfold mat Spec.col tab <;>
    first
    | (have e : seq0 B (ix2 n d) = B (ix2 ⟨n.val, by omega⟩ d) := by pointwise [seq0]
       rw [e, hB]; congr 3; simp only []; omega)
    | (have e : seq1 B (ix2 n d) = B (ix2 ⟨256 + n.val, by omega⟩ d) := by pointwise [seq1]
       rw [e, hB]; congr 3; simp only []; omega)
    | (have e : seq2 B (ix2 n d) = B (ix2 ⟨512 + n.val, by omega⟩ d) := by pointwise [seq2]
       rw [e, hB]; congr 3; simp only []; omega)
    | (have e : seq3 B (ix2 n d) = B (ix2 ⟨768 + n.val, by omega⟩ d) := by pointwise [seq3]
       rw [e, hB]; congr 3; simp only []; omega)

theorem blk1 (c : Dev nD) (t : Fin cfg0.N) (r : Fin 1024) (d : Fin 128) :
    iblk m c 1 t (ix2 r d) = X m c (ix2 ⟨(gb t).val * 1024 + r.val, by omega⟩ ⟨768 + ((gh t).val * 128 + d.val), by omega⟩) := by
  blk_simp [iblk]
  rw [V_main_arg0]
  congr 1
  blk_ext [e1 t]
theorem blk2 (c : Dev nD) (t : Fin cfg0.N) (r : Fin 1024) (d : Fin 128) :
    iblk m c 2 t (ix2 r d) = X m c (ix2 ⟨(gb t).val * 1024 + r.val, by omega⟩ ⟨1280 + ((gh t).val * 128 + d.val), by omega⟩) := by
  blk_simp [iblk]
  rw [V_main_arg0]
  congr 1
  blk_ext [e2 t]
theorem blk3 (c : Dev nD) (t : Fin cfg0.N) (r : Fin 1024) (d : Fin 128) :
    iblk m c 3 t (ix2 r d) = X m c (ix2 ⟨(gb t).val * 1024 + r.val, by omega⟩ ⟨1792 + ((gh t).val * 128 + d.val), by omega⟩) := by
  blk_simp [iblk]
  rw [V_main_arg0]
  congr 1
  blk_ext [e3 t]
theorem blk4 (c : Dev nD) (t : Fin cfg0.N) (r : Fin 1024) (d : Fin 128) :
    iblk m c 4 t (ix2 r d) = X m c (ix2 ⟨(gb t).val * 1024 + r.val, by omega⟩ ⟨2304 + ((gh t).val * 128 + d.val), by omega⟩) := by
  blk_simp [iblk]
  rw [V_main_arg0]
  congr 1
  blk_ext [e4 t]
theorem blk5 (c : Dev nD) (t : Fin cfg0.N) (r : Fin 1024) (d : Fin 128) :
    iblk m c 5 t (ix2 r d) = X m c (ix2 ⟨(gb t).val * 1024 + r.val, by omega⟩ ⟨2816 + ((gh t).val * 128 + d.val), by omega⟩) := by
  blk_simp [iblk]
  rw [V_main_arg0]
  congr 1
  blk_ext [e5 t]

/-- The table the kernel reads its parameters from is the second argument, reshaped. -/
theorem blk0 (c : Dev nD) (t : Fin cfg0.N) (z : Fin 2) (h : Fin 4) : iblk m c 0 t (ix2 z h) = D m c (ix3 0 z h) := by
  blk_simp [iblk]
  have e : V m c main_v0 = shapeCast S2x4 (D m c) shapeCasts_S1x2x4_S2x4 := by
    unfold V; after_results; rfl
  have e' : ((win0_0.blk t).view.emb (ix2 z h)) = (ix2 z h : S2x4.Idx) := by blk_ext [e0 t]
  rw [e, e']
  pointwise

theorem off1 : ∀ t : Fin cfg0.N, k0_off1 (grid0.coords t) = ![0, (gh t).val] :=
  (by decide +kernel : ∀ t : Fin grid0.N, k0_off1 (grid0.coords t) = ![0, (gh t).val])
theorem off2 : ∀ t : Fin cfg0.N, k0_off2 (grid0.coords t) = ![1, (gh t).val] :=
  (by decide +kernel : ∀ t : Fin grid0.N, k0_off2 (grid0.coords t) = ![1, (gh t).val])

theorem par0 (c : Dev nD) (t : Fin cfg0.N) : parF (grid0.coords t) (iblk m c 0 t) = par (D m c) 0 (gh t) := by
  have e : parF (F := Ideal) (grid0.coords t) (iblk m c 0 t) = iblk m c 0 t (ix2 0 (gh t)) := by
    pointwise [parF]
    congr 2 <;> apply Fin.ext <;> simp only [off1] <;> rfl
  rw [e, blk0]; rfl
theorem par1 (c : Dev nD) (t : Fin cfg0.N) : parB (grid0.coords t) (iblk m c 0 t) = par (D m c) 1 (gh t) := by
  have e : parB (F := Ideal) (grid0.coords t) (iblk m c 0 t) = iblk m c 0 t (ix2 1 (gh t)) := by
    pointwise [parB]
    congr 2 <;> apply Fin.ext <;> simp only [off2] <;> rfl
  rw [e, blk0]; rfl

/-- The rows of a batch entry's head at equal places. -/
theorem yy_congr {u : Fin 6144 → Fin 3328 → EReal} {r : Fin 2 → Fin 4 → EReal} {b b' : Fin 16} {h h' : Fin 4} {n n' : Fin 256}
    {e e' : Fin 128} (hb : b.val = b'.val) (hh : h.val = h'.val) (hn : n.val = n'.val) (he : e.val = e'.val) :
    Spec.yy u r b h n e = Spec.yy u r b' h' n' e' := by
  rw [Fin.ext hb, Fin.ext hh, Fin.ext hn, Fin.ext he]

/-- What the point stores for one of its batch entries. -/
theorem yOut_eq (c : Dev nD) (t : Fin cfg0.N) (b : Fin 16) (q k v gf g : FVec Ideal S256x128 .f32)
    (hq : mat q = Spec.col (tab (X m c)) 768 (by decide) b (gh t)) (hk : mat k = Spec.col (tab (X m c)) 1280 (by decide) b (gh t))
    (hv : mat v = Spec.col (tab (X m c)) 1792 (by decide) b (gh t)) (hf : mat gf = Spec.col (tab (X m c)) 2304 (by decide) b (gh t))
    (hg : mat g = Spec.col (tab (X m c)) 2816 (by decide) b (gh t)) (n : Fin 256) (e : Fin 128) :
    yOut (F := Ideal) (parF (grid0.coords t) (iblk m c 0 t)) (parB (grid0.coords t) (iblk m c 0 t)) q k v gf g (ix2 n e)
      = Spec.yy (tab (X m c)) (par (D m c)) b (gh t) n e := by
  rw [yOut_at, par0, par1, hq, hk, hv, hf, hg]; rfl
/-- The last state it stores, forward … -/
theorem stF_eq (c : Dev nD) (t : Fin cfg0.N) (b : Fin 16) (k v : FVec Ideal S256x128 .f32)
    (hk : mat k = Spec.col (tab (X m c)) 1280 (by decide) b (gh t))
    (hv : mat v = Spec.col (tab (X m c)) 1792 (by decide) b (gh t)) (i e : Fin 128) :
    stF (F := Ideal) (parF (grid0.coords t) (iblk m c 0 t)) k v (ix5 0 0 0 i e)
      = Spec.ss (tab (X m c)) (par (D m c)) b 0 (gh t) i e := by
  rw [stF_at, par0, hk, hv]; rfl
/-- … and backward. -/
theorem stB_eq (c : Dev nD) (t : Fin cfg0.N) (b : Fin 16) (k v : FVec Ideal S256x128 .f32)
    (hk : mat k = Spec.col (tab (X m c)) 1280 (by decide) b (gh t))
    (hv : mat v = Spec.col (tab (X m c)) 1792 (by decide) b (gh t)) (i e : Fin 128) :
    stB (F := Ideal) (parB (grid0.coords t) (iblk m c 0 t)) k v (ix5 0 0 0 i e)
      = Spec.ss (tab (X m c)) (par (D m c)) b 1 (gh t) i e := by
  rw [stB_at, par1, hk, hv]; rfl

/-- A point's rows at a block index. -/
def B6 (c : Dev nD) (t : Fin cfg0.N) : Vec Ideal S1024x128 .bf16 := fun y =>
  Spec.yy (tab (X m c)) (par (D m c))
    ⟨4 * (gb t).val + (y 0).val / 256, by have : (y 0).val < 1024 := (y 0).isLt; omega⟩ (gh t) ⟨(y 0).val % 256, by omega⟩ (y 1)
/-- A point's states at a block index. -/
def B7 (c : Dev nD) (t : Fin cfg0.N) : Vec Ideal S4x2x1x128x128 .f32 := fun y =>
  Spec.ss (tab (X m c)) (par (D m c))
    ⟨4 * (gb t).val + (y 0).val, by have : (y 0).val < 4 := (y 0).isLt; omega⟩ (y 1) (gh t) (y 3) (y 4)

theorem ix2_eta (x : S256x128.Idx) : x = ix2 (x 0) (x 1) := by
  funext i; fin_cases i <;> rfl
theorem ix5_eta (x : S1x1x1x128x128.Idx) : x = ix5 0 0 0 (x 3) (x 4) := by
  funext i
  fin_cases i
  · exact Fin.ext (by have : (x 0).val < 1 := (x 0).isLt; show (x 0).val = 0; omega)
  · exact Fin.ext (by have : (x 1).val < 1 := (x 1).isLt; show (x 1).val = 0; omega)
  · exact Fin.ext (by have : (x 2).val < 1 := (x 2).isLt; show (x 2).val = 0; omega)
  · rfl
  · rfl

/-- The output block at a point. -/
theorem out6_eq (c : Dev nD) (t : Fin cfg0.N) (y : S1024x128.Idx) : (outsAt0 m c t).1 y = B6 m c t y := by
  obtain ⟨q0, q1, q2, q3⟩ := cols (by decide) (X m c) _ (gb t) (gh t) (blk1 m c t)
  obtain ⟨k0, k1, k2, k3⟩ := cols (by decide) (X m c) _ (gb t) (gh t) (blk2 m c t)
  obtain ⟨v0, v1, v2, v3⟩ := cols (by decide) (X m c) _ (gb t) (gh t) (blk3 m c t)
  obtain ⟨f0, f1, f2, f3⟩ := cols (by decide) (X m c) _ (gb t) (gh t) (blk4 m c t)
  obtain ⟨g0, g1, g2, g3⟩ := cols (by decide) (X m c) _ (gb t) (gh t) (blk5 m c t)
  have hc := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) y
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) y = _
  rw [out6]
  refine View.canon_apply_of_pieces (B6 m c t) _ (fun p hp x => ?_) y ?_
  · simp only [List.mem_cons, List.mem_nil_iff, or_false] at hp
    rcases hp with rfl | rfl | rfl | rfl
    · obtain ⟨n, e, rfl⟩ : ∃ n e, x = ix2 n e := ⟨_, _, ix2_eta x⟩
      refine (yOut_eq m c t _ _ _ _ _ _ q3 k3 v3 f3 g3 n e).trans (yy_congr ?_ rfl ?_ ?_)
      · show 4 * (gb t).val + 3 = 4 * (gb t).val + (768 + 1 * n.val) / 256; omega
      · show n.val = (768 + 1 * n.val) % 256; omega
      · show e.val = 0 + 1 * e.val; omega
    · obtain ⟨n, e, rfl⟩ : ∃ n e, x = ix2 n e := ⟨_, _, ix2_eta x⟩
      refine (yOut_eq m c t _ _ _ _ _ _ q2 k2 v2 f2 g2 n e).trans (yy_congr ?_ rfl ?_ ?_)
      · show 4 * (gb t).val + 2 = 4 * (gb t).val + (512 + 1 * n.val) / 256; omega
      · show n.val = (512 + 1 * n.val) % 256; omega
      · show e.val = 0 + 1 * e.val; omega
    · obtain ⟨n, e, rfl⟩ : ∃ n e, x = ix2 n e := ⟨_, _, ix2_eta x⟩
      refine (yOut_eq m c t _ _ _ _ _ _ q1 k1 v1 f1 g1 n e).trans (yy_congr ?_ rfl ?_ ?_)
      · show 4 * (gb t).val + 1 = 4 * (gb t).val + (256 + 1 * n.val) / 256; omega
      · show n.val = (256 + 1 * n.val) % 256; omega
      · show e.val = 0 + 1 * e.val; omega
    · obtain ⟨n, e, rfl⟩ : ∃ n e, x = ix2 n e := ⟨_, _, ix2_eta x⟩
      refine (yOut_eq m c t _ _ _ _ _ _ q0 k0 v0 f0 g0 n e).trans (yy_congr ?_ rfl ?_ ?_)
      · show 4 * (gb t).val + 0 = 4 * (gb t).val + (0 + 1 * n.val) / 256; omega
      · show n.val = (0 + 1 * n.val) % 256; omega
      · show e.val = 0 + 1 * e.val; omega
  · obtain ⟨p, hp, hy⟩ := hc
    unfold kernelRun0_A at hp
    simp only [List.mem_cons, List.mem_nil_iff, or_false] at hp ⊢
    rcases hp with rfl | rfl | rfl | rfl
    · exact ⟨_, .inl rfl, hy⟩
    · exact ⟨_, .inr (.inl rfl), hy⟩
    · exact ⟨_, .inr (.inr (.inl rfl)), hy⟩
    · exact ⟨_, .inr (.inr (.inr rfl)), hy⟩

/-- The last states at equal places. -/
theorem ss_congr {u : Fin 6144 → Fin 3328 → EReal} {r : Fin 2 → Fin 4 → EReal} {b b' : Fin 16} {z z' : Fin 2} {h : Fin 4}
    {n n' e e' : Fin 128} (hb : b.val = b'.val) (hz : z.val = z'.val) (hn : n.val = n'.val) (he : e.val = e'.val) :
    Spec.ss u r b z h n e = Spec.ss u r b' z' h n' e' := by
  rw [Fin.ext hb, Fin.ext hz, Fin.ext hn, Fin.ext he]

/-- The state block at a point. -/
theorem out7_eq (c : Dev nD) (t : Fin cfg0.N) (y : S4x2x1x128x128.Idx) : (outsAt0 m c t).2 y = B7 m c t y := by
  obtain ⟨k0, k1, k2, k3⟩ := cols (by decide) (X m c) _ (gb t) (gh t) (blk2 m c t)
  obtain ⟨v0, v1, v2, v3⟩ := cols (by decide) (X m c) _ (gb t) (gh t) (blk3 m c t)
  unfold outsAt0
  dsimp only
  refine (congrFun (out7 m c t) y).trans ?_
  refine View.canon_apply_of_pieces (B7 m c t) _ (fun p hp x => ?_) y ?_
  · simp only [List.mem_cons, List.mem_nil_iff, or_false] at hp
    rcases hp with rfl | rfl | rfl | rfl | rfl | rfl | rfl | rfl <;>
      obtain ⟨n, e, rfl⟩ : ∃ n e, x = ix5 0 0 0 n e := ⟨_, _, ix5_eta x⟩
    · exact (stB_eq m c t _ _ _ k3 v3 n e).trans (ss_congr rfl rfl (by show _ = 0 + 1 * n.val; omega) (by show _ = 0 + 1 * e.val; omega))
    · exact (stB_eq m c t _ _ _ k2 v2 n e).trans (ss_congr rfl rfl (by show _ = 0 + 1 * n.val; omega) (by show _ = 0 + 1 * e.val; omega))
    · exact (stB_eq m c t _ _ _ k1 v1 n e).trans (ss_congr rfl rfl (by show _ = 0 + 1 * n.val; omega) (by show _ = 0 + 1 * e.val; omega))
    · exact (stB_eq m c t _ _ _ k0 v0 n e).trans (ss_congr rfl rfl (by show _ = 0 + 1 * n.val; omega) (by show _ = 0 + 1 * e.val; omega))
    · exact (stF_eq m c t _ _ _ k3 v3 n e).trans (ss_congr rfl rfl (by show _ = 0 + 1 * n.val; omega) (by show _ = 0 + 1 * e.val; omega))
    · exact (stF_eq m c t _ _ _ k2 v2 n e).trans (ss_congr rfl rfl (by show _ = 0 + 1 * n.val; omega) (by show _ = 0 + 1 * e.val; omega))
    · exact (stF_eq m c t _ _ _ k1 v1 n e).trans (ss_congr rfl rfl (by show _ = 0 + 1 * n.val; omega) (by show _ = 0 + 1 * e.val; omega))
    · exact (stF_eq m c t _ _ _ k0 v0 n e).trans (ss_congr rfl rfl (by show _ = 0 + 1 * n.val; omega) (by show _ = 0 + 1 * e.val; omega))
  · have h0 : (y 0).val < 4 := (y 0).isLt
    have h1 : (y 1).val < 2 := (y 1).isLt
    have hmem : ∀ (a b : ℕ) (hin), (y 0).val = a → (y 1).val = b →
        y ∈ (Rect.unit (s := S4x2x1x128x128) ![a, b, 0, 0, 0] ![1, 1, 1, 128, 128] hin).set := by
      intro a b hin ha hb
      rw [Rect.mem_set_unit]
      have h2 : (y 2).val < 1 := (y 2).isLt
      have h3 : (y 3).val < 128 := (y 3).isLt
      have h4 : (y 4).val < 128 := (y 4).isLt
      intro k
      fin_cases k
      · show a ≤ (y 0).val ∧ (y 0).val < a + 1; omega
      · show b ≤ (y 1).val ∧ (y 1).val < b + 1; omega
      · show 0 ≤ (y 2).val ∧ (y 2).val < 0 + 1; omega
      · show 0 ≤ (y 3).val ∧ (y 3).val < 0 + 128; omega
      · show 0 ≤ (y 4).val ∧ (y 4).val < 0 + 128; omega
    simp only [List.mem_cons, List.mem_nil_iff, or_false]
    have hz : (y 1).val = 1 ∨ (y 1).val = 0 := by omega
    have hs : (y 0).val = 3 ∨ (y 0).val = 2 ∨ (y 0).val = 1 ∨ (y 0).val = 0 := by omega
    rcases hz with hz | hz <;> rcases hs with hs | hs | hs | hs
    · exact ⟨_, .inl rfl, hmem _ _ (by decide) hs hz⟩
    · exact ⟨_, .inr (.inl rfl), hmem _ _ (by decide) hs hz⟩
    · exact ⟨_, .inr (.inr (.inl rfl)), hmem _ _ (by decide) hs hz⟩
    · exact ⟨_, .inr (.inr (.inr (.inl rfl))), hmem _ _ (by decide) hs hz⟩
    · exact ⟨_, .inr (.inr (.inr (.inr (.inl rfl)))), hmem _ _ (by decide) hs hz⟩
    · exact ⟨_, .inr (.inr (.inr (.inr (.inr (.inl rfl))))), hmem _ _ (by decide) hs hz⟩
    · exact ⟨_, .inr (.inr (.inr (.inr (.inr (.inr (.inl rfl)))))), hmem _ _ (by decide) hs hz⟩
    · exact ⟨_, .inr (.inr (.inr (.inr (.inr (.inr (.inr rfl)))))), hmem _ _ (by decide) hs hz⟩

/-- The array the first result is written over is zero. -/
theorem zero6 (c : Dev nD) (i : S6144x512.Idx) : (V m c main_v2_0 : Vec Ideal S6144x512 .bf16) i = (0 : EReal) := by
  have e : V m c main_v2_0 = broadcastInDim S6144x512 ![] bcast_S_S6144x512 (constant (F := Ideal) S_ .bf16 0x0000#16) := by
    unfold V; after_results; rfl
  rw [e]
  obtain ⟨a, b, rfl⟩ : ∃ a b, i = ix2 a b := ⟨i 0, i 1, by funext k; fin_cases k <;> rfl⟩
  pointwise

/-- The first result. -/
theorem final6 (c : Dev nD) : (dats m 0 c).arrAt 6 cfg0.N = G6 (X m c) (D m c) := by
  have h := (dats m 0 c).arrAt_eq_of_coversWhere 6 (G6 (X m c) (D m c)) (P := fun i => (i (0 : Fin 2)).val < 4096)
    (fun β => β (0 : Fin 2) < 4) (by decide +kernel) (fun t hf y => ?_)
    (fun j => by blk_simp [Pipeline.Window.cell_apply]; omega)
  · rw [h]
    funext i
    by_cases hi : (i (0 : Fin 2)).val < 4096
    · exact if_pos hi
    · rw [if_neg hi]
      unfold G6
      rw [dif_neg hi]
      exact zero6 m c i
  · blk_simp
    rw [after0_6, out6_eq]
    have hy : (y 0).val < 1024 := (y 0).isLt
    have h0 : ((win0_6.blk t).view.emb y (0 : Fin 2)).val = (gb t).val * 1024 + (y 0).val := by blk_simp [e6 t]
    have h1 : ((win0_6.blk t).view.emb y (1 : Fin 2)).val = (gh t).val * 128 + (y 1).val := by blk_simp [e6 t]
    have hy1 : (y 1).val < 128 := (y 1).isLt
    unfold G6 B6
    rw [dif_pos (by rw [h0]; omega)]
    refine yy_congr ?_ ?_ ?_ ?_
    · simp only [h0]; omega
    · simp only [h1]; omega
    · simp only [h0]; omega
    · simp only [h1]; omega

/-- The second result. -/
theorem final7 (c : Dev nD) : (dats m 0 c).arrAt 7 cfg0.N = G7 (X m c) (D m c) := by
  refine (dats m 0 c).arrAt_eq_of_covers 7 (G7 (X m c) (D m c)) (by decide +kernel) (fun t hf y => ?_)
  blk_simp
  rw [after0_7, out7_eq]
  unfold G7 B7
  have h2 : ((win0_7.blk t).view.emb y (2 : Fin 5)) = gh t := by
    have : (y 2).val < 1 := (y 2).isLt
    apply Fin.ext; blk_simp [e7 t]
  rw [h2]
  have h0 : (y 0).val < 4 := (y 0).isLt
  refine ss_congr ?_ ?_ ?_ ?_
  · blk_simp [e7 t]; simp only [Matrix.cons_val_zero]; omega
  · blk_simp [e7 t]
  · blk_simp [e7 t]
  · blk_simp [e7 t]

end Cert.Proof.Arrays
end

end
-- ==== Proof.Ref.lean ====
module

public import proofs.«01_k».proof.Proof.Gen.ReferenceIdeal
public import proofs.«01_k».proof.Proof.Gen.ReferenceIdeal.Read
public import proofs.«01_k».proof.Proof.Arrays

/-! The reference's two results, stage by stage: heads, decays, the chunks of the two directions, the gated rows. The
backward direction, which the reference runs forward over the reversed rows, is the backward run of
`Proof/Spec.lean`. -/

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Idealize.ShloMosaic.Tactic Idealize.SL.Sem
open Cert.Proof.Arrays (tab par G6 G7)

variable (x0 : Vec Ideal S6144x3328 .f32) (x1 : Vec Ideal S1x2x4 .f32)

/-- An array over batch entry, row, head and width, for one entry and head. -/
def sl (x : Vec Ideal S16x256x4x128 .f32) (b : Fin 16) (h : Fin 4) : Fin 256 → Fin 128 → EReal := fun n d => x (ix4 b n h d)
/-- A chunk of it. -/
def ch (x : Vec Ideal S16x128x4x128 .f32) (b : Fin 16) (h : Fin 4) : Fin 128 → Fin 128 → EReal := fun n d => x (ix4 b n h d)
/-- A state of it. -/
def sta (x : Vec Ideal S16x4x128x128 .f32) (b : Fin 16) (h : Fin 4) : Fin 128 → Fin 128 → EReal := fun n d => x (ix4 b h n d)

/-! ## Heads -/

theorem q_eq (b : Fin 16) (h : Fin 4) : sl (val_main_v10 x0) b h = Spec.qs (tab x0) b h := by
  funext n d; unfold sl Spec.qs Spec.col Spec.w tab
  pointwise [val_main_v10, val_main_v9, val_main_cst, val_main_v8, val_main_v3, val_main_v2, val_main_v1, val_main_v0]

theorem k_eq (b : Fin 16) (h : Fin 4) : sl (val_main_v11 x0) b h = Spec.col (tab x0) 1280 (by decide) b h := by
  funext n d; unfold sl Spec.col tab
  pointwise [val_main_v11, val_main_v4, val_main_v2, val_main_v1, val_main_v0]
  exact congrArg x0 (congrArg (ix2 _) (Fin.ext (by simp only []; omega)))

theorem v_eq (b : Fin 16) (h : Fin 4) : sl (val_main_v12 x0) b h = Spec.col (tab x0) 1792 (by decide) b h := by
  funext n d; unfold sl Spec.col tab
  pointwise [val_main_v12, val_main_v5, val_main_v2, val_main_v1, val_main_v0]
  exact congrArg x0 (congrArg (ix2 _) (Fin.ext (by simp only []; omega)))

theorem gf_eq (b : Fin 16) (h : Fin 4) : sl (val_main_v229 x0) b h = Spec.col (tab x0) 2304 (by decide) b h := by
  funext n d; unfold sl Spec.col tab
  pointwise [val_main_v229, val_main_v6, val_main_v2, val_main_v1, val_main_v0]
  exact congrArg x0 (congrArg (ix2 _) (Fin.ext (by simp only []; omega)))

theorem gb_eq (b : Fin 16) (h : Fin 4) : sl (val_main_v242 x0) b h = Spec.col (tab x0) 2816 (by decide) b h := by
  funext n d; unfold sl Spec.col tab
  pointwise [val_main_v242, val_main_v7, val_main_v2, val_main_v1, val_main_v0]
  exact congrArg x0 (congrArg (ix2 _) (Fin.ext (by simp only []; omega)))

theorem qr_eq (b : Fin 16) (h : Fin 4) : sl (val_main_v123 x0) b h = Spec.flip (sl (val_main_v10 x0) b h) := by
  funext n d; unfold sl Spec.flip
  pointwise [val_main_v123]
  rfl

theorem kr_eq (b : Fin 16) (h : Fin 4) : sl (val_main_v124 x0) b h = Spec.flip (sl (val_main_v11 x0) b h) := by
  funext n d; unfold sl Spec.flip
  pointwise [val_main_v124]
  rfl

theorem vr_eq (b : Fin 16) (h : Fin 4) : sl (val_main_v125 x0) b h = Spec.flip (sl (val_main_v12 x0) b h) := by
  funext n d; unfold sl Spec.flip
  pointwise [val_main_v125]
  rfl

/-! ## Decays -/

theorem lg_f (h : Fin 4) : val_main_v25 x1 (ix1 h) = Spec.logG (par x1 0 h) := by
  unfold Spec.logG par Ideal.logistic
  pointwise [val_main_v25, val_main_v22, val_main_v21, val_main_v19, val_main_v17, val_main_v15, val_main_v14, val_main_v13, val_main_v16, val_main_cst_0, val_main_v18, val_main_cst_1]
theorem mask_f (h : Fin 4) (i j : Fin 128) : val_main_v41 x1 (ix3 h i j) = Spec.maskF (par x1 0 h) i j := by
  unfold Spec.maskF Spec.pos Spec.w
  rw [← lg_f]
  pointwise [val_main_v41, val_main_v40, val_main_call0_v2, val_main_call0_v0, val_main_cst_4, val_main_v39, val_main_v38, val_main_v36, val_main_v37, val_main_v35, val_main_v31, val_main_v30, val_main_v28, val_main_v26, val_main_v29, val_main_v27, val_main_call0_v1, val_main_v34, val_main_v33, val_main_cst_3, val_main_v32]
  rfl
theorem qd_f (h : Fin 4) (i : Fin 128) : val_main_v49 x1 (ix2 i h) = Spec.qF (par x1 0 h) i := by
  unfold Spec.qF Spec.pos
  rw [← lg_f]
  pointwise [val_main_v49, val_main_v48, val_main_v47, val_main_v45, val_main_v46, val_main_v44, val_main_v43, val_main_cst_5, val_main_v42, val_main_v26]
theorem kd_f (h : Fin 4) (i : Fin 128) : val_main_v57 x1 (ix2 i h) = Spec.kF (par x1 0 h) i := by
  unfold Spec.kF Spec.pos Spec.w
  rw [← lg_f]
  pointwise [val_main_v57, val_main_v56, val_main_v55, val_main_v53, val_main_v54, val_main_v52, val_main_v50, val_main_v26, val_main_v51, val_main_cst_6]
theorem cd_f (h : Fin 4) : val_main_v60 x1 (ix1 h) = Spec.cD (par x1 0 h) := by
  unfold Spec.cD Spec.w
  rw [← lg_f]
  pointwise [val_main_v60, val_main_v59, val_main_v58, val_main_cst_7]

theorem st1_f (b : Fin 16) (h : Fin 4) : sta (val_main_v92 x0 x1) b h
    = Spec.stC (Spec.kF (par x1 0 h)) (Spec.cD (par x1 0 h)) (Spec.lo (sl (val_main_v11 x0) b h)) (Spec.lo (sl (val_main_v12 x0) b h)) Spec.st0 := by
  funext i e; unfold Spec.stC Spec.lo Spec.st0 sl sta
  simp only [← kd_f, ← cd_f]
  pointwise [val_main_v92, val_main_v91, val_main_v69, val_main_v68, val_main_v63, val_main_v90, val_main_v89, val_main_v88, val_main_v87, val_main_v67, val_main_v66, val_main_v62, val_main_v86, val_main_v85, val_main_v84, val_main_v83, val_main_v24, val_main_v23, val_main_v20, val_main_cst_2]
theorem o0_f (b : Fin 16) (h : Fin 4) : ch (val_main_v82 x0 x1) b h
    = Spec.outC (Spec.maskF (par x1 0 h)) (Spec.qF (par x1 0 h)) (Spec.lo (sl (val_main_v10 x0) b h)) (Spec.lo (sl (val_main_v11 x0) b h))
        (Spec.lo (sl (val_main_v12 x0) b h)) Spec.st0 := by
  funext i e; unfold Spec.outC Spec.lo Spec.st0 sl ch
  simp only [← mask_f, ← qd_f]
  pointwise [val_main_v82, val_main_v81, val_main_v80, val_main_v79, val_main_v78, val_main_v77, val_main_v76, val_main_v65, val_main_v64, val_main_v61, val_main_v24, val_main_v23, val_main_v20, val_main_cst_2, val_main_v75, val_main_v74, val_main_v73, val_main_v72, val_main_v71, val_main_v70, val_main_v67, val_main_v66, val_main_v62, val_main_v69, val_main_v68, val_main_v63]
  congr 1
  · exact Finset.sum_congr rfl fun x _ => mul_comm _ _
  · exact Finset.sum_congr rfl fun x _ => mul_comm _ _
theorem st2_f (b : Fin 16) (h : Fin 4) : sta (val_main_v121 x0 x1) b h = Spec.sF (par x1 0 h) (sl (val_main_v11 x0) b h) (sl (val_main_v12 x0) b h) := by
  unfold Spec.sF
  rw [← st1_f]
  funext i e; unfold Spec.stC Spec.hi sl sta
  simp only [← kd_f, ← cd_f]
  pointwise [val_main_v121, val_main_v120, val_main_v98, val_main_v97, val_main_v63, val_main_v119, val_main_v118, val_main_v117, val_main_v116, val_main_v96, val_main_v95, val_main_v62, val_main_v115, val_main_v114, val_main_v113, val_main_v112]
theorem o1_f (b : Fin 16) (h : Fin 4) : ch (val_main_v111 x0 x1) b h
    = Spec.outC (Spec.maskF (par x1 0 h)) (Spec.qF (par x1 0 h)) (Spec.hi (sl (val_main_v10 x0) b h)) (Spec.hi (sl (val_main_v11 x0) b h))
        (Spec.hi (sl (val_main_v12 x0) b h)) (sta (val_main_v92 x0 x1) b h) := by
  funext i e; unfold Spec.outC Spec.hi sl sta ch
  simp only [← mask_f, ← qd_f]
  pointwise [val_main_v111, val_main_v110, val_main_v109, val_main_v108, val_main_v107, val_main_v106, val_main_v105, val_main_v94, val_main_v93, val_main_v61, val_main_v104, val_main_v103, val_main_v102, val_main_v101, val_main_v100, val_main_v99, val_main_v96, val_main_v95, val_main_v62, val_main_v98, val_main_v97, val_main_v63]
  congr 1
  · exact Finset.sum_congr rfl fun x _ => mul_comm _ _
  · exact Finset.sum_congr rfl fun x _ => mul_comm _ _
theorem o_f (b : Fin 16) (h : Fin 4) : sl (val_main_v122 x0 x1) b h
    = Spec.oF (par x1 0 h) (sl (val_main_v10 x0) b h) (sl (val_main_v11 x0) b h) (sl (val_main_v12 x0) b h) := by
  funext n e
  unfold Spec.oF
  rw [← st1_f]
  simp only [← o0_f, ← o1_f]
  unfold sl ch
  pointwise [val_main_v122]

theorem lg_b (h : Fin 4) : val_main_v130 x1 (ix1 h) = Spec.logG (par x1 1 h) := by
  unfold Spec.logG par Ideal.logistic
  pointwise [val_main_v130, val_main_v127, val_main_v126, val_main_v19, val_main_v17, val_main_v15, val_main_v14, val_main_v13, val_main_v16, val_main_cst_0, val_main_v18, val_main_cst_1]
theorem mask_b (h : Fin 4) (i j : Fin 128) : val_main_v146 x1 (ix3 h i j) = Spec.maskF (par x1 1 h) i j := by
  unfold Spec.maskF Spec.pos Spec.w
  rw [← lg_b]
  pointwise [val_main_v146, val_main_v145, val_main_call4_v2, val_main_call4_v0, val_main_cst_9, val_main_v144, val_main_v143, val_main_v141, val_main_v142, val_main_v140, val_main_v136, val_main_v135, val_main_v133, val_main_v131, val_main_v134, val_main_v132, val_main_call4_v1, val_main_v139, val_main_v138, val_main_cst_8, val_main_v137]
  rfl
theorem qd_b (h : Fin 4) (i : Fin 128) : val_main_v154 x1 (ix2 i h) = Spec.qF (par x1 1 h) i := by
  unfold Spec.qF Spec.pos
  rw [← lg_b]
  pointwise [val_main_v154, val_main_v153, val_main_v152, val_main_v150, val_main_v151, val_main_v149, val_main_v148, val_main_cst_10, val_main_v147, val_main_v131]
theorem kd_b (h : Fin 4) (i : Fin 128) : val_main_v162 x1 (ix2 i h) = Spec.kF (par x1 1 h) i := by
  unfold Spec.kF Spec.pos Spec.w
  rw [← lg_b]
  pointwise [val_main_v162, val_main_v161, val_main_v160, val_main_v158, val_main_v159, val_main_v157, val_main_v155, val_main_v131, val_main_v156, val_main_cst_11]
theorem cd_b (h : Fin 4) : val_main_v165 x1 (ix1 h) = Spec.cD (par x1 1 h) := by
  unfold Spec.cD Spec.w
  rw [← lg_b]
  pointwise [val_main_v165, val_main_v164, val_main_v163, val_main_cst_12]

theorem st1_b (b : Fin 16) (h : Fin 4) : sta (val_main_v197 x0 x1) b h
    = Spec.stC (Spec.kF (par x1 1 h)) (Spec.cD (par x1 1 h)) (Spec.lo (sl (val_main_v124 x0) b h)) (Spec.lo (sl (val_main_v125 x0) b h)) Spec.st0 := by
  funext i e; unfold Spec.stC Spec.lo Spec.st0 sl sta
  simp only [← kd_b, ← cd_b]
  pointwise [val_main_v197, val_main_v196, val_main_v174, val_main_v173, val_main_v168, val_main_v195, val_main_v194, val_main_v193, val_main_v192, val_main_v172, val_main_v171, val_main_v167, val_main_v191, val_main_v190, val_main_v189, val_main_v188, val_main_v129, val_main_v128, val_main_v20, val_main_cst_2]
theorem o0_b (b : Fin 16) (h : Fin 4) : ch (val_main_v187 x0 x1) b h
    = Spec.outC (Spec.maskF (par x1 1 h)) (Spec.qF (par x1 1 h)) (Spec.lo (sl (val_main_v123 x0) b h)) (Spec.lo (sl (val_main_v124 x0) b h))
        (Spec.lo (sl (val_main_v125 x0) b h)) Spec.st0 := by
  funext i e; unfold Spec.outC Spec.lo Spec.st0 sl ch
  simp only [← mask_b, ← qd_b]
  pointwise [val_main_v187, val_main_v186, val_main_v185, val_main_v184, val_main_v183, val_main_v182, val_main_v181, val_main_v170, val_main_v169, val_main_v166, val_main_v129, val_main_v128, val_main_v20, val_main_cst_2, val_main_v180, val_main_v179, val_main_v178, val_main_v177, val_main_v176, val_main_v175, val_main_v172, val_main_v171, val_main_v167, val_main_v174, val_main_v173, val_main_v168]
  congr 1
  · exact Finset.sum_congr rfl fun x _ => mul_comm _ _
  · exact Finset.sum_congr rfl fun x _ => mul_comm _ _
theorem st2_b (b : Fin 16) (h : Fin 4) : sta (val_main_v226 x0 x1) b h = Spec.sF (par x1 1 h) (sl (val_main_v124 x0) b h) (sl (val_main_v125 x0) b h) := by
  unfold Spec.sF
  rw [← st1_b]
  funext i e; unfold Spec.stC Spec.hi sl sta
  simp only [← kd_b, ← cd_b]
  pointwise [val_main_v226, val_main_v225, val_main_v203, val_main_v202, val_main_v168, val_main_v224, val_main_v223, val_main_v222, val_main_v221, val_main_v201, val_main_v200, val_main_v167, val_main_v220, val_main_v219, val_main_v218, val_main_v217]
theorem o1_b (b : Fin 16) (h : Fin 4) : ch (val_main_v216 x0 x1) b h
    = Spec.outC (Spec.maskF (par x1 1 h)) (Spec.qF (par x1 1 h)) (Spec.hi (sl (val_main_v123 x0) b h)) (Spec.hi (sl (val_main_v124 x0) b h))
        (Spec.hi (sl (val_main_v125 x0) b h)) (sta (val_main_v197 x0 x1) b h) := by
  funext i e; unfold Spec.outC Spec.hi sl sta ch
  simp only [← mask_b, ← qd_b]
  pointwise [val_main_v216, val_main_v215, val_main_v214, val_main_v213, val_main_v212, val_main_v211, val_main_v210, val_main_v199, val_main_v198, val_main_v166, val_main_v209, val_main_v208, val_main_v207, val_main_v206, val_main_v205, val_main_v204, val_main_v201, val_main_v200, val_main_v167, val_main_v203, val_main_v202, val_main_v168]
  congr 1
  · exact Finset.sum_congr rfl fun x _ => mul_comm _ _
  · exact Finset.sum_congr rfl fun x _ => mul_comm _ _
theorem o_b (b : Fin 16) (h : Fin 4) : sl (val_main_v227 x0 x1) b h
    = Spec.oF (par x1 1 h) (sl (val_main_v123 x0) b h) (sl (val_main_v124 x0) b h) (sl (val_main_v125 x0) b h) := by
  funext n e
  unfold Spec.oF
  rw [← st1_b]
  simp only [← o0_b, ← o1_b]
  unfold sl ch
  pointwise [val_main_v227]

/-! ## The rows and the states -/

theorem ob_eq (b : Fin 16) (h : Fin 4) : sl (val_main_v228 x0 x1) b h
    = Spec.oB (par x1 1 h) (sl (val_main_v10 x0) b h) (sl (val_main_v11 x0) b h) (sl (val_main_v12 x0) b h) := by
  funext n e
  rw [← Spec.oF_flip, ← qr_eq, ← kr_eq, ← vr_eq, ← o_b]
  unfold sl
  pointwise [val_main_v228]
  rfl
theorem y_f (b : Fin 16) (n : Fin 256) (h : Fin 4) (d : Fin 128) : val_main_v241 x0 x1 (ix4 b n h d)
    = Spec.gated (sl (val_main_v229 x0) b h) (sl (val_main_v122 x0 x1) b h) n d := by
  unfold Spec.gated sl Spec.w Ideal.logistic
  pointwise [val_main_v241, val_main_v240, val_main_v239, val_main_v238, val_main_v237, val_main_v236, val_main_cst_15, val_main_v235, val_main_v234, val_main_cst_14, val_main_v233, val_main_v232, val_main_cst_13, val_main_v231, val_main_v230, val_main_call6_v5, val_main_call6_v3, val_main_call6_v1, val_main_call6_v0, val_main_call6_v2, val_main_call6_cst, val_main_call6_v4, val_main_call6_cst_0]
theorem y_b (b : Fin 16) (n : Fin 256) (h : Fin 4) (d : Fin 128) : val_main_v254 x0 x1 (ix4 b n h d)
    = Spec.gated (sl (val_main_v242 x0) b h) (sl (val_main_v228 x0 x1) b h) n d := by
  unfold Spec.gated sl Spec.w Ideal.logistic
  pointwise [val_main_v254, val_main_v253, val_main_v252, val_main_v251, val_main_v250, val_main_v249, val_main_cst_18, val_main_v248, val_main_v247, val_main_cst_17, val_main_v246, val_main_v245, val_main_cst_16, val_main_v244, val_main_v243, val_main_call7_v5, val_main_call7_v3, val_main_call7_v1, val_main_call7_v0, val_main_call7_v2, val_main_call7_cst, val_main_call7_v4, val_main_call7_cst_0]
theorem y_eq (b : Fin 16) (n : Fin 256) (h : Fin 4) (d : Fin 128) : val_main_v255 x0 x1 (ix4 b n h d)
    = Spec.yy (tab x0) (par x1) b h n d := by
  have e : val_main_v255 x0 x1 (ix4 b n h d) = val_main_v241 x0 x1 (ix4 b n h d) + val_main_v254 x0 x1 (ix4 b n h d) := by
    pointwise [val_main_v255]
  rw [e, y_f, y_b, ob_eq, o_f, q_eq, k_eq, v_eq, gf_eq, gb_eq]
  rfl

/-- The reference's first result. -/
theorem first : val_main_v259 x0 x1 = G6 x0 x1 := by
  funext i
  obtain ⟨r, d, rfl⟩ : ∃ a b, i = ix2 a b := ⟨i 0, i 1, by funext k; fin_cases k <;> rfl⟩
  unfold G6
  pointwise [val_main_v259, val_main_v258, val_main_cst_19, val_main_v257, val_main_v256]
  by_cases hr : r.val < 4096
  · rw [dif_pos hr, dif_pos hr, y_eq]
  · rw [dif_neg hr, dif_neg hr]
/-- The reference's second result. -/
theorem second : val_main_v262 x0 x1 = G7 x0 x1 := by
  funext i
  obtain ⟨b, z, h, d, e, rfl⟩ : ∃ a b c d e, i = ix5 a b c d e :=
    ⟨i 0, i 1, i 2, i 3, i 4, by funext k; fin_cases k <;> rfl⟩
  show _ = Spec.ss (tab x0) (par x1) b z h d e
  have hf := congrFun (congrFun (st2_f x0 x1 b h) d) e
  have hb := congrFun (congrFun (st2_b x0 x1 b h) d) e
  rw [k_eq, v_eq] at hf
  rw [kr_eq, vr_eq, Spec.sF_flip, k_eq, v_eq] at hb
  unfold sta at hf hb
  unfold Spec.ss
  rw [apply_ite (fun f : Fin 128 → Fin 128 → EReal => f d e), ← hf, ← hb]
  pointwise [val_main_v262, val_main_v261, val_main_v260]
  by_cases hz : z.val = 0
  · rw [dif_pos (by omega), if_pos hz]
  · rw [dif_neg (by omega), if_neg hz]

end Cert.Proof.Ref
end

end
-- ==== Proof.Retention.lean ====
module

public import proofs.«01_k».proof.Defs
public import proofs.«01_k».proof.Proof.Gen.Kernel.Frame
public import proofs.«01_k».proof.Proof.Gen.KernelIdeal.Frame
public import proofs.«01_k».proof.Proof.Ref
public import Idealize.ShloMosaic.Lib.Quiescent

/-! The five claims about the retention call. -/

@[expose] public section

noncomputable section

namespace Cert.Proof.Retention

open Idealize.ShloMosaic Idealize.SL.Sem
open Cert.Proof.Arrays (G6 G7 final6 final7)

/-- The kernel runs, ends with its arguments unchanged and every semaphore at zero. -/
theorem frame : Cert.quiescent_Kernel := fun m ρ _ => Cert.Kernel.Gen.frame m ρ
/-- So does its idealization. -/
theorem frameIdeal : Cert.quiescent_KernelIdeal := fun m ρ _ => Cert.KernelIdeal.Gen.frame m ρ
/-- So does the reference. -/
theorem frameReference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)
/-- The idealization rewrites nothing. -/
theorem preserves : Cert.preserves_Kernel_KernelIdeal := trivial

/-- Both programs end with the same two arrays: the gated rows of every batch entry and head (zeros past the prompt), and
    the last states of the two directions. -/
theorem algebraic : Cert.algebraic_KernelIdeal_ReferenceIdeal := by
  intro m ρ m' ρ' _ hagree
  refine ⟨fun c => G6 (Cert.Proof.Arrays.X m c) (Cert.Proof.Arrays.D m c), fun c => G7 (Cert.Proof.Arrays.X m c) (Cert.Proof.Arrays.D m c), ?_, ?_⟩
  · exact (θ_run Cert.KernelIdeal.defs _ _).mono
      (fun _ h c => ⟨(h c).1.trans (final6 m c), (h c).2.1.trans (final7 m c), (h c).2.2⟩)
      (Cert.KernelIdeal.Value.run_blocks (F := Ideal) m ρ)
  · refine (θ_run Cert.ReferenceIdeal.defs _ _).mono (fun _ h c => ⟨?_, ?_, (h c).2.2⟩)
      (Cert.ReferenceIdeal.Value.run (F := Ideal) m' ρ')
    · refine (h c).1.trans ((Cert.ReferenceIdeal.Read.val_main_v259_eq (StableHlo.launchContents m' c)).trans ?_)
      rw [Ref.first]
      exact congrArg₂ G6 (hagree c).1 (hagree c).2
    · refine (h c).2.1.trans ((Cert.ReferenceIdeal.Read.val_main_v262_eq (StableHlo.launchContents m' c)).trans ?_)
      rw [Ref.second]
      exact congrArg₂ G7 (hagree c).1 (hagree c).2

end Cert.Proof.Retention
end

end
-- ==== Proof.Layer.lean ====
module

public import proofs.«01_k».proof.Proof.Spec

/-! The layer's arithmetic on one row of tokens: modulated rows, gated feed-forward sums, and layer normalisation. -/

@[expose] public section

noncomputable section

namespace Cert.Proof.Layer

open Idealize.ShloMosaic Cert.Proof.Spec

/-- A row scaled by one plus `sc` and shifted by `sh`. -/
def hid {d : ℕ} (x sc sh : Fin d → EReal) : Fin d → EReal := fun k => x k * (1 + sc k) + sh k
/-- A row times column `f` of a matrix. -/
def dot {d n : ℕ} (h : Fin d → EReal) (W : Fin d → Fin n → EReal) (f : Fin n) : EReal := ∑ k, h k * W k f
/-- The gated activation of column `f`. -/
def act {d n : ℕ} (h : Fin d → EReal) (W1 W3 : Fin d → Fin n → EReal) (f : Fin n) : EReal :=
  dot h W1 f * Ideal.logistic (dot h W1 f) * dot h W3 f
/-- The gated feed-forward layer. -/
def swiglu {d n p : ℕ} (h : Fin d → EReal) (W1 W3 : Fin d → Fin n → EReal) (W2 : Fin n → Fin p → EReal) (e : Fin p) : EReal :=
  ∑ f, act h W1 W3 f * W2 f e
/-- The mean of a row of 1024. -/
def mean (z : Fin 1024 → EReal) : EReal := Ideal.div (∑ k, z k) (w 0x44800000#32)
/-- The mean of the squared distances from the mean. -/
def var (z : Fin 1024 → EReal) : EReal := Ideal.div (∑ k, (z k - mean z) * (z k - mean z)) (w 0x44800000#32)
/-- Layer normalisation with gain `g` and bias `b`. -/
def norm (z g b : Fin 1024 → EReal) (k : Fin 1024) : EReal :=
  (z k - mean z) * Ideal.rsqrt (var z + w 0x358637BD#32) * g k + b k
/-- A residual row with the gated update `u` added. -/
def res (x gt u : Fin 1024 → EReal) : Fin 1024 → EReal := fun k => w 0x3FB504F3#32 * x k + gt k * u k
/-- One row of the feed-forward sublayer. -/
def ffn (x sh sc gt g b : Fin 1024 → EReal) (W1 W3 : Fin 1024 → Fin 2816 → EReal) (W2 : Fin 2816 → Fin 1024 → EReal) :
    Fin 1024 → EReal :=
  norm (res x gt (swiglu (hid x sc sh) W1 W3 W2)) g b

end Cert.Proof.Layer
end

end
-- ==== Proof.FfnBlock.lean ====
module

public import proofs.«01_k».proof.Proof.Gen.Kernel3Ideal.Value
public import proofs.«01_k».proof.Proof.Layer
public import Idealize.ShloMosaic.Lib.Pipeline.ValueKit
public import Idealize.ShloMosaic.Lib.Pipeline.ReadBack
public import Idealize.ShloMosaic.Lib.Pointwise

/-! The feed-forward call's blocks: what a grid point leaves in the modulated rows, in the sum and in the result. -/

@[expose] public section

set_option maxRecDepth 16384

noncomputable section

namespace Cert.Proof.FfnBlock

open Cert.Kernel3Ideal Cert.Kernel3Ideal.Gen Idealize.ShloMosaic Idealize.ShloMosaic.TcCoe Idealize.ShloMosaic.Tactic Idealize.SL.Sem
open Idealize.ShloMosaic.Pointwise
open Idealize.ShloMosaic.Pipeline (Dat)
open Cert.Proof.Layer

/-- The rows of a matrix. -/
abbrev tab {a b : ℕ} (x : (⟨2, ![a, b]⟩ : Shape).Idx → EReal) : Fin a → Fin b → EReal := fun i j => x (ix2 i j)

/-- The modulated rows a block starts with. -/
theorem pay3 (x : Vec Ideal S1024x1024 .f32) (y z : Vec Ideal S1x1024 .f32) (i n : Fin 1024) :
    k0_pay3 x y z (ix2 i n) = hid (tab x i) (tab y 0) (tab z 0) n := by
  pointwise [k0_pay3]
  rfl
/-- The activations of a chunk of 256 columns. -/
theorem pay5 (x : Vec Ideal S1024x1024 .bf16) (y z : Vec Ideal S1024x256 .f32) (i : Fin 1024) (n : Fin 256) :
    k0_pay5 x y z (ix2 i n) = act (tab x i) (tab y) (tab z) n := by
  pointwise [k0_pay5]
  rfl
/-- The sum with a chunk added. -/
theorem pay1 (a : Vec Ideal S1024x1024 .f32) (x : FVec Ideal S1024x256 .bf16) (y : Vec Ideal S256x1024 .f32) (i n : Fin 1024) :
    k0_pay1 a x y (ix2 i n) = a (ix2 i n) + dot (tab x i) (tab y) n := by
  pointwise [k0_pay1]
  rfl
/-- The sum starts at zero. -/
theorem pay4 (i n : Fin 1024) : k0_pay4 (F := Ideal) (ix2 i n) = (0 : EReal) := by
  pointwise [k0_pay4]
/-- The normalised rows. -/
theorem pay2 (x : Vec Ideal S1024x1024 .f32) (gt : Vec Ideal S1x1024 .f32) (a : Vec Ideal S1024x1024 .f32)
    (g b : Vec Ideal S1x1024 .f32) (i n : Fin 1024) :
    k0_pay2 x gt a g b (ix2 i n) = norm (res (tab x i) (tab gt 0) (tab a i)) (tab g 0) (tab b 0) n := by
  pointwise [k0_pay2]
  rfl

variable (m : (ℓ : Loc nD τ sig) → Buf (Elt Ideal) ℓ)

theorem off1_inb : ∀ (t : Fin cfg0.N) (a : Fin 2), k0_off1 (grid0.coords t) a + S1x1024.size a ≤ S16x1024.size a :=
  (by decide +kernel : ∀ (t : Fin grid0.N) (a : Fin 2), k0_off1 (grid0.coords t) a + S1x1024.size a ≤ S16x1024.size a)
/-- The row of a modulation block that a point reads. -/
abbrev row (x : Vec Ideal S16x1024 .f32) (t : Fin cfg0.N) : Vec Ideal S1x1024 .f32 :=
  View.ld x (Rect.unit (s := S16x1024) (k0_off1 (grid0.coords t)) S1x1024.size (off1_inb t))

theorem hA (c : Dev nD) (t : Fin cfg0.N) (h0 : t.val % 11 = 0) :
    (outsAt0 m c t.val t.isLt).2.1 = k0_pay3 (iblk m c 0 t) (row (iblk m c 2 t) t) (row (iblk m c 1 t) t) := by
  rw [outsAt0_A m c t h0 (by omega)]
  dsimp only
  frame_out

theorem aA (c : Dev nD) (t : Fin cfg0.N) (h0 : t.val % 11 = 0) :
    (outsAt0 m c t.val t.isLt).2.2 = k0_pay1 k0_pay4 (k0_pay5 (outsAt0 m c t.val t.isLt).2.1 (iblk m c 6 t) (iblk m c 7 t)) (iblk m c 8 t) := by
  rw [hA m c t h0, outsAt0_A m c t h0 (by omega)]
  dsimp only
  frame_out

theorem hB (c : Dev nD) (t : Fin cfg0.N) (h0 : ¬ t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]; dsimp only [sout0_C_0]
  · rw [outsAt0_B m c t h0 h1]; dsimp only [sout0_B_0]

theorem aB (c : Dev nD) (t : Fin cfg0.N) (h0 : ¬ t.val % 11 = 0) :
    (outsAt0 m c t.val t.isLt).2.2 = k0_pay1 (outsAt0 m c (t.val - 1) (Nat.lt_of_le_of_lt (Nat.sub_le _ _) t.isLt)).2.2
      (k0_pay5 (outsAt0 m c t.val t.isLt).2.1 (iblk m c 6 t) (iblk m c 7 t)) (iblk m c 8 t) := by
  rw [hB m c t h0]
  by_cases h1 : t.val % 11 = 10
  · rw [outsAt0_C m c t h0 h1]
    dsimp only
    frame_out
    simp only [read_unread_whole]
  · rw [outsAt0_B m c t h0 h1]
    dsimp only
    frame_out
    simp only [read_unread_whole]

theorem oC (c : Dev nD) (t : Fin cfg0.N) (h1 : t.val % 11 = 10) :
    (outsAt0 m c t.val t.isLt).1 = k0_pay2 (iblk m c 0 t) (row (iblk m c 3 t) t) (outsAt0 m c t.val t.isLt).2.2 (iblk m c 4 t) (iblk m c 5 t) := by
  rw [aB m c t (by omega), hB m c t (by omega), outsAt0_C m c t (by omega) h1]
  dsimp only
  frame_out
  simp only [read_unread_whole]
  rfl

end Cert.Proof.FfnBlock
end

end
-- ==== Proof.FfnArrays.lean ====
module

public import proofs.«01_k».proof.Proof.FfnBlock

/-! The feed-forward call's result array at the ideal values, row by row. -/

@[expose] public section

set_option maxRecDepth 16384

noncomputable section

namespace Cert.Proof.FfnArrays

open Cert.Kernel3Ideal Cert.Kernel3Ideal.Gen Idealize.ShloMosaic Idealize.ShloMosaic.TcCoe Idealize.ShloMosaic.Tactic Idealize.SL.Sem
open Idealize.ShloMosaic.Pipeline (Dat)
open Cert.Proof.Layer Cert.Proof.FfnBlock

/-- The modulation row of a token: row 0 for the prompt's, then one row for each sample. -/
def grp (i : Fin 6144) : Fin 16 := ⟨i.val / 1024 - 3, by omega⟩
/-- Section `s` of a modulation row. -/
def sec (x : Vec Ideal S16x6144 .f32) (s : Fin 6) (g : Fin 16) : Fin 1024 → EReal := fun k => x (ix2 g ⟨s.val * 1024 + k.val, by omega⟩)

/-- The result: the feed-forward sublayer of every row. -/
def G (x : Vec Ideal S6144x1024 .f32) (mo : Vec Ideal S16x6144 .f32) (g b : Vec Ideal S1024 .f32) (W1 W3 : Vec Ideal S1024x2816 .f32)
    (W2 : Vec Ideal S2816x1024 .f32) : Vec Ideal S6144x1024 .f32 := fun i =>
  ffn (tab x (i 0)) (sec mo 3 (grp (i 0))) (sec mo 4 (grp (i 0))) (sec mo 5 (grp (i 0))) (fun k => g (ix1 k)) (fun k => b (ix1 k))
    (tab W1) (tab W3) (tab W2) (i 1)

variable (m : (ℓ : Loc nD τ sig) → Buf (Elt Ideal) ℓ)

/-- The argument arrays. -/
abbrev X0 (c : Dev nD) : Vec Ideal S6144x1024 .f32 := m ((c : Thread nD τ).loc main_arg0)
abbrev X1 (c : Dev nD) : Vec Ideal S16x6144 .f32 := m ((c : Thread nD τ).loc main_arg1)
abbrev X2 (c : Dev nD) : Vec Ideal S1024 .f32 := m ((c : Thread nD τ).loc main_arg2)
abbrev X3 (c : Dev nD) : Vec Ideal S1024 .f32 := m ((c : Thread nD τ).loc main_arg3)
abbrev X4 (c : Dev nD) : Vec Ideal S1024x2816 .f32 := m ((c : Thread nD τ).loc main_arg4)
abbrev X5 (c : Dev nD) : Vec Ideal S1024x2816 .f32 := m ((c : Thread nD τ).loc main_arg5)
abbrev X6 (c : Dev nD) : Vec Ideal S2816x1024 .f32 := m ((c : Thread nD τ).loc main_arg6)

theorem e0 : ∀ t : Fin cfg0.N, win0_0.index t = ![t.val / 11, 0] :=
  (by decide +kernel : ∀ t : Fin grid0.N, win0_0.index t = ![t.val / 11, 0])
theorem e1 : ∀ t : Fin cfg0.N, win0_1.index t = ![0, 3] := (by decide +kernel : ∀ t : Fin grid0.N, win0_1.index t = ![0, 3])
theorem e2 : ∀ t : Fin cfg0.N, win0_2.index t = ![0, 4] := (by decide +kernel : ∀ t : Fin grid0.N, win0_2.index t = ![0, 4])
theorem e3 : ∀ t : Fin cfg0.N, win0_3.index t = ![0, 5] := (by decide +kernel : ∀ t : Fin grid0.N, win0_3.index t = ![0, 5])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, t.val % 11] := (by decide +kernel : ∀ t : Fin grid0.N, win0_6.index t = ![0, t.val % 11])
theorem e7 : ∀ t : Fin cfg0.N, win0_7.index t = ![0, t.val % 11] := (by decide +kernel : ∀ t : Fin grid0.N, win0_7.index t = ![0, t.val % 11])
theorem e8 : ∀ t : Fin cfg0.N, win0_8.index t = ![t.val % 11, 0] := (by decide +kernel : ∀ t : Fin grid0.N, win0_8.index t = ![t.val % 11, 0])
theorem e9 : ∀ t : Fin cfg0.N, win0_9.index t = ![t.val / 11, 0] := (by decide +kernel : ∀ t : Fin grid0.N, win0_9.index t = ![t.val / 11, 0])

theorem hN (t : Fin cfg0.N) : t.val < 66 := t.isLt

/-- The token of a block's row. -/
def tok (t : Fin cfg0.N) (r : Fin 1024) : Fin 6144 := ⟨t.val / 11 * 1024 + r.val, by have := hN t; omega⟩
/-- The hidden column of a chunk's column. -/
def fcol (t : Fin cfg0.N) (n : Fin 256) : Fin 2816 := ⟨t.val % 11 * 256 + n.val, by omega⟩

theorem blk0 (c : Dev nD) (t : Fin cfg0.N) (r d : Fin 1024) : iblk m c 0 t (ix2 r d) = X0 m c (ix2 (tok t r) d) := by
  blk_simp [iblk]
  rw [V_main_arg0]
  congr 1
  unfold tok
  blk_ext [e0 t]
theorem blk1 (c : Dev nD) (t : Fin cfg0.N) (r : Fin 16) (d : Fin 1024) : iblk m c 1 t (ix2 r d) = sec (X1 m c) 3 r d := by
  unfold sec
  blk_simp [iblk]
  rw [V_main_arg1]
  congr 1
  blk_ext [e1 t]
theorem blk2 (c : Dev nD) (t : Fin cfg0.N) (r : Fin 16) (d : Fin 1024) : iblk m c 2 t (ix2 r d) = sec (X1 m c) 4 r d := by
  unfold sec
  blk_simp [iblk]
  rw [V_main_arg1]
  congr 1
  blk_ext [e2 t]
theorem blk3 (c : Dev nD) (t : Fin cfg0.N) (r : Fin 16) (d : Fin 1024) : iblk m c 3 t (ix2 r d) = sec (X1 m c) 5 r d := by
  unfold sec
  blk_simp [iblk]
  rw [V_main_arg1]
  congr 1
  blk_ext [e3 t]
theorem blk4 (c : Dev nD) (t : Fin cfg0.N) (d : Fin 1024) : iblk m c 4 t (ix2 0 d) = X2 m c (ix1 d) := by
  blk_simp [iblk]
  have e : V m c main_v0 = shapeCast S1x1024 (X2 m c) shapeCasts_S1024_S1x1024 := by
    unfold V; after_results; rfl
  have e' : ((win0_4.blk t).view.emb (ix2 0 d)) = (ix2 0 d : S1x1024.Idx) := by blk_ext [e4 t]
  rw [e, e']
  pointwise
theorem blk5 (c : Dev nD) (t : Fin cfg0.N) (d : Fin 1024) : iblk m c 5 t (ix2 0 d) = X3 m c (ix1 d) := by
  blk_simp [iblk]
  have e : V m c main_v1 = shapeCast S1x1024 (X3 m c) shapeCasts_S1024_S1x1024 := by
    unfold V; after_results; rfl
  have e' : ((win0_5.blk t).view.emb (ix2 0 d)) = (ix2 0 d : S1x1024.Idx) := by blk_ext [e5 t]
  rw [e, e']
  pointwise
theorem blk6 (c : Dev nD) (t : Fin cfg0.N) (d : Fin 1024) (n : Fin 256) : iblk m c 6 t (ix2 d n) = X4 m c (ix2 d (fcol t n)) := by
  blk_simp [iblk]
  rw [V_main_arg4]
  congr 1
  unfold fcol
  blk_ext [e6 t]
theorem blk7 (c : Dev nD) (t : Fin cfg0.N) (d : Fin 1024) (n : Fin 256) : iblk m c 7 t (ix2 d n) = X5 m c (ix2 d (fcol t n)) := by
  blk_simp [iblk]
  rw [V_main_arg5]
  congr 1
  unfold fcol
  blk_ext [e7 t]
theorem blk8 (c : Dev nD) (t : Fin cfg0.N) (n : Fin 256) (d : Fin 1024) : iblk m c 8 t (ix2 n d) = X6 m c (ix2 (fcol t n) d) := by
  blk_simp [iblk]
  rw [V_main_arg6]
  congr 1
  unfold fcol
  blk_ext [e8 t]

theorem off : ∀ t : Fin cfg0.N, k0_off1 (grid0.coords t) = ![t.val / 11 - 3, 0] :=
  (by decide +kernel : ∀ t : Fin grid0.N, k0_off1 (grid0.coords t) = ![t.val / 11 - 3, 0])

/-- The row a point reads is the row of its tokens. -/
theorem row_eq (t : Fin cfg0.N) (r : Fin 1024) (x : Vec Ideal S16x1024 .f32) (d : Fin 1024) :
    row x t (ix2 0 d) = x (ix2 (grp (tok t r)) d) := by
  have := hN t
  pointwise [row]
  congr 2 <;> apply Fin.ext <;> simp only [off, grp, tok, Matrix.cons_val_zero, Matrix.cons_val_one] <;> first | omega | trace_state

/-- The modulated rows, the same at every point of a block of tokens. -/
theorem hid_eq (c : Dev nD) (n : ℕ) : ∀ (h : n < cfg0.N) (r d : Fin 1024), (outsAt0 m c n h).2.1 (ix2 r d)
    = hid (tab (X0 m c) (tok ⟨n, h⟩ r)) (sec (X1 m c) 4 (grp (tok ⟨n, h⟩ r))) (sec (X1 m c) 3 (grp (tok ⟨n, h⟩ r))) d := by
  induction n with
  | zero =>
    intro h r d
    rw [hA m c ⟨0, h⟩ rfl, pay3]
    unfold hid tab
    rw [row_eq _ r, row_eq _ r, blk0, blk1, blk2]
  | succ n ih =>
    intro h r d
    by_cases h0 : (n + 1) % 11 = 0
    · rw [hA m c ⟨n + 1, h⟩ h0, pay3]
      unfold hid tab
      rw [row_eq _ r, row_eq _ r, blk0, blk1, blk2]
    · rw [hB m c ⟨n + 1, h⟩ h0]
      have e : tok ⟨n + 1, h⟩ r = tok ⟨n, by omega⟩ r := Fin.ext (by unfold tok; dsimp only; omega)
      rw [e]
      exact ih (by omega) r d

/-- What a point adds to the sum: its chunk of hidden columns. -/
theorem part_eq (c : Dev nD) (t : Fin cfg0.N) (r n : Fin 1024) :
    dot (tab (k0_pay5 (outsAt0 m c t.val t.isLt).2.1 (iblk m c 6 t) (iblk m c 7 t)) r) (tab (iblk m c 8 t)) n
      = ∑ f : Fin 256, act (hid (tab (X0 m c) (tok t r)) (sec (X1 m c) 4 (grp (tok t r))) (sec (X1 m c) 3 (grp (tok t r))))
          (tab (X4 m c)) (tab (X5 m c)) (fcol t f) * tab (X6 m c) (fcol t f) n := by
  refine Finset.sum_congr rfl fun f _ => ?_
  have eh : tab (outsAt0 m c t.val t.isLt).2.1 r = hid (tab (X0 m c) (tok t r)) (sec (X1 m c) 4 (grp (tok t r))) (sec (X1 m c) 3 (grp (tok t r))) :=
    funext fun d => hid_eq m c t.val t.isLt r d
  have e1 : tab (k0_pay5 (outsAt0 m c t.val t.isLt).2.1 (iblk m c 6 t) (iblk m c 7 t)) r f
      = act (hid (tab (X0 m c) (tok t r)) (sec (X1 m c) 4 (grp (tok t r))) (sec (X1 m c) 3 (grp (tok t r))))
          (tab (X4 m c)) (tab (X5 m c)) (fcol t f) := by
    refine (pay5 _ _ _ r f).trans ?_
    rw [eh]
    unfold act dot tab
    simp only [blk6, blk7]
  rw [e1]
  unfold tab
  rw [blk8]

/-- The sum at the last point of a block of tokens. -/
theorem acc_eq (c : Dev nD) (t : Fin cfg0.N) (h : t.val % 11 = 10) (r n : Fin 1024) :
    (outsAt0 m c t.val t.isLt).2.2 (ix2 r n)
      = swiglu (hid (tab (X0 m c) (tok t r)) (sec (X1 m c) 4 (grp (tok t r))) (sec (X1 m c) 3 (grp (tok t r))))
          (tab (X4 m c)) (tab (X5 m c)) (tab (X6 m c)) n := by
  rw [Pipeline.eq_sum_fin_of_reset_step_apply_of_flush (fun n h => (outsAt0 m c n h).2.2) 11 (fun _ => (0 : EReal))
    (fun t j => ∑ f : Fin 256, act (hid (tab (X0 m c) (tok t (j 0))) (sec (X1 m c) 4 (grp (tok t (j 0)))) (sec (X1 m c) 3 (grp (tok t (j 0)))))
          (tab (X4 m c)) (tab (X5 m c)) (fcol t f) * tab (X6 m c) (fcol t f) (j 1))
    (fun t h j => by
      rw [aA m c t h]
      obtain ⟨i, k, rfl⟩ : ∃ i k : Fin 1024, j = ix2 i k := ⟨j 0, j 1, eq_ix2 j⟩
      rw [pay1, part_eq, pay4]; rfl)
    (fun t h j => by
      rw [aB m c t h]
      obtain ⟨i, k, rfl⟩ : ∃ i k : Fin 1024, j = ix2 i k := ⟨j 0, j 1, eq_ix2 j⟩
      rw [pay1, part_eq]; rfl) t h (ix2 r n), zero_add]
  have := hN t
  unfold swiglu
  refine Fin.sum_mul_add_congr fun s f hl => ?_
  have e1 : tok ⟨11 * (t.val / 11) + s.val, Pipeline.run_point_lt_of_flush t h s⟩ r = tok t r :=
    Fin.ext (by unfold tok; dsimp only; omega)
  have e2 : fcol ⟨11 * (t.val / 11) + s.val, Pipeline.run_point_lt_of_flush t h s⟩ f = ⟨s.val * 256 + f.val, hl⟩ :=
    Fin.ext (by unfold fcol; dsimp only; omega)
  rw [← e2, ← e1]
  rfl

/-- The result array. -/
theorem final (c : Dev nD) : (dats m 0 c).arrAt 9 cfg0.N = G (X0 m c) (X1 m c) (X2 m c) (X3 m c) (X4 m c) (X5 m c) (X6 m c) := by
  refine (dats m 0 c).arrAt_eq_of_covers 9 (G (X0 m c) (X1 m c) (X2 m c) (X3 m c) (X4 m c) (X5 m c) (X6 m c)) (by decide +kernel) fun t hf y => ?_
  have h10 : t.val % 11 = 10 := (flush0_9 t).mp hf
  blk_simp
  rw [after0_9, oC m c t h10]
  obtain ⟨r, n, rfl⟩ : ∃ r n : Fin 1024, y = ix2 r n := ⟨y 0, y 1, eq_ix2 y⟩
  have e' : ((win0_9.blk t).view.emb (ix2 r n)) = (ix2 (tok t r) n : S6144x1024.Idx) := by unfold tok; blk_ext [e9 t]
  rw [e']
  refine (pay2 _ _ _ _ _ r n).trans ?_
  have a0 : tab (iblk m c 0 t) r = tab (X0 m c) (tok t r) := funext fun d => blk0 m c t r d
  have a3 : tab (row (iblk m c 3 t) t) 0 = sec (X1 m c) 5 (grp (tok t r)) := funext fun d => (row_eq t r _ d).trans (blk3 m c t _ d)
  have a4 : tab (iblk m c 4 t) 0 = fun k => X2 m c (ix1 k) := funext fun d => blk4 m c t d
  have a5 : tab (iblk m c 5 t) 0 = fun k => X3 m c (ix1 k) := funext fun d => blk5 m c t d
  rw [a0, a3, a4, a5, (funext fun n => acc_eq m c t h10 r n : tab (outsAt0 m c t.val t.isLt).2.2 r = _)]
  rfl

end Cert.Proof.FfnArrays
end

end
-- ==== Proof.FfnRef.lean ====
module

public import proofs.«01_k».proof.Proof.Gen.Reference3Ideal
public import proofs.«01_k».proof.Proof.Gen.Reference3Ideal.Read
public import proofs.«01_k».proof.Proof.FfnArrays

/-! The feed-forward reference's result, stage by stage, for the prompt's rows and for the samples' rows. -/

@[expose] public section

set_option maxRecDepth 16384

noncomputable section

namespace Cert.Proof.FfnRef

open Cert.Reference3Ideal Cert.Reference3Ideal.Gen Cert.Reference3Ideal.Read Idealize.ShloMosaic Idealize.ShloMosaic.TcCoe
open Idealize.ShloMosaic.Tactic Idealize.SL.Sem
open Cert.Proof.Layer Cert.Proof.FfnBlock
open Cert.Proof.FfnArrays (grp sec G)

variable (x0 : Vec Ideal S6144x1024 .f32) (x1 : Vec Ideal S16x6144 .f32) (x2 x3 : Vec Ideal S1024 .f32)
  (x4 x5 : Vec Ideal S1024x2816 .f32) (x6 : Vec Ideal S2816x1024 .f32)

/-- The rows of an array of three axes. -/
abbrev fib {a b n : ℕ} (x : (⟨3, ![a, b, n]⟩ : Shape).Idx → EReal) (i : Fin a) (j : Fin b) : Fin n → EReal := fun k => x (ix3 i j k)
/-- A prompt token's row. -/
def tokP (b : Fin 16) (n : Fin 256) : Fin 6144 := ⟨b.val * 256 + n.val, by omega⟩
/-- A sample token's row. -/
def tokS (b : Fin 2) (n : Fin 1024) : Fin 6144 := ⟨4096 + (b.val * 1024 + n.val), by omega⟩
/-- A sample's modulation row. -/
def modS (b : Fin 2) : Fin 16 := ⟨1 + b.val, by omega⟩

theorem hP (b : Fin 16) (n : Fin 256) (d : Fin 1024) : val_main_v17 x0 x1 (ix3 b n d) = hid (tab x0 (tokP b n)) (sec x1 4 0) (sec x1 3 0) d := by
  unfold hid tab sec tokP
  pointwise [val_main_v17, val_main_v16, val_main_v15, val_main_v7, val_main_v3, val_main_v2, val_main_v14, val_main_v13, val_main_v12, val_main_v11, val_main_v8, val_main_v10, val_main_cst, val_main_v1, val_main_v0]

theorem aP (b : Fin 16) (n : Fin 256) (f : Fin 2816) : val_main_v21 x0 x1 x4 x5 (ix3 b n f) = act (fib (val_main_v17 x0 x1) b n) (tab x4) (tab x5) f := by
  unfold act dot tab fib Ideal.logistic
  pointwise [val_main_v21, val_main_v20, val_main_v19, val_main_call0_v5, val_main_call0_v3, val_main_call0_v1, val_main_call0_v0, val_main_v18, val_main_call0_v2, val_main_call0_cst, val_main_call0_v4, val_main_call0_cst_0]

theorem sP (b : Fin 16) (n : Fin 256) (e : Fin 1024) : val_main_v22 x0 x1 x4 x5 x6 (ix3 b n e) = swiglu (fib (val_main_v17 x0 x1) b n) (tab x4) (tab x5) (tab x6) e := by
  unfold swiglu
  pointwise [val_main_v22]
  exact Finset.sum_congr rfl fun f _ => by rw [aP]

theorem zP (b : Fin 16) (n : Fin 256) (e : Fin 1024) : val_main_v28 x0 x1 x4 x5 x6 (ix3 b n e) = res (tab x0 (tokP b n)) (sec x1 5 0) (fib (val_main_v22 x0 x1 x4 x5 x6) b n) e := by
  unfold res tab sec fib tokP
  pointwise [val_main_v28, val_main_v27, val_main_v26, val_main_v25, val_main_v9, val_main_v3, val_main_v2, val_main_v24, val_main_v1, val_main_v0, val_main_v23, val_main_cst_0]
  rfl

theorem mP (b : Fin 16) (n : Fin 256) : val_main_v32 x0 x1 x4 x5 x6 (ix3 b n 0) = mean (fib (val_main_v28 x0 x1 x4 x5 x6) b n) := by
  unfold mean fib
  pointwise [val_main_v32, val_main_v31, val_main_cst_2, val_main_v30, val_main_v29, val_main_cst_1]
  rfl

theorem vP (b : Fin 16) (n : Fin 256) : val_main_v39 x0 x1 x4 x5 x6 (ix3 b n 0) = var (fib (val_main_v28 x0 x1 x4 x5 x6) b n) := by
  unfold var fib
  pointwise [val_main_v39, val_main_v38, val_main_cst_4, val_main_v37, val_main_v36, val_main_cst_3, val_main_v35, val_main_v34, val_main_v33]
  simp only [mP]
  rfl

theorem oP (b : Fin 16) (n : Fin 256) (e : Fin 1024) : val_main_v52 x0 x1 x2 x3 x4 x5 x6 (ix3 b n e) = Layer.norm (fib (val_main_v28 x0 x1 x4 x5 x6) b n) (fun k => x2 (ix1 k)) (fun k => x3 (ix1 k)) e := by
  unfold Layer.norm fib
  pointwise [val_main_v52, val_main_v51, val_main_v50, val_main_v49, val_main_v48, val_main_v47, val_main_v46, val_main_v45, val_main_v44, val_main_v43, val_main_v42, val_main_cst_5, val_main_v41, val_main_v40]
  simp only [mP, vP]
  rfl

theorem rowP (b : Fin 16) (n : Fin 256) (e : Fin 1024) : val_main_v52 x0 x1 x2 x3 x4 x5 x6 (ix3 b n e)
    = ffn (tab x0 (tokP b n)) (sec x1 3 0) (sec x1 4 0) (sec x1 5 0) (fun k => x2 (ix1 k)) (fun k => x3 (ix1 k))
        (tab x4) (tab x5) (tab x6) e := by
  rw [oP, (funext (zP x0 x1 x4 x5 x6 b n) : fib (val_main_v28 x0 x1 x4 x5 x6) b n = _), (funext (sP x0 x1 x4 x5 x6 b n) : fib (val_main_v22 x0 x1 x4 x5 x6) b n = _),
    (funext (hP x0 x1 b n) : fib (val_main_v17 x0 x1) b n = _)]
  rfl

theorem hS (b : Fin 2) (n : Fin 1024) (d : Fin 1024) : val_main_v68 x0 x1 (ix3 b n d) = hid (tab x0 (tokS b n)) (sec x1 4 (modS b)) (sec x1 3 (modS b)) d := by
  unfold hid tab sec tokS
  pointwise [val_main_v68, val_main_v67, val_main_v60, val_main_v56, val_main_v55, val_main_v66, val_main_v65, val_main_v64, val_main_v61, val_main_v63, val_main_cst_6, val_main_v54, val_main_v53]
  rfl

theorem aS (b : Fin 2) (n : Fin 1024) (f : Fin 2816) : val_main_v72 x0 x1 x4 x5 (ix3 b n f) = act (fib (val_main_v68 x0 x1) b n) (tab x4) (tab x5) f := by
  unfold act dot tab fib Ideal.logistic
  pointwise [val_main_v72, val_main_v71, val_main_v70, val_main_call1_v5, val_main_call1_v3, val_main_call1_v1, val_main_call1_v0, val_main_v69, val_main_call1_v2, val_main_call1_cst, val_main_call1_v4, val_main_call1_cst_0]

theorem sS (b : Fin 2) (n : Fin 1024) (e : Fin 1024) : val_main_v73 x0 x1 x4 x5 x6 (ix3 b n e) = swiglu (fib (val_main_v68 x0 x1) b n) (tab x4) (tab x5) (tab x6) e := by
  unfold swiglu
  pointwise [val_main_v73]
  exact Finset.sum_congr rfl fun f _ => by rw [aS]

theorem zS (b : Fin 2) (n : Fin 1024) (e : Fin 1024) : val_main_v78 x0 x1 x4 x5 x6 (ix3 b n e) = res (tab x0 (tokS b n)) (sec x1 5 (modS b)) (fib (val_main_v73 x0 x1 x4 x5 x6) b n) e := by
  unfold res tab sec fib tokS
  pointwise [val_main_v78, val_main_v77, val_main_v76, val_main_v62, val_main_v56, val_main_v55, val_main_v75, val_main_v54, val_main_v53, val_main_v74, val_main_cst_7]
  rfl

theorem mS (b : Fin 2) (n : Fin 1024) : val_main_v82 x0 x1 x4 x5 x6 (ix3 b n 0) = mean (fib (val_main_v78 x0 x1 x4 x5 x6) b n) := by
  unfold mean fib
  pointwise [val_main_v82, val_main_v81, val_main_cst_9, val_main_v80, val_main_v79, val_main_cst_8]
  rfl

theorem vS (b : Fin 2) (n : Fin 1024) : val_main_v89 x0 x1 x4 x5 x6 (ix3 b n 0) = var (fib (val_main_v78 x0 x1 x4 x5 x6) b n) := by
  unfold var fib
  pointwise [val_main_v89, val_main_v88, val_main_cst_11, val_main_v87, val_main_v86, val_main_cst_10, val_main_v85, val_main_v84, val_main_v83]
  simp only [mS]
  rfl

theorem oS (b : Fin 2) (n : Fin 1024) (e : Fin 1024) : val_main_v102 x0 x1 x2 x3 x4 x5 x6 (ix3 b n e) = Layer.norm (fib (val_main_v78 x0 x1 x4 x5 x6) b n) (fun k => x2 (ix1 k)) (fun k => x3 (ix1 k)) e := by
  unfold Layer.norm fib
  pointwise [val_main_v102, val_main_v101, val_main_v100, val_main_v99, val_main_v98, val_main_v97, val_main_v96, val_main_v95, val_main_v94, val_main_v93, val_main_v92, val_main_cst_12, val_main_v91, val_main_v90]
  simp only [mS, vS]
  rfl

theorem rowS (b : Fin 2) (n : Fin 1024) (e : Fin 1024) : val_main_v102 x0 x1 x2 x3 x4 x5 x6 (ix3 b n e)
    = ffn (tab x0 (tokS b n)) (sec x1 3 (modS b)) (sec x1 4 (modS b)) (sec x1 5 (modS b)) (fun k => x2 (ix1 k)) (fun k => x3 (ix1 k))
        (tab x4) (tab x5) (tab x6) e := by
  rw [oS, (funext (zS x0 x1 x4 x5 x6 b n) : fib (val_main_v78 x0 x1 x4 x5 x6) b n = _), (funext (sS x0 x1 x4 x5 x6 b n) : fib (val_main_v73 x0 x1 x4 x5 x6) b n = _),
    (funext (hS x0 x1 b n) : fib (val_main_v68 x0 x1) b n = _)]
  rfl

/-- The reference's result is the feed-forward sublayer of every row. -/
theorem result : val_main_v105 x0 x1 x2 x3 x4 x5 x6 = G x0 x1 x2 x3 x4 x5 x6 := by
  funext j
  obtain ⟨i, e, rfl⟩ : ∃ (i : Fin 6144) (e : Fin 1024), j = ix2 i e := ⟨j 0, j 1, eq_ix2 j⟩
  by_cases h : i.val < 4096
  · have e1 : val_main_v105 x0 x1 x2 x3 x4 x5 x6 (ix2 i e)
        = val_main_v52 x0 x1 x2 x3 x4 x5 x6 (ix3 ⟨i.val / 256, by omega⟩ ⟨i.val % 256, by omega⟩ e) := by
      pointwise [val_main_v105, val_main_v104, val_main_v103]
      rw [dif_pos h]
    rw [e1, rowP]
    have e2 : tokP ⟨i.val / 256, by omega⟩ ⟨i.val % 256, by omega⟩ = i := Fin.ext (by unfold tokP; dsimp only; omega)
    have e3 : grp i = 0 := Fin.ext (by unfold grp; simp only [Fin.val_zero]; omega)
    rw [e2, ← e3]
    rfl
  · have e1 : val_main_v105 x0 x1 x2 x3 x4 x5 x6 (ix2 i e)
        = val_main_v102 x0 x1 x2 x3 x4 x5 x6 (ix3 ⟨(i.val - 4096) / 1024, by omega⟩ ⟨(i.val - 4096) % 1024, by omega⟩ e) := by
      pointwise [val_main_v105, val_main_v104, val_main_v103]
      rw [dif_neg h]
    rw [e1, rowS]
    have e2 : tokS ⟨(i.val - 4096) / 1024, by omega⟩ ⟨(i.val - 4096) % 1024, by omega⟩ = i :=
      Fin.ext (by unfold tokS; dsimp only; omega)
    have e3 : modS ⟨(i.val - 4096) / 1024, by omega⟩ = grp i := Fin.ext (by unfold modS grp; dsimp only; omega)
    rw [e2, e3]
    rfl

end Cert.Proof.FfnRef
end

end
-- ==== Proof.Ffn.lean ====
module

public import proofs.«01_k».proof.Defs
public import proofs.«01_k».proof.Proof.Gen.Kernel3.Frame
public import proofs.«01_k».proof.Proof.Gen.Kernel3Ideal.Frame
public import proofs.«01_k».proof.Proof.FfnRef
public import Idealize.ShloMosaic.Lib.Quiescent

/-! The five claims about the feed-forward call. -/

@[expose] public section

noncomputable section

namespace Cert.Proof.Ffn

open Idealize.ShloMosaic Idealize.SL.Sem
open Cert.Proof.FfnArrays (G X0 X1 X2 X3 X4 X5 X6)

/-- The kernel runs, ends with its arguments unchanged and every semaphore at zero. -/
theorem frame : Cert.quiescent_Kernel3 := fun m ρ _ => Cert.Kernel3.Gen.frame m ρ
/-- So does its idealization. -/
theorem frameIdeal : Cert.quiescent_Kernel3Ideal := fun m ρ _ => Cert.Kernel3Ideal.Gen.frame m ρ
/-- So does the reference. -/
theorem frameReference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
/-- The idealization rewrites nothing. -/
theorem preserves : Cert.preserves_Kernel3_Kernel3Ideal := trivial

/-- Both programs end with the feed-forward sublayer of every row. -/
theorem algebraic : Cert.algebraic_Kernel3Ideal_Reference3Ideal := by
  intro m ρ m' ρ' _ hagree
  refine ⟨fun c => G (X0 m c) (X1 m c) (X2 m c) (X3 m c) (X4 m c) (X5 m c) (X6 m c), ?_, ?_⟩
  · exact (θ_run Cert.Kernel3Ideal.defs _ _).mono
      (fun _ h c => ⟨(h c).1.trans (Cert.Proof.FfnArrays.final m c), (h c).2⟩)
      (Cert.Kernel3Ideal.Value.run_blocks (F := Ideal) m ρ)
  · refine (θ_run Cert.Reference3Ideal.defs _ _).mono (fun _ h c => ⟨?_, (h c).2⟩)
      (Cert.Reference3Ideal.Value.run (F := Ideal) m' ρ')
    refine (h c).1.trans ((Cert.Reference3Ideal.Read.val_main_v105_eq (F := Ideal) m' c).trans ?_)
    refine (FfnRef.result _ _ _ _ _ _ _).trans ?_
    dsimp only
    obtain ⟨a0, a1, a2, a3, a4, a5, a6⟩ := hagree c
    unfold X0 X1 X2 X3 X4 X5 X6
    rw [a0, a1, a2, a3, a4, a5, a6]

end Cert.Proof.Ffn
end

end
-- ==== Proof.ExpertsRun.lean ====
module
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-!
# The experts: one grid point

What a grid point leaves in its buffers, run once from the kernel's text, over any float values.
-/

@[expose] public section
noncomputable section
namespace Cert.Proof.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

/-- The resources that the run is stated over. -/
abbrev Res (F : FTy → Type) [FloatOps F] := MT nD τ sig Unit (Elt F) ℕ (UR sig nD τ) ℕ

/-- The word of the one element table. -/
def word (nt : Vec F S1 .i32) : Elt F .i32 := nt (Shape.Idx.first (by decide))

/-- Whether a grid point loads the weights afresh: the first point, or one whose expert differs from the point's before. -/
def fresh (i : grid0.Coords) (te : Vec F S32 .i32) : BitVec 1 :=
  Scalar.cmpi .ne (Scalar.extui (Scalar.ori (Scalar.cmpi .eq (BitVec.ofNat 32 (i 0).val) 0#32)
    (Scalar.cmpi .ne
      (View.ld (Val := Elt F) te (Rect.unit (s := S32) (k0_off1 i) S1.size (k0_off1_inb i)) (Shape.Idx.first (numel1_S1.symm ▸ Nat.one_pos)))
      (View.ld (Val := Elt F) te (Rect.unit (s := S32) (k0_off2 i) S1.size (k0_off2_inb i)) (Shape.Idx.first (numel1_S1.symm ▸ Nat.one_pos)))))) 0#32

/-- Columns `o … o + 255` of one of the first two weights. -/
abbrev cols (w : Vec F S1024x1408 .bf16) (o : ℕ) (h : ∀ a, (![0, o] : Fin 2 → ℕ) a + S1024x256.size a ≤ S1024x1408.size a) :
    Vec F S1024x256 .bf16 := View.ld (Val := Elt F) w (Rect.unit (s := S1024x1408) ![0, o] S1024x256.size h)

/-- Rows `o … o + 255` of the third weight. -/
abbrev rows (w : Vec F S1408x1024 .bf16) (o : ℕ) (h : ∀ a, (![o, 0] : Fin 2 → ℕ) a + S256x1024.size a ≤ S1408x1024.size a) :
    Vec F S256x1024 .bf16 := View.ld (Val := Elt F) w (Rect.unit (s := S1408x1024) ![o, 0] S256x1024.size h)

/-- The first column of the gates' block. -/
abbrev gcol (g : Vec F S512x128 .f32) : Vec F S512x1 .f32 :=
  View.ld (Val := Elt F) g (Rect.unit (s := S512x128) ![0, 0] S512x1.size inb_S512x128_S512x1_0_0)

section Chain
variable (x : Vec F S512x1024 .bf16) (g : Vec F S512x128 .f32) (w1 w3 : Vec F S1024x1408 .bf16) (w2 : Vec F S1408x1024 .bf16)

/-- The accumulator after the first chunk of hidden columns, -/
def acc1 : Vec F S512x1024 .f32 :=
  k0_pay10 x (gcol g) (cols w1 0 inb_S1024x1408_S1024x256_0_0) (cols w3 0 inb_S1024x1408_S1024x256_0_0) k0_pay9
    (rows w2 0 inb_S1408x1024_S256x1024_0_0)
/-- the second, -/
def acc2 : Vec F S512x1024 .f32 :=
  k0_pay12 (k0_pay8 (gcol g)) (k0_pay11 x (cols w1 256 inb_S1024x1408_S1024x256_0_256) (cols w3 256 inb_S1024x1408_S1024x256_0_256))
    (acc1 x g w1 w3 w2) (rows w2 256 inb_S1408x1024_S256x1024_256_0)
/-- the third, -/
def acc3 : Vec F S512x1024 .f32 :=
  k0_pay13 (k0_pay7 x) (k0_pay8 (gcol g)) (cols w1 512 inb_S1024x1408_S1024x256_0_512) (cols w3 512 inb_S1024x1408_S1024x256_0_512)
    (acc2 x g w1 w3 w2) (rows w2 512 inb_S1408x1024_S256x1024_512_0)
/-- the fourth, -/
def acc4 : Vec F S512x1024 .f32 :=
  k0_pay17 (k0_pay8 (gcol g)) (k0_pay14 (k0_pay7 x) (cols w1 768 inb_S1024x1408_S1024x256_0_768))
    (k0_pay15 (k0_pay7 x) (cols w3 768 inb_S1024x1408_S1024x256_0_768)) (k0_pay16 (k0_pay7 x) (cols w1 768 inb_S1024x1408_S1024x256_0_768))
    (acc3 x g w1 w3 w2) (rows w2 768 inb_S1408x1024_S256x1024_768_0)
/-- the fifth, -/
def acc5 : Vec F S512x1024 .f32 :=
  k0_pay18 (k0_pay7 x) (k0_pay8 (gcol g)) (cols w1 1024 inb_S1024x1408_S1024x256_0_1024) (cols w3 1024 inb_S1024x1408_S1024x256_0_1024)
    (acc4 x g w1 w3 w2) (rows w2 1024 inb_S1408x1024_S256x1024_1024_0)
/-- and the last, of 128 columns. -/
def acc6 : Vec F S512x1024 .f32 :=
  k0_pay4 (k0_pay7 x) (k0_pay8 (gcol g))
    (k0_pay19 (k0_pay7 x) (View.ld (Val := Elt F) w1 (Rect.unit (s := S1024x1408) ![0, 1280] S1024x128.size inb_S1024x1408_S1024x128_0_1280)))
    (View.ld (Val := Elt F) w3 (Rect.unit (s := S1024x1408) ![0, 1280] S1024x128.size inb_S1024x1408_S1024x128_0_1280))
    (constant S512x128 .f32 0x00000000#32) (acc5 x g w1 w3 w2)
    (View.ld (Val := Elt F) w2 (Rect.unit (s := S1408x1024) ![1280, 0] S128x1024.size inb_S1408x1024_S128x1024_1280_0))
end Chain

open Classical in
/-- What a grid point leaves in the result's block, from the weights in the scratch buffers: the experts' output of its
    rows where the tile is in use, zeros elsewhere. -/
def block (i : grid0.Coords) (nt : Vec F S1 .i32) (x : Vec F S512x1024 .bf16) (g : Vec F S512x128 .f32)
    (w1 w3 : Vec F S1024x1408 .bf16) (w2 : Vec F S1408x1024 .bf16) : Vec F S512x1024 .bf16 :=
  if k0_cond3 i (word nt) = 1#1 then k0_pay6 else k0_pay5 (acc6 x g w1 w3 w2)

/-- The contents of a whole buffer after a store of all of it under a condition. -/
theorem store_if {κ : Kind} {sp : Space} {s : Shape} {e : EltTy} {M : Memref sig κ sp s e} (hM : M.IsWhole) {p : Prop} [Decidable p]
    {off : Fin s.rank → ℕ} (inb : ∀ a, off a + s.size a ≤ s.size a) (w : (Rect.unit off s.size inb).shape.Idx → Elt F e)
    (x : s.Idx → Elt F e) :
    (if _ : p then M.view.writes (Elt F) (hM.unread x) [⟨Rect.unit off s.size inb, w⟩] else hM.unread x)
      = hM.unread (if p then w else x) := by
  split
  · exact hM.eq_unread (View.read_writes_full _ _ _ _ _)
  · rfl

set_option maxHeartbeats 1000000 in
set_option maxRecDepth 16384 in
/-- The body at a grid point: the weights loaded where they are fresh, the six chunks where the tile is in use, zeros where it
    is not. -/
theorem run (c : Dev nD) (i : grid0.Coords)
    (arg1 : Memref sig .tc .smem S32 .i32) (harg1 : arg1.IsWhole) (arg2 : Memref sig .tc .smem S1 .i32) (harg2 : arg2.IsWhole)
    (arg3 : Memref sig .tc .vmem S512x1024 .bf16) (harg3 : arg3.IsWhole) (arg4 : Memref sig .tc .vmem S512x128 .f32) (harg4 : arg4.IsWhole)
    (arg5 : Memref sig .tc .vmem S1x1024x1408 .f32) (harg5 : arg5.IsWhole) (arg6 : Memref sig .tc .vmem S1x1024x1408 .f32) (harg6 : arg6.IsWhole)
    (arg7 : Memref sig .tc .vmem S1x1408x1024 .f32) (harg7 : arg7.IsWhole) (arg8 : Memref sig .tc .vmem S512x1024 .bf16) (harg8 : arg8.IsWhole)
    (arg9 : Memref sig .tc .vmem S1024x1408 .bf16) (harg9 : arg9.IsWhole) (arg10 : Memref sig .tc .vmem S1024x1408 .bf16) (harg10 : arg10.IsWhole)
    (arg11 : Memref sig .tc .vmem S1408x1024 .bf16) (harg11 : arg11.IsWhole) (arg12 : Memref sig .tc .vmem S512x1024 .f32) (harg12 : arg12.IsWhole)
    (te : Vec F S32 .i32) (nt : Vec F S1 .i32)
    (x0 : Vec F S512x1024 .bf16) (x1 : Vec F S512x128 .f32) (x2 x3 : Vec F S1x1024x1408 .f32) (x4 : Vec F S1x1408x1024 .f32)
    (w1 w3 : Vec F S1024x1408 .bf16) (w2 : Vec F S1408x1024 .bf16)
    (hc : ¬k0_cond3 i (word nt) = 1#1 → k0_cond2 i (word nt) = 1#1)
    (E : Set ℕ) (K : PUnit → sProp (Res F)) :
    iprop((arg1.view.loc (c : Thread nD τ) ↦{fullShare.right} harg1.unread te) ∗ (arg2.view.loc (c : Thread nD τ) ↦{fullShare.right} harg2.unread nt)
      ∗ owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ (∃ d, owns (c : Thread nD τ) arg8 fullShare d)
      ∗ owns (c : Thread nD τ) arg9 fullShare w1 ∗ owns (c : Thread nD τ) arg10 fullShare w3 ∗ owns (c : Thread nD τ) arg11 fullShare w2
      ∗ (∃ d, owns (c : Thread nD τ) arg12 fullShare d)
      ∗ (iprop((arg1.view.loc (c : Thread nD τ) ↦{fullShare.right} harg1.unread te) ∗ (arg2.view.loc (c : Thread nD τ) ↦{fullShare.right} harg2.unread nt)
      ∗ owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare (block i nt x0 x1 (if fresh i te = 1#1 then k0_pay1 x2 else w1) (if fresh i te = 1#1 then k0_pay2 x3 else w3) (if fresh i te = 1#1 then k0_pay3 x4 else w2))
      ∗ owns (c : Thread nD τ) arg9 fullShare (if fresh i te = 1#1 then k0_pay1 x2 else w1)
      ∗ owns (c : Thread nD τ) arg10 fullShare (if fresh i te = 1#1 then k0_pay2 x3 else w3)
      ∗ owns (c : Thread nD τ) arg11 fullShare (if fresh i te = 1#1 then k0_pay3 x4 else w2)
      ∗ (∃ d, owns (c : Thread nD τ) arg12 fullShare d)) -∗ K ⟨⟩))
    ⊢ wp frame (wpE (defs₀ (F := F)) Variants.none c none) E
        (cc0_moe_experts i arg1 harg1 arg2 harg2 arg3 harg3 arg4 harg4 arg5 harg5 arg6 harg6 arg7 harg7 arg8 harg8 arg9 harg9 arg10 harg10 arg11 harg11 arg12 harg12) K := by
  simp only [cc0_moe_experts_eq_skeleton]; unfold cc0_moe_experts_skel
  simp only [k0_part1_eq_skeleton, k0_part2_eq_skeleton, k0_part3_eq_skeleton]
  unfold owns
  iintro ⟨T1, T2, ⟨%f0, %hf0, H0⟩, ⟨%f1, %hf1, H1⟩, ⟨%f2, %hf2, H2⟩, ⟨%f3, %hf3, H3⟩, ⟨%f4, %hf4, H4⟩, ⟨%d8, %f8, -, H8⟩, ⟨%g0, %hg0, S0⟩, ⟨%g1, %hg1, S1⟩, ⟨%g2, %hg2, S2⟩, ⟨%d12, %f12, -, S3⟩, Hk⟩
  obtain rfl := harg3.eq_unread hf0; obtain rfl := harg4.eq_unread hf1; obtain rfl := harg5.eq_unread hf2
  obtain rfl := harg6.eq_unread hf3; obtain rfl := harg7.eq_unread hf4; obtain rfl := harg9.eq_unread hg0
  obtain rfl := harg10.eq_unread hg1; obtain rfl := harg11.eq_unread hg2
  sl_exec
  sl_step
  have l0 : View.readAt (Elt F) arg3.view (Rect.unit ![0, 0] ![512, 1024] inb_S512x1024_S512x1024_0_0).toLoadRect (harg3.unread x0) = x0 :=
    (View.readAt_full (s := S512x1024) _ _ _).trans (harg3.read_unread _)
  have l2 : View.readAt (Elt F) arg5.view (Rect.unit ![0, 0, 0] ![1, 1024, 1408] inb_S1x1024x1408_S1x1024x1408_0_0_0).toLoadRect
      (harg5.unread x2) = x2 := (View.readAt_full (s := S1x1024x1408) _ _ _).trans (harg5.read_unread _)
  have l3 : View.readAt (Elt F) arg6.view (Rect.unit ![0, 0, 0] ![1, 1024, 1408] inb_S1x1024x1408_S1x1024x1408_0_0_0).toLoadRect
      (harg6.unread x3) = x3 := (View.readAt_full (s := S1x1024x1408) _ _ _).trans (harg6.read_unread _)
  have l4 : View.readAt (Elt F) arg7.view (Rect.unit ![0, 0, 0] ![1, 1408, 1024] inb_S1x1408x1024_S1x1408x1024_0_0_0).toLoadRect
      (harg7.unread x4) = x4 := (View.readAt_full (s := S1x1408x1024) _ _ _).trans (harg7.read_unread _)
  have lg : View.readAt (Elt F) arg4.view (Rect.unit ![0, 0] ![512, 1] inb_S512x128_S512x1_0_0).toLoadRect (harg4.unread x1) = gcol x1 := by
    rw [View.readAt_eq_ld, harg4.read_unread]
  have la : ∀ (w : Vec F S512x1024 .f32) (L : List (View.Piece (Elt F) S512x1024 .f32)),
      arg12.view.readCov (⟨Rect.unit ![0, 0] ![512, 1024] inb_S512x1024_S512x1024_0_0, w⟩ :: L)
        (Rect.unit ![0, 0] ![512, 1024] inb_S512x1024_S512x1024_0_0).toLoadRect = w :=
    fun w L => View.readCov_full (s := S512x1024) arg12.view inb_S512x1024_S512x1024_0_0 inb_S512x1024_S512x1024_0_0 w L
  have lt : View.readAt (Elt F) arg2.view (Rect.unit ![0] ![1] inb_S1_S1_0).toLoadRect (harg2.unread nt) (Shape.Idx.first (by decide)) = word nt := by
    rw [View.readAt_full (s := S1), harg2.read_unread]; rfl
  have lf : Scalar.cmpi .ne (Scalar.extui (Scalar.ori (Scalar.cmpi .eq (BitVec.ofNat 32 (i 0).val) 0#32)
      (Scalar.cmpi .ne
        (View.readAt (Elt F) arg1.view (Rect.unit (k0_off1 i) ![1] (k0_off1_inb i)).toLoadRect (harg1.unread te) (Shape.Idx.first (numel1_S1.symm ▸ Nat.one_pos)))
        (View.readAt (Elt F) arg1.view (Rect.unit (k0_off2 i) ![1] (k0_off2_inb i)).toLoadRect (harg1.unread te) (Shape.Idx.first (numel1_S1.symm ▸ Nat.one_pos))))))
      0#32 = fresh i te := by
    rw [View.readAt_eq_ld, View.readAt_eq_ld, harg1.read_unread]; rfl
  have e1 : (if _ : fresh i te = 1#1 then arg9.view.writes (Elt F) (harg9.unread w1)
        [⟨Rect.unit ![0, 0] ![1024, 1408] inb_S1024x1408_S1024x1408_0_0, k0_pay1 x2⟩] else harg9.unread w1)
      = harg9.unread (if fresh i te = 1#1 then k0_pay1 x2 else w1) :=
    store_if (F := F) harg9 inb_S1024x1408_S1024x1408_0_0 (k0_pay1 x2) w1
  have e2 : (if _ : fresh i te = 1#1 then arg10.view.writes (Elt F) (harg10.unread w3)
        [⟨Rect.unit ![0, 0] ![1024, 1408] inb_S1024x1408_S1024x1408_0_0, k0_pay2 x3⟩] else harg10.unread w3)
      = harg10.unread (if fresh i te = 1#1 then k0_pay2 x3 else w3) :=
    store_if (F := F) harg10 inb_S1024x1408_S1024x1408_0_0 (k0_pay2 x3) w3
  have e3 : (if _ : fresh i te = 1#1 then arg11.view.writes (Elt F) (harg11.unread w2)
        [⟨Rect.unit ![0, 0] ![1408, 1024] inb_S1408x1024_S1408x1024_0_0, k0_pay3 x4⟩] else harg11.unread w2)
      = harg11.unread (if fresh i te = 1#1 then k0_pay3 x4 else w2) :=
    store_if (F := F) harg11 inb_S1408x1024_S1408x1024_0_0 (k0_pay3 x4) w2
  iapply Hk
  isplitl [T1]; · iexact T1
  isplitl [T2]; · iexact T2
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H8]
  · iexists _; isplitr
    swap; · iexact H8
    ipureintro
    skip
    delta run.sl.r_2
    simp only [lt]
    unfold block
    by_cases h3 : k0_cond3 i (word nt) = 1#1
    · rw [dif_pos h3, if_pos h3]
      exact View.read_writes_full (s := S512x1024) _ _ _ _ _
    · rw [dif_neg h3, if_neg h3, dif_pos (hc h3)]
      refine (View.read_writes_full (s := S512x1024) _ _ _ _ _).trans ?_
      repeat delta run.sl.r run.sl.r_1 run.sl.r_3 run.sl.r_4 run.sl.r_5 run.sl.r_6 run.sl.r_7 run.sl.r_8 run.sl.r_9 run.sl.v129 run.sl.v123 run.sl.v122 run.sl.v114 run.sl.v112 run.sl.v106 run.sl.v105 run.sl.v97 run.sl.v95 run.sl.v89 run.sl.v88 run.sl.v80 run.sl.v78 run.sl.v72 run.sl.v71 run.sl.v63 run.sl.v61 run.sl.v55 run.sl.v54 run.sl.v46 run.sl.v44 run.sl.v38 run.sl.v37 run.sl.v29 run.sl.v27 run.sl.cst_76 run.sl.S3_1 run.sl.S3_2 run.sl.S3_3 run.sl.S3_4 run.sl.S3_5 run.sl.S3_6 run.sl.S3_7
      simp only [la, l0, lg, lf, l2, l3, l4, e1, e2, e3]
      simp only [View.readAt_eq_ld, harg9.read_unread, harg10.read_unread, harg11.read_unread]
      rfl
  isplitl [S0]
  · iexists _; isplitr
    swap; · iexact S0
    ipureintro
    delta run.sl.r run.sl.r_1
    simp only [lf, l2, l3, l4, e1]
    exact Memref.IsWhole.read_unread _ _
  isplitl [S1]
  · iexists _; isplitr
    swap; · iexact S1
    ipureintro
    delta run.sl.r run.sl.r_1
    simp only [lf, l2, l3, l4, e2]
    exact Memref.IsWhole.read_unread _ _
  isplitl [S2]
  · iexists _; isplitr
    swap; · iexact S2
    ipureintro
    delta run.sl.r run.sl.r_1
    simp only [lf, l2, l3, l4, e3]
    exact Memref.IsWhole.read_unread _ _
  iexists _, _; isplitr
  swap; · iexact S3
  ipureintro; rfl

end Cert.Proof.Experts
end
-- ==== Proof.ExpertsFrame.lean ====
module
public import proofs.«01_k».proof.Proof.ExpertsRun
public import Idealize.ShloMosaic.Lib.Quiescent

/-!
# The experts: the whole run

The grid's points one after another. Between two points the three scratch buffers hold the weights of the last point's
expert, and the two tables lie in scalar memory; so every point computes its block from its own expert's weights, whether
it loaded them or found them loaded.
-/

@[expose] public section
noncomputable section
namespace Cert.Proof.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

/-! ## Conditions on words -/

/-- Of a bit, widened and compared with zero. -/
theorem widened : ∀ p : BitVec 1, Scalar.cmpi .ne (Scalar.extui p : BitVec 32) 0#32 = p := by decide

/-- A disjunction of two bits. -/
theorem or_bits : ∀ p q : BitVec 1, ¬Scalar.ori p q = 1#1 → ¬p = 1#1 ∧ ¬q = 1#1 := by decide

/-- A tile which is not past the used ones is among them. -/
theorem used_of_not_past (i : grid0.Coords) (v : BitVec 32) (h : ¬k0_cond3 i v = 1#1) : k0_cond2 i v = 1#1 := by
  unfold k0_cond3 at h
  unfold k0_cond2
  simp only [widened] at h ⊢
  simp only [Scalar.cmpi, WordCmp.cmpi_sge_eq, WordCmp.cmpi_slt_eq, WordCmp.ofBool_decide_eq_one_iff] at h ⊢
  omega

/-- The expert of the tile at a grid point. -/
def expert (i : grid0.Coords) (te : Vec F S32 .i32) : Elt F .i32 :=
  View.ld (Val := Elt F) te (Rect.unit (s := S32) (k0_off1 i) S1.size (k0_off1_inb i)) (Shape.Idx.first (numel1_S1.symm ▸ Nat.one_pos))

/-- The word of a table at an offset depends on the offset only. -/
theorem ld_congr (te : Vec F S32 .i32) {o o' : Fin 1 → ℕ} (e : o = o') (h : ∀ a, o a + S1.size a ≤ S32.size a)
    (h' : ∀ a, o' a + S1.size a ≤ S32.size a) (j : S1.Idx) :
    View.ld (Val := Elt F) te (Rect.unit (s := S32) o S1.size h) j = View.ld (Val := Elt F) te (Rect.unit (s := S32) o' S1.size h') j := by
  subst e; rfl

/-- The tile before, as the kernel computes its number. -/
theorem off2_eq : ∀ t t' : Fin grid0.N, t'.val + 1 = t.val → k0_off2 (grid0.coords t) = k0_off1 (grid0.coords t') := by decide +kernel

/-- The first grid point's number is zero. -/
theorem coord_zero : ∀ t : Fin grid0.N, t.val = 0 → BitVec.ofNat 32 ((grid0.coords t) 0).val = 0#32 := by decide +kernel

/-- A point that does not load its weights is not the first, and has the expert of the point before. -/
theorem not_fresh (te : Vec F S32 .i32) (t : Fin grid0.N) (h : ¬fresh (grid0.coords t) te = 1#1) :
    t.val ≠ 0 ∧ ∀ t' : Fin grid0.N, t'.val + 1 = t.val → expert (grid0.coords t) te = expert (grid0.coords t') te := by
  unfold fresh at h
  simp only [widened] at h
  obtain ⟨h1, h2⟩ := or_bits _ _ h
  constructor
  · intro h0
    exact h1 (by rw [coord_zero t h0]; rfl)
  · intro t' ht
    simp only [Scalar.cmpi, WordCmp.cmpi_ne_eq, WordCmp.ofBool_decide_eq_one_iff, ne_eq, not_not] at h2
    exact h2.trans (ld_congr te (off2_eq t t' ht) _ _ _)

/-! ## What the region finds -/

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer the host's operations do not write is found as launched. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-- The tables the region finds. -/
def tbl : pre0.Contents (Elt F) := fun j => V m 0 (pre0.ref j)

/-- The experts of the tiles, and the number of tiles in use. -/
abbrev tiles : Vec F S32 .i32 := tbl m 0
abbrev count : Vec F S1 .i32 := tbl m 1

theorem V_pre (c : Dev nD) (j : Fin 2) : V m c (pre0.ref j) = tbl m j := by
  obtain rfl : c = 0 := Subsingleton.elim _ _
  rfl

variable (hO : ok0 (tbl m))

/-- The tables as admissible ones. -/
abbrev adm : (p : Fin 1) → (pcfgs (F := F) p).Adm := fun _ => ⟨tbl m, hO⟩

/-- The pipeline at the tables. -/
abbrev cfgM : Cfg sig Λ₀ := Pipeline.pin pcfgs (adm m hO) 0

theorem PhiT_eq (c : Dev nD) : (Pipeline.ΦT pre0 (tbl m) c : sProp (Res F))
    = iprop(((Memref.whole main_arg0).view.loc (c : Thread nD τ) ↦{fullShare.right} (Memref.isWhole_whole main_arg0).unread (tiles m))
      ∗ ((Memref.whole main_arg1).view.loc (c : Thread nD τ) ↦{fullShare.right} (Memref.isWhole_whole main_arg1).unread (count m))) := by
  rw [show (Memref.isWhole_whole main_arg0).unread (tiles m) = tbl m 0 from
      ((Memref.isWhole_whole main_arg0).eq_unread rfl).symm,
    show (Memref.isWhole_whole main_arg1).unread (count m) = tbl m 1 from
      ((Memref.isWhole_whole main_arg1).eq_unread rfl).symm]
  unfold Pipeline.ΦT Pipeline.prefHeld
  rw [show (Finset.univ : Finset (Fin 2)) = insert (0:Fin 2) {(1:Fin 2)} from by decide, bigSep_insert (by decide), bigSep_singleton]
  rfl

/-- Window `w`'s block at point `t`, of its array as the region finds it. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-! ## The invariant -/

abbrev sc0 : Memref sig .tc .vmem S1024x1408 .bf16 := Memref.whole cc0_scratch0
abbrev sc1 : Memref sig .tc .vmem S1024x1408 .bf16 := Memref.whole cc0_scratch1
abbrev sc2 : Memref sig .tc .vmem S1408x1024 .bf16 := Memref.whole cc0_scratch2
abbrev sc3 : Memref sig .tc .vmem S512x1024 .f32 := Memref.whole cc0_scratch3

/-- The scratch buffers and the generator's register at some contents. -/
theorem PhiA_eq (c : Dev nD) : (Pipeline.ΦA spec0 c : sProp (Res F))
    = iprop(iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The weights of the point's expert, as the scratch buffers hold them. -/
abbrev W1 (c : Dev nD) (t : Fin (cfgM m hO).N) : Vec F S1024x1408 .bf16 := k0_pay1 (iblk m hO c 2 t)
abbrev W3 (c : Dev nD) (t : Fin (cfgM m hO).N) : Vec F S1024x1408 .bf16 := k0_pay2 (iblk m hO c 3 t)
abbrev W2 (c : Dev nD) (t : Fin (cfgM m hO).N) : Vec F S1408x1024 .bf16 := k0_pay3 (iblk m hO c 4 t)

/-- After `n` points the three weight buffers hold the last point's weights. -/
def Inv (c : Dev nD) (n : ℕ) : sProp (Res F) :=
  iprop(∃ w1 w3 w2, ⌜∀ t : Fin (cfgM m hO).N, t.val + 1 = n → w1 = W1 m hO c t ∧ w3 = W3 m hO c t ∧ w2 = W2 m hO c t⌝
    ∗ owns (c : Thread nD τ) sc0 fullShare w1 ∗ owns (c : Thread nD τ) sc1 fullShare w3 ∗ owns (c : Thread nD τ) sc2 fullShare w2
    ∗ (∃ d, owns (c : Thread nD τ) sc3 fullShare d) ∗ (∃ r, prngReg c r)
    ∗ ((Memref.whole main_arg0).view.loc (c : Thread nD τ) ↦{fullShare.right} (Memref.isWhole_whole main_arg0).unread (tiles m))
    ∗ ((Memref.whole main_arg1).view.loc (c : Thread nD τ) ↦{fullShare.right} (Memref.isWhole_whole main_arg1).unread (count m)))

/-- The proof data: inputs are left as found, the result's block as the body leaves it. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => block (grid0.coords t) (count m) (iblk m hO c 0 t) (iblk m hO c 1 t) (W1 m hO c t) (W3 m hO c t) (W2 m hO c t)
  Φ t := Inv m hO c t.val
  q w := Pipeline.shareOf spec0 w
  owed _ := 0

theorem A_eq (c : Dev nD) (w : Fin (cfgM m hO).W) : (dats m hO 0 c).A w = V m c (Pipeline.arrRef spec0 w) := by
  dsimp only [dats]

theorem after0 (c : Dev nD) (t : Fin (cfgM m hO).N) : (dats m hO 0 c).after 0 t = iblk m hO c 0 t := rfl
theorem after1 (c : Dev nD) (t : Fin (cfgM m hO).N) : (dats m hO 0 c).after 1 t = iblk m hO c 1 t := rfl
theorem after2 (c : Dev nD) (t : Fin (cfgM m hO).N) : (dats m hO 0 c).after 2 t = iblk m hO c 2 t := rfl
theorem after3 (c : Dev nD) (t : Fin (cfgM m hO).N) : (dats m hO 0 c).after 3 t = iblk m hO c 3 t := rfl
theorem after4 (c : Dev nD) (t : Fin (cfgM m hO).N) : (dats m hO 0 c).after 4 t = iblk m hO c 4 t := rfl
theorem after5 (c : Dev nD) (t : Fin (cfgM m hO).N) : (dats m hO 0 c).after 5 t
    = block (grid0.coords t) (count m) (iblk m hO c 0 t) (iblk m hO c 1 t) (W1 m hO c t) (W3 m hO c t) (W2 m hO c t) := by
  rfl

/-- An input's buffer holds its block at every point, fetched there or not. -/
theorem before0 (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-- Points of one expert have the same weights' blocks. -/
theorem iblk2_congr (c : Dev nD) (t t' : Fin (cfgM m hO).N)
    (h : expert (grid0.coords t) (tiles m) = expert (grid0.coords t') (tiles m)) : iblk m hO c 2 t = iblk m hO c 2 t' := by
  have e : ((cfgM m hO).win 2).index t = ((cfgM m hO).win 2).index t' := by
    show (![(expert (grid0.coords t) (tiles m)).toNat, (0#32).toNat, (0#32).toNat] : Fin 3 → ℕ) = ![(expert (grid0.coords t') (tiles m)).toNat, (0#32).toNat, (0#32).toNat]
    rw [h]
  have f := (dats m hO 0 c).fetched_congr 2 e rfl (iblk m hO c 2 t)
  unfold Dat.fetched Dat.blockOf at f
  rw [A_eq] at f
  exact f
theorem iblk3_congr (c : Dev nD) (t t' : Fin (cfgM m hO).N)
    (h : expert (grid0.coords t) (tiles m) = expert (grid0.coords t') (tiles m)) : iblk m hO c 3 t = iblk m hO c 3 t' := by
  have e : ((cfgM m hO).win 3).index t = ((cfgM m hO).win 3).index t' := by
    show (![(expert (grid0.coords t) (tiles m)).toNat, (0#32).toNat, (0#32).toNat] : Fin 3 → ℕ) = ![(expert (grid0.coords t') (tiles m)).toNat, (0#32).toNat, (0#32).toNat]
    rw [h]
  have f := (dats m hO 0 c).fetched_congr 3 e rfl (iblk m hO c 3 t)
  unfold Dat.fetched Dat.blockOf at f
  rw [A_eq] at f
  exact f
theorem iblk4_congr (c : Dev nD) (t t' : Fin (cfgM m hO).N)
    (h : expert (grid0.coords t) (tiles m) = expert (grid0.coords t') (tiles m)) : iblk m hO c 4 t = iblk m hO c 4 t' := by
  have e : ((cfgM m hO).win 4).index t = ((cfgM m hO).win 4).index t' := by
    show (![(expert (grid0.coords t) (tiles m)).toNat, (0#32).toNat, (0#32).toNat] : Fin 3 → ℕ) = ![(expert (grid0.coords t') (tiles m)).toNat, (0#32).toNat, (0#32).toNat]
    rw [h]
  have f := (dats m hO 0 c).fetched_congr 4 e rfl (iblk m hO c 4 t)
  unfold Dat.fetched Dat.blockOf at f
  rw [A_eq] at f
  exact f

/-- What a point finds in the weight buffers, or loads into them, is its own expert's weights. -/
theorem loaded (c : Dev nD) (t : Fin (cfgM m hO).N) (w1 w3 : Vec F S1024x1408 .bf16) (w2 : Vec F S1408x1024 .bf16)
    (h : ∀ t' : Fin (cfgM m hO).N, t'.val + 1 = t.val → w1 = W1 m hO c t' ∧ w3 = W3 m hO c t' ∧ w2 = W2 m hO c t') :
    (if fresh (grid0.coords t) (tiles m) = 1#1 then k0_pay1 (iblk m hO c 2 t) else w1) = W1 m hO c t
    ∧ (if fresh (grid0.coords t) (tiles m) = 1#1 then k0_pay2 (iblk m hO c 3 t) else w3) = W3 m hO c t
    ∧ (if fresh (grid0.coords t) (tiles m) = 1#1 then k0_pay3 (iblk m hO c 4 t) else w2) = W2 m hO c t := by
  by_cases hf : fresh (grid0.coords t) (tiles m) = 1#1
  · simp only [if_pos hf, and_self]
  · simp only [if_neg hf]
    obtain ⟨h0, he⟩ := not_fresh (tiles m) t hf
    have hlt : t.val - 1 < (cfgM m hO).N := lt_of_le_of_lt (Nat.sub_le _ _) t.isLt
    have h1 : (⟨t.val - 1, hlt⟩ : Fin (cfgM m hO).N).val + 1 = t.val := Nat.succ_pred_eq_of_ne_zero h0
    obtain ⟨r1, r2, r3⟩ := h ⟨t.val - 1, hlt⟩ h1
    have e := he ⟨t.val - 1, hlt⟩ h1
    refine ⟨r1.trans ?_, r2.trans ?_, r3.trans ?_⟩
    · show k0_pay1 _ = k0_pay1 _
      rw [iblk2_congr m hO c t _ e]
    · show k0_pay2 _ = k0_pay2 _
      rw [iblk3_congr m hO c t _ e]
    · show k0_pay3 _ = k0_pay3 _
      rw [iblk4_congr m hO c t _ e]

/-! ## The body at a point -/

/-- A tile is among the used ones or past them. -/
theorem stored (i : grid0.Coords) (v : BitVec 32) : (!(k0_cond2 i v == 1#1) && !(k0_cond3 i v == 1#1)) = false := by
  by_cases h3 : k0_cond3 i v = 1#1
  · rw [h3]; cases k0_cond2 i v == 1#1 <;> rfl
  · rw [used_of_not_past i v h3]; rfl

/-- The result's buffer is stored at every point, whatever the tables. -/
theorem idle5 (pf : pre0.Contents (Elt F)) (i : grid0.Coords) : idle0 pf 5 i = false := by
  generalize h : pf.atD 1 ![0] = v
  rw [show idle0 pf 5 i = (!(k0_cond2 i (pf.atD 1 ![0]) == 1#1) && !(k0_cond3 i (pf.atD 1 ![0]) == 1#1)) from rfl, h]
  exact stored i v

set_option maxHeartbeats 2000000 in
theorem live5 (t : Fin (cfgM m hO).N) : (cfgM m hO).idle 5 (grid0.coords t) = false :=
  idle5 (tbl m) (grid0.coords t)

/-- Each window's staging buffer at a point. -/
abbrev ms0 (t : Fin (cfgM m hO).N) : Memref sig .tc .vmem S512x1024 .bf16 := ((cfgM m hO).win 0).stage ((cfgM m hO).slots t 0)
abbrev ms1 (t : Fin (cfgM m hO).N) : Memref sig .tc .vmem S512x128 .f32 := ((cfgM m hO).win 1).stage ((cfgM m hO).slots t 1)
abbrev ms2 (t : Fin (cfgM m hO).N) : Memref sig .tc .vmem S1x1024x1408 .f32 := ((cfgM m hO).win 2).stage ((cfgM m hO).slots t 2)
abbrev ms3 (t : Fin (cfgM m hO).N) : Memref sig .tc .vmem S1x1024x1408 .f32 := ((cfgM m hO).win 3).stage ((cfgM m hO).slots t 3)
abbrev ms4 (t : Fin (cfgM m hO).N) : Memref sig .tc .vmem S1x1408x1024 .f32 := ((cfgM m hO).win 4).stage ((cfgM m hO).slots t 4)
abbrev ms5 (t : Fin (cfgM m hO).N) : Memref sig .tc .vmem S512x1024 .bf16 := ((cfgM m hO).win 5).stage ((cfgM m hO).slots t 5)

/-- The body at a point, on the buffers the pipeline calls it with. -/
abbrev bodyAt (t : Fin (cfgM m hO).N) : Prog (TpuEff nD τ sig (Elt F) Λ₀ .tc) PUnit :=
  cc0_moe_experts (grid0.coords t) (Memref.whole main_arg0) (Memref.isWhole_whole _) (Memref.whole main_arg1) (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (ms5 m hO t) (hstage0_5 (((cfgM m hO).slots t 5).cast nbuf0_5))
    sc0 (Memref.isWhole_whole _) sc1 (Memref.isWhole_whole _) sc2 (Memref.isWhole_whole _) sc3 (Memref.isWhole_whole _)

/-- What the body is called with, -/
def bodyPre (c : Dev nD) (t : Fin (cfgM m hO).N) : sProp (Res F) :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (c : Dev nD) (t : Fin (cfgM m hO).N) : sProp (Res F) :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t ∗ (dats m hO 0 c).leavesExact 5 t)

set_option maxHeartbeats 2000000 in
/-- The body at any point. -/
theorem sound_body (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4]
  rw [show (dats m hO 0 c).owesAt () t.succ = (dats m hO 0 c).owesAt () t.castSucc from rfl]
  rw [show (dats m hO 0 c).Φ t.succ = Inv m hO c (t.val + 1) from rfl, show (dats m hO 0 c).Φ t.castSucc = Inv m hO c t.val from rfl]
  rw [show (dats m hO 0 c).leavesExact 0 t = owns (c : Thread nD τ) (ms0 m hO t) fullShare (iblk m hO c 0 t) from rfl]
  rw [show (dats m hO 0 c).leavesExact 1 t = owns (c : Thread nD τ) (ms1 m hO t) fullShare (iblk m hO c 1 t) from rfl]
  rw [show (dats m hO 0 c).leavesExact 2 t = owns (c : Thread nD τ) (ms2 m hO t) fullShare (iblk m hO c 2 t) from rfl]
  rw [show (dats m hO 0 c).leavesExact 3 t = owns (c : Thread nD τ) (ms3 m hO t) fullShare (iblk m hO c 3 t) from rfl]
  rw [show (dats m hO 0 c).leavesExact 4 t = owns (c : Thread nD τ) (ms4 m hO t) fullShare (iblk m hO c 4 t) from rfl]
  rw [show (dats m hO 0 c).leavesExact 5 t = owns (c : Thread nD τ) (ms5 m hO t) fullShare ((dats m hO 0 c).after 5 t) from by
    unfold Dat.leavesExact; rw [live5 m hO t]; try rfl, after5]
  unfold Inv
  iintro ⟨⟨%w1, %w3, %w2, %hw, S0, S1, S2, S3, Hg, T1, T2⟩, Ho, ⟨%d0, H0⟩, ⟨%d1, H1⟩, ⟨%d2, H2⟩, ⟨%d3, H3⟩, ⟨%d4, H4⟩, ⟨%d5, H5⟩⟩
  obtain ⟨l1, l3, l2⟩ := loaded m hO c t w1 w3 w2 hw
  iapply (run c (grid0.coords t) _ _ _ _ _ _ _ _ _ _ _ _ _ _ _ _ _ _ _ _ _ _ _ _ (tiles m) (count m) (iblk m hO c 0 t) (iblk m hO c 1 t)
    (iblk m hO c 2 t) (iblk m hO c 3 t) (iblk m hO c 4 t) w1 w3 w2 (used_of_not_past _ _) Set.univ _)
  rw [l1, l3, l2]
  isplitl [T1]; · iexact T1
  isplitl [T2]; · iexact T2
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  iintro ⟨T1, T2, H0, H1, H2, H3, H4, H5, S0, S1, S2, S3⟩
  isplitl [S0 S1 S2 S3 Hg T1 T2]
  · iexists _, _, _
    isplitr
    · ipureintro
      intro t' ht
      obtain rfl : t' = t := Fin.ext (by omega)
      exact ⟨rfl, rfl, rfl⟩
    isplitl [S0]; · iexact S0
    isplitl [S1]; · iexact S1
    isplitl [S2]; · iexact S2
    isplitl [S3]; · iexact S3
    isplitl [Hg]; · iexact Hg
    isplitl [T1]; · iexact T1
    iexact T2
  isplitl [Ho]; · iexact Ho
  isplitl [H0]; · iexact H0
  isplitl [H1]; · iexact H1
  isplitl [H2]; · iexact H2
  isplitl [H3]; · iexact H3
  isplitl [H4]; · iexact H4
  iexact H5

/-- The body's row of the table, at the point's buffers. -/
theorem defs₀_row (t : Fin (cfgM m hO).N) :
    defs₀ (F := F) .tc (cfgM m hO).body ((cfgM m hO).bodyArgs t ((cfgM m hO).slots t)) = bodyAt m hO t := by
  unfold defs₀; rw [Defs.onTc_tc]; rfl

set_option maxHeartbeats 2000000 in
/-- The body's obligation, at every point. -/
theorem body_obligation (c : Dev nD) : BodyObligation (dats m hO 0 c) (defs₀ (F := F)) Variants.none () Set.univ := fun t => by
  rw [bigSep_W0, bigSep_W0, defs₀_row]
  exact triple_restated (sound_body m hO c t) rfl .rfl fun _ => .rfl

/-! ## The launch -/

theorem hin (c : Dev nD) : iprop(Pipeline.ΦA spec0 c ∗ Pipeline.ΦT pre0 (tbl m) c) ⊢ (dats m hO 0 c).Φ 0 := by
  rw [show (dats m hO 0 c).Φ 0 = Inv m hO c 0 from rfl, PhiA_eq, PhiT_eq]
  unfold Inv
  iintro ⟨⟨⟨⟨%e0, S0⟩, ⟨%e1, S1⟩, ⟨%e2, S2⟩, S3⟩, Hg⟩, T1, T2⟩
  iexists e0, e1, e2
  isplitr
  · ipureintro
    intro t ht
    omega
  isplitl [S0]; · iexact S0
  isplitl [S1]; · iexact S1
  isplitl [S2]; · iexact S2
  isplitl [S3]; · iexact S3
  isplitl [Hg]; · iexact Hg
  isplitl [T1]; · iexact T1
  iexact T2

theorem hout (c : Dev nD) : (dats m hO 0 c).Φ (Fin.last (cfgM m hO).N) ⊢ Pipeline.ΦA spec0 c := by
  rw [show (dats m hO 0 c).Φ (Fin.last (cfgM m hO).N) = Inv m hO c (cfgM m hO).N from rfl, PhiA_eq]
  unfold Inv
  iintro ⟨%w1, %w3, %w2, %hw, S0, S1, S2, S3, Hg, T1, T2⟩
  isplitr [Hg]
  · isplitl [S0]; · iexists _; iexact S0
    isplitl [S1]; · iexists _; iexact S1
    isplitl [S2]; · iexists _; iexact S2
    iexact S3
  iexact Hg

theorem hshare (c : Dev nD) (w : Fin (cfgM m hO).W) : (dats m hO 0 c).share w = fullShare := by
  match w with
  | ⟨0, _⟩ => rfl
  | ⟨1, _⟩ => rfl
  | ⟨2, _⟩ => rfl
  | ⟨3, _⟩ => rfl
  | ⟨4, _⟩ => rfl
  | ⟨5, _⟩ => rfl

theorem rest0 : main_arg0 ∈ Pipeline.restRefs sig spec0 := Pipeline.mem_restRefs_of main_arg0 (by decide) (by decide)
theorem rest1 : main_arg1 ∈ Pipeline.restRefs sig spec0 := Pipeline.mem_restRefs_of main_arg1 (by decide) (by decide)
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)

set_option backward.isDefEq.respectTransparency.types false in
/-- The run: every array of the pipeline ends at what the blocks make of it, every other buffer as the region found it,
    and every semaphore at zero. -/
theorem run_main : θ_run defs (onTc (τ := τ) (main (F := F))) (s₀ m ρ)
    (fun r => (Pipeline.FramePost (Pipeline.pin pcfgs (adm m hO)) (dats m hO) 0 (V m)) r ∧ r.2.sem = fun _ => 0) :=
  Pipeline.θ_run_frameP_track (Q' := _) pcfgs (adm m hO) (dats m hO) (0 : Fin 1) launch0 defs₀ Variants.none m ρ main
    (hbody := fun c => (body_obligation m hO c).loose) (hshare := hshare m hO) (howed := fun _ _ => rfl) (V := V m)
    (hmain := hmain m Variants.none) (hA := A_eq m hO) (hpf := V_pre m) (hin := hin m hO) (hout := hout m hO)

/-- The result's array, after the run. -/
def result (c : Dev nD) : Buf (Elt F) ((c : Thread nD τ).loc main_v3) := (dats m hO 0 c).arrAt 5 (cfgM m hO).N

/-- The result and the unchanged arguments. -/
theorem final : θ_run defs (onTc (τ := τ) (main (F := F))) ⟨m, fun _ => 0, ρ⟩ (fun r => (∀ c : Dev nD,
      r.2.mem ((c.tc : Thread nD τ).loc main_v3) = result m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (h : _ ∧ _) => ⟨fun c => ⟨(h.1 c).1 5,
      ((h.1 c).2 main_arg0 rest0).trans (V_of_ne m c _ (by decide) (by decide) (by decide)),
      ((h.1 c).2 main_arg1 rest1).trans (V_of_ne m c _ (by decide) (by decide) (by decide)),
      ((h.1 c).2 main_arg2 rest2).trans (V_of_ne m c _ (by decide) (by decide) (by decide)),
      ((h.1 c).2 main_arg3 rest3).trans (V_of_ne m c _ (by decide) (by decide) (by decide)),
      ((h.1 c).1 2).trans (((dats m hO 0 c).arrAt_in 2 rfl _).trans ((A_eq m hO c 2).trans (V_of_ne m c main_arg4 (by decide) (by decide) (by decide)))),
      ((h.1 c).1 3).trans (((dats m hO 0 c).arrAt_in 3 rfl _).trans ((A_eq m hO c 3).trans (V_of_ne m c main_arg5 (by decide) (by decide) (by decide)))),
      ((h.1 c).1 4).trans (((dats m hO 0 c).arrAt_in 4 rfl _).trans ((A_eq m hO c 4).trans (V_of_ne m c main_arg6 (by decide) (by decide) (by decide))))⟩, h.2⟩)
    (run_main m ρ hO)

end Cert.Proof.Experts
end
-- ==== Proof.ExpertsBlock.lean ====
module

public import proofs.«01_k».proof.Proof.ExpertsRun
public import proofs.«01_k».proof.Proof.Layer
public import Idealize.ShloMosaic.Lib.Pipeline.ValueKit
public import Idealize.ShloMosaic.Lib.Pointwise

/-!
# The experts' block at the ideal values

The kernel takes an expert's 1408 hidden columns in six chunks, five of 256 and one of 128. Each chunk adds its columns' part
to the accumulator, so that the last one leaves the sum over all columns.
-/

@[expose] public section

set_option maxRecDepth 16384

noncomputable section

namespace Cert.Proof.ExpertsBlock

open Cert.Kernel2Ideal Cert.Kernel2Ideal.Gen Idealize.ShloMosaic Idealize.ShloMosaic.TcCoe Idealize.ShloMosaic.Tactic Idealize.SL.Sem
open Idealize.ShloMosaic.Pointwise
open Cert.Proof.Layer Cert.Proof.Experts

/-- The rows of a matrix. -/
abbrev mat {a b : ℕ} (x : (⟨2, ![a, b]⟩ : Shape).Idx → EReal) : Fin a → Fin b → EReal := fun i j => x (ix2 i j)

/-- What hidden columns give an output: the gated activations, weighted by the token's gate, times the second weights. -/
def part {d n p : ℕ} (x : Fin d → EReal) (g : EReal) (W1 W3 : Fin d → Fin n → EReal) (W2 : Fin n → Fin p → EReal) (e : Fin p) : EReal :=
  ∑ f, act x W1 W3 f * g * W2 f e

section Chunks
variable (x : Vec Ideal S512x1024 .bf16) (g : Vec Ideal S512x1 .f32) (c1 c3 : Vec Ideal S1024x256 .bf16)
  (a : Vec Ideal S512x1024 .f32) (r : Vec Ideal S256x1024 .bf16) (i : Fin 512) (n : Fin 1024)

theorem chunk1 : k0_pay10 x g c1 c3 a r (ix2 i n) = a (ix2 i n) + part (mat x i) (g (ix2 i 0)) (mat c1) (mat c3) (mat r) n := by
  pointwise [k0_pay10, k0_pay7, k0_pay8]; rfl

theorem chunk2 : k0_pay12 (k0_pay8 g) (k0_pay11 x c1 c3) a r (ix2 i n)
    = a (ix2 i n) + part (mat x i) (g (ix2 i 0)) (mat c1) (mat c3) (mat r) n := by
  pointwise [k0_pay12, k0_pay11, k0_pay7, k0_pay8]; rfl

theorem chunk3 : k0_pay13 (k0_pay7 x) (k0_pay8 g) c1 c3 a r (ix2 i n)
    = a (ix2 i n) + part (mat x i) (g (ix2 i 0)) (mat c1) (mat c3) (mat r) n := by
  pointwise [k0_pay13, k0_pay7, k0_pay8]; rfl

theorem chunk4 : k0_pay17 (k0_pay8 g) (k0_pay14 (k0_pay7 x) c1) (k0_pay15 (k0_pay7 x) c3) (k0_pay16 (k0_pay7 x) c1) a r (ix2 i n)
    = a (ix2 i n) + part (mat x i) (g (ix2 i 0)) (mat c1) (mat c3) (mat r) n := by
  pointwise [k0_pay17, k0_pay14, k0_pay15, k0_pay16, k0_pay7, k0_pay8]; rfl

theorem chunk5 : k0_pay18 (k0_pay7 x) (k0_pay8 g) c1 c3 a r (ix2 i n)
    = a (ix2 i n) + part (mat x i) (g (ix2 i 0)) (mat c1) (mat c3) (mat r) n := by
  pointwise [k0_pay18, k0_pay7, k0_pay8]; rfl

theorem chunk6 (d1 d3 : Vec Ideal S1024x128 .bf16) (q : Vec Ideal S128x1024 .bf16) :
    k0_pay4 (k0_pay7 x) (k0_pay8 g) (k0_pay19 (k0_pay7 x) d1) d3 (constant S512x128 .f32 0x00000000#32) a q (ix2 i n)
    = a (ix2 i n) + part (mat x i) (g (ix2 i 0)) (mat d1) (mat d3) (mat q) n := by
  pointwise [k0_pay4, k0_pay19, k0_pay7, k0_pay8]; rfl
end Chunks

/-- A sum over 1408 columns, cut as the kernel cuts it. -/
theorem sum_cut (f : Fin 1408 → EReal) : ∑ k, f k
    = ∑ k : Fin 256, f ⟨0 + k.val, by omega⟩ + ∑ k : Fin 256, f ⟨256 + k.val, by omega⟩ + ∑ k : Fin 256, f ⟨512 + k.val, by omega⟩
      + ∑ k : Fin 256, f ⟨768 + k.val, by omega⟩ + ∑ k : Fin 256, f ⟨1024 + k.val, by omega⟩ + ∑ k : Fin 128, f ⟨1280 + k.val, by omega⟩ := by
  have h0 : ∀ k : Fin 256, (⟨0 + k.val, by omega⟩ : Fin 1408) = ⟨k.val, by omega⟩ := fun k => Fin.ext (Nat.zero_add _)
  simp only [h0]
  refine (Fin.sum_univ_add (a := 1280) (b := 128) f).trans (congrArg₂ (· + ·) ?_ rfl)
  refine (Fin.sum_univ_add (a := 1024) (b := 256) _).trans (congrArg₂ (· + ·) ?_ rfl)
  refine (Fin.sum_univ_add (a := 768) (b := 256) _).trans (congrArg₂ (· + ·) ?_ rfl)
  refine (Fin.sum_univ_add (a := 512) (b := 256) _).trans (congrArg₂ (· + ·) ?_ rfl)
  exact Fin.sum_univ_add (a := 256) (b := 256) _

/-- A column of the chunk at column `o`. -/
theorem cols_at {l : ℕ} (w : Vec Ideal S1024x1408 .bf16) (o : ℕ)
    (h : ∀ a, (![0, o] : Fin 2 → ℕ) a + (⟨2, ![1024, l]⟩ : Shape).size a ≤ S1024x1408.size a) (k : Fin 1024) (f : Fin l) (hl : o + f.val < 1408) :
    View.ld (Val := Elt Ideal) w (Rect.unit (s := S1024x1408) ![0, o] (⟨2, ![1024, l]⟩ : Shape).size h) (ix2 k f) = w (ix2 k ⟨o + f.val, hl⟩) := by
  refine congrArg w (funext fun a => Fin.ext ((Rect.idx_unit_val _ _ _ _ a).trans ?_))
  fin_cases a <;> simp [ix2]

/-- A row of the chunk at row `o`. -/
theorem rows_at {l : ℕ} (w : Vec Ideal S1408x1024 .bf16) (o : ℕ)
    (h : ∀ a, (![o, 0] : Fin 2 → ℕ) a + (⟨2, ![l, 1024]⟩ : Shape).size a ≤ S1408x1024.size a) (f : Fin l) (n : Fin 1024) (hl : o + f.val < 1408) :
    View.ld (Val := Elt Ideal) w (Rect.unit (s := S1408x1024) ![o, 0] (⟨2, ![l, 1024]⟩ : Shape).size h) (ix2 f n) = w (ix2 ⟨o + f.val, hl⟩ n) := by
  refine congrArg w (funext fun a => Fin.ext ((Rect.idx_unit_val _ _ _ _ a).trans ?_))
  fin_cases a <;> simp [ix2]

/-- A chunk's part is that of its columns. -/
theorem part_cut {l : ℕ} (x : Fin 1024 → EReal) (g : EReal) (w1 w3 : Vec Ideal S1024x1408 .bf16) (w2 : Vec Ideal S1408x1024 .bf16) (o : ℕ)
    (h h') (hl : ∀ f : Fin l, o + f.val < 1408) (n : Fin 1024) :
    part x g (mat (View.ld (Val := Elt Ideal) w1 (Rect.unit (s := S1024x1408) ![0, o] (⟨2, ![1024, l]⟩ : Shape).size h)))
      (mat (View.ld (Val := Elt Ideal) w3 (Rect.unit (s := S1024x1408) ![0, o] (⟨2, ![1024, l]⟩ : Shape).size h)))
      (mat (View.ld (Val := Elt Ideal) w2 (Rect.unit (s := S1408x1024) ![o, 0] (⟨2, ![l, 1024]⟩ : Shape).size h'))) n
      = ∑ f : Fin l, act x (mat w1) (mat w3) ⟨o + f.val, hl f⟩ * g * mat w2 ⟨o + f.val, hl f⟩ n := by
  refine Finset.sum_congr rfl fun f _ => ?_
  unfold act dot mat
  simp only [cols_at w1 o h _ f (hl f), cols_at w3 o h _ f (hl f), rows_at w2 o h' f n (hl f)]

section Acc
variable (x : Vec Ideal S512x1024 .bf16) (g : Vec Ideal S512x128 .f32) (w1 w3 : Vec Ideal S1024x1408 .bf16) (w2 : Vec Ideal S1408x1024 .bf16)
  (i : Fin 512) (n : Fin 1024)

theorem gcol_at : gcol (F := Ideal) g (ix2 i 0) = g (ix2 i 0) := by
  refine congrArg g (funext fun a => Fin.ext ((Rect.idx_unit_val _ _ _ _ a).trans ?_))
  fin_cases a <;> simp [ix2]

/-- The accumulator after the last chunk: the part of all columns. -/
theorem acc6_at : acc6 x g w1 w3 w2 (ix2 i n) = part (mat x i) (g (ix2 i 0)) (mat w1) (mat w3) (mat w2) n := by
  have z : (k0_pay9 (F := Ideal)) (ix2 i n) = 0 := by
    pointwise [k0_pay9]
  unfold acc6
  refine (chunk6 x (gcol g) _ i n _ _ _).trans ?_
  unfold acc5
  rw [chunk5]
  unfold acc4
  rw [chunk4]
  unfold acc3
  rw [chunk3]
  unfold acc2
  rw [chunk2]
  unfold acc1
  rw [chunk1, z, zero_add, gcol_at]
  refine Eq.trans ?_ (sum_cut fun f => act (mat x i) (mat w1) (mat w3) f * g (ix2 i 0) * mat w2 f n).symm
  refine congrArg₂ (· + ·) (congrArg₂ (· + ·) (congrArg₂ (· + ·) (congrArg₂ (· + ·) (congrArg₂ (· + ·) ?_ ?_) ?_) ?_) ?_) ?_
  all_goals exact part_cut _ _ w1 w3 w2 _ _ _ (fun f => by omega) n

/-- What a point leaves in its block. -/
theorem block_at (t : grid0.Coords) (nt : Vec Ideal S1 .i32) : block t nt x g w1 w3 w2 (ix2 i n)
    = if k0_cond3 t (word nt) = 1#1 then 0 else part (mat x i) (g (ix2 i 0)) (mat w1) (mat w3) (mat w2) n := by
  unfold block
  split
  · pointwise [k0_pay6]
  · pointwise [k0_pay5]
    exact acc6_at x g w1 w3 w2 i n
end Acc

end Cert.Proof.ExpertsBlock
end

end
-- ==== Proof.ExpertsRef.lean ====
module

public import proofs.«01_k».proof.Proof.Gen.Reference2Ideal
public import proofs.«01_k».proof.Proof.Gen.Reference2Ideal.Read
public import proofs.«01_k».proof.Proof.ExpertsBlock
public import Idealize.ShloMosaic.Lib.TwoAxisContraction
public import Idealize.ShloMosaic.Lib.Pointwise
public import Idealize.ShloMosaic.Lib.WordCmp

/-!
# The experts' reference

Every expert's output of every token, weighted by the token's dense gates: the gate at the token's expert, zero elsewhere.
-/

@[expose] public section

set_option maxRecDepth 16384

noncomputable section

namespace Cert.Proof.ExpertsRef

open Cert.Reference2Ideal Cert.Reference2Ideal.Gen Cert.Reference2Ideal.Read Idealize.ShloMosaic Idealize.ShloMosaic.TcCoe
open Idealize.ShloMosaic.Tactic Idealize.SL.Sem Idealize.ShloMosaic.Pointwise
open Idealize.ShloMosaic.ValueIdx (contrEquiv2_symm_val0 contrEquiv2_symm_val1 sum_contr2)
open Cert.Proof.Layer Cert.Proof.ExpertsBlock

/-- The tile of a token. -/
def tile (i : Fin 16384) : Fin 32 := ⟨i.val / 512, by omega⟩

/-- The expert a word names. -/
def expertOf (v : BitVec 32) : Fin 8 := ⟨v.toNat % 8, by omega⟩

/-- A matrix of a stack. -/
abbrev lay {a b n : ℕ} (x : (⟨3, ![a, b, n]⟩ : Shape).Idx → EReal) (e : Fin a) : Fin b → Fin n → EReal := fun i j => x (ix3 e i j)

open Classical in
/-- The result: each token through its tile's expert, weighted by its gate; zero in the tiles not in use. -/
def G (te : Vec Ideal S32 .i32) (nt : Vec Ideal S1 .i32) (x : Vec Ideal S16384x1024 .f32) (g : Vec Ideal S16384 .f32)
    (w1 w3 : Vec Ideal S8x1024x1408 .f32) (w2 : Vec Ideal S8x1408x1024 .f32) : Vec Ideal S16384x1024 .bf16 := fun j =>
  if IntOp.cmpi .slt (BitVec.ofNat 32 (tile (j 0)).val) (nt (ix1 0)) = 1#1 then
    part (mat x (j 0)) (g (ix1 (j 0))) (lay w1 (expertOf (te (ix1 (tile (j 0)))))) (lay w3 (expertOf (te (ix1 (tile (j 0))))))
      (lay w2 (expertOf (te (ix1 (tile (j 0)))))) (j 1)
  else 0

variable (x0 : Vec Ideal S32 .i32) (x1 : Vec Ideal S1 .i32) (x2 : Vec Ideal S16384x1024 .f32) (x3 : Vec Ideal S16384 .f32)
  (x4 x5 : Vec Ideal S8x1024x1408 .f32) (x6 : Vec Ideal S8x1408x1024 .f32)

theorem act_at (i : Fin 16384) (e : Fin 8) (f : Fin 1408) :
    val_main_v16 x2 x4 x5 (ix3 i e f) = act (mat x2 i) (lay x4 e) (lay x5 e) f := by
  unfold act dot Ideal.logistic
  pointwise [val_main_v16, val_main_v15, val_main_v14, val_main_call2_v5, val_main_call2_v4, val_main_call2_cst_0, val_main_call2_v3, val_main_call2_v2, val_main_call2_cst, val_main_call2_v1, val_main_call2_v0, val_main_v13]

/-- The dense gate of a token at an expert. -/
def dense (e : Fin 8) (i : Fin 16384) : EReal :=
  FloatOps.uitofp (F := Ideal) .f32 (IntOp.cmpi .eq (x0 (ix1 (tile i))) (BitVec.ofNat 32 e.val))
    * Scalar.select (IntOp.cmpi .slt (BitVec.ofNat 32 (tile i).val) (x1 (ix1 0))) (x3 (ix1 i)) (0 : EReal)

theorem gate_at (i : Fin 16384) (e : Fin 8) (f : Fin 1408) : val_main_v18 x0 x1 x3 (ix3 i e f) = dense x0 x1 x3 e i := by
  have z : val_main_call0_v1 (F := Ideal) (ix1 i) = 0 := by
    pointwise [val_main_call0_v1, val_main_call0_v0, val_main_cst, id_eq]
  pointwise [val_main_v18, val_main_v17, val_main_v12, val_main_v11, val_main_v10, val_main_v9, val_main_call1_v4, val_main_call1_v3, val_main_call1_v2,
    val_main_call1_v1, val_main_call1_v0, val_main_v8, val_main_v7, val_main_v6, val_main_v5, val_main_v4, val_main_v3, val_main_v2, val_main_v1,
    val_main_v0]
  unfold dense
  rw [z]
  rfl

theorem sum_at (i : Fin 16384) (n : Fin 1024) : val_main_v20 x0 x1 x2 x3 x4 x5 x6 (ix2 i n)
    = ∑ e : Fin 8, ∑ f : Fin 1408, val_main_v19 x0 x1 x2 x3 x4 x5 (ix3 i e f) * x6 (ix3 e f n) := by
  let D := dot_S16384x8x1408_S8x1408x1024_S16384x1024_12_01_0_2_n_n
  have hr : D.contr.rank = 2 := rfl
  have c0 : D.contr.size ⟨0, by rw [hr]; omega⟩ = 8 := rfl
  have c1 : D.contr.size ⟨1, by rw [hr]; omega⟩ = 1408 := rfl
  refine (Ideal.dotGeneral_apply D none _ _ _ _).trans ((sum_contr2 D 8 1408 hr c0 c1 _).trans ?_)
  refine Finset.sum_congr rfl fun e _ => Finset.sum_congr rfl fun f _ => ?_
  have h0 := contrEquiv2_symm_val0 D 8 1408 hr c0 c1 (e, f)
  have h1 := contrEquiv2_symm_val1 D 8 1408 hr c0 c1 (e, f)
  refine congrArg₂ (· * ·) (congrArg _ (funext fun a => Fin.ext ?_)) (congrArg _ (funext fun a => Fin.ext ?_))
  · match a with
    | ⟨0, _⟩ => rfl
    | ⟨1, _⟩ => exact h0
    | ⟨2, _⟩ => exact h1
  · match a with
    | ⟨0, _⟩ => exact h0
    | ⟨1, _⟩ => exact h1
    | ⟨2, _⟩ => rfl

theorem at_expert (v : BitVec 32) : FloatOps.uitofp (F := Ideal) .f32 (IntOp.cmpi .eq v v) = (1 : EReal) := by
  rw [WordCmp.cmpi_eq_eq, decide_eq_true rfl]
  show (((1#1 : BitVec 1).toNat : ℝ) : EReal) = 1
  simp

theorem off_expert (v w : BitVec 32) (h : v ≠ w) : FloatOps.uitofp (F := Ideal) .f32 (IntOp.cmpi .eq v w) = (0 : EReal) := by
  rw [WordCmp.cmpi_eq_eq, decide_eq_false h]
  show (((0#1 : BitVec 1).toNat : ℝ) : EReal) = 0
  simp

/-- The reference's result. -/
theorem result (hte : ∀ t : Fin 32, (x0 (ix1 t)).toNat < 8) :
    val_main_v21 x0 x1 x2 x3 x4 x5 x6 = G x0 x1 x2 x3 x4 x5 x6 := by
  funext j
  obtain ⟨i, n, rfl⟩ : ∃ (i : Fin 16384) (n : Fin 1024), j = ix2 i n := ⟨j 0, j 1, eq_ix2 j⟩
  have hn : BitVec.ofNat 32 (expertOf (x0 (ix1 (tile i)))).val = x0 (ix1 (tile i)) := by
    have := hte (tile i)
    apply BitVec.eq_of_toNat_eq
    simp only [expertOf, BitVec.toNat_ofNat]
    omega
  have hs : val_main_v21 x0 x1 x2 x3 x4 x5 x6 (ix2 i n)
      = ∑ e : Fin 8, ∑ f : Fin 1408, act (mat x2 i) (lay x4 e) (lay x5 e) f * dense x0 x1 x3 e i * lay x6 e f n := by
    refine Eq.trans ?_ ((sum_at x0 x1 x2 x3 x4 x5 x6 i n).trans ?_)
    · pointwise [val_main_v21]
    · refine Finset.sum_congr rfl fun e _ => Finset.sum_congr rfl fun f _ => ?_
      rw [val_main_v19_apply, act_at, gate_at]
      rfl
  have hz : ∀ e : Fin 8, e ≠ expertOf (x0 (ix1 (tile i))) →
      ∑ f : Fin 1408, act (mat x2 i) (lay x4 e) (lay x5 e) f * dense x0 x1 x3 e i * lay x6 e f n = 0 := by
    intro e he
    have hd : dense x0 x1 x3 e i = 0 := by
      unfold dense
      rw [off_expert _ _ (fun h => he (Fin.ext ?_)), zero_mul]
      rw [h]
      simp only [expertOf, BitVec.toNat_ofNat]
      have := e.isLt
      omega
    refine Finset.sum_eq_zero fun f _ => ?_
    rw [hd, mul_zero, zero_mul]
  rw [hs, Finset.sum_eq_single (expertOf (x0 (ix1 (tile i)))) (fun e _ he => hz e he) (fun h => absurd (Finset.mem_univ _) h)]
  have hd : dense x0 x1 x3 (expertOf (x0 (ix1 (tile i)))) i
      = Scalar.select (IntOp.cmpi .slt (BitVec.ofNat 32 (tile i).val) (x1 (ix1 0))) (x3 (ix1 i)) (0 : EReal) := by
    unfold dense
    rw [hn, at_expert, one_mul]
  rw [hd]
  unfold G
  dsimp only
  split
  · rename_i h
    have h' : IntOp.cmpi .slt (BitVec.ofNat 32 (tile i).val) (x1 (ix1 0)) = 1#1 := h
    rw [h']
    rfl
  · rename_i h
    have h' : IntOp.cmpi .slt (BitVec.ofNat 32 (tile i).val) (x1 (ix1 0)) = 0#1 := by
      have : ∀ b : BitVec 1, ¬b = 1#1 → b = 0#1 := by decide
      exact this _ h
    rw [h']
    refine Finset.sum_eq_zero fun f _ => ?_
    rw [show Scalar.select (0#1) (x3 (ix1 i)) (0 : EReal) = 0 from rfl, mul_zero, zero_mul]

end Cert.Proof.ExpertsRef
end

end
-- ==== Proof.ExpertsArrays.lean ====
module

public import proofs.«01_k».proof.Proof.ExpertsFrame
public import proofs.«01_k».proof.Proof.ExpertsRef

/-! The experts' result array at the ideal values, tile by tile. -/

@[expose] public section

set_option maxRecDepth 16384

noncomputable section

namespace Cert.Proof.ExpertsArrays

open Cert.Kernel2Ideal Cert.Kernel2Ideal.Gen Idealize.ShloMosaic Idealize.ShloMosaic.TcCoe Idealize.ShloMosaic.Tactic Idealize.SL.Sem
open Idealize.ShloMosaic.Pointwise
open Idealize.ShloMosaic.Pipeline (Dat)
open Cert.Proof.Layer Cert.Proof.Experts Cert.Proof.ExpertsBlock
open Cert.Proof.ExpertsRef (G tile expertOf lay)

/-- The token of a tile's row. -/
def tok (t : Fin grid0.N) (r : Fin 512) : Fin 16384 := ⟨t.val * 512 + r.val, by have : t.val < 32 := t.isLt; omega⟩

/-- A grid point's number, as a tile. -/
def num (t : Fin grid0.N) : Fin 32 := ⟨t.val, t.isLt⟩

theorem tile_tok (t : Fin grid0.N) (r : Fin 512) : tile (tok t r) = num t :=
  Fin.ext (by unfold tile tok num; dsimp only; omega)

theorem off : ∀ t : Fin grid0.N, k0_off1 (grid0.coords t) = ![t.val] := by decide +kernel

theorem coord : ∀ t : Fin grid0.N, BitVec.ofNat 32 ((grid0.coords t) 0).val = BitVec.ofNat 32 t.val := by decide +kernel

section
variable {F : FTy → Type} [FloatOps F]

theorem expert_at (t : Fin grid0.N) (te : Vec F S32 .i32) : expert (grid0.coords t) te = te (ix1 (num t)) := by
  unfold expert
  refine View.ld_unit_apply_of _ _ _ _ _ _ fun a => ?_
  obtain rfl : a = 0 := Subsingleton.elim _ _
  have h : k0_off1 (grid0.coords t) 0 = t.val := congrFun (off t) 0
  have h2 := (Shape.Idx.first (s := S1) (numel1_S1.symm ▸ Nat.one_pos) 0).isLt
  have h3 : S1.size 0 = 1 := rfl
  show t.val = _
  rw [h]
  omega
end

/-- The unused tiles' condition, on the tile's number. -/
theorem past_iff (t : Fin grid0.N) (v : BitVec 32) :
    k0_cond3 (grid0.coords t) v = 1#1 ↔ ¬IntOp.cmpi .slt (BitVec.ofNat 32 (num t).val) v = 1#1 := by
  unfold k0_cond3
  simp only [widened, coord t]
  simp only [Scalar.cmpi, WordCmp.cmpi_sge_eq, WordCmp.cmpi_slt_eq, WordCmp.ofBool_decide_eq_one_iff, num]
  omega

variable (m : (ℓ : Loc nD τ sig) → Buf (Elt Ideal) ℓ) (hO : ok0 (tbl m))

/-- The argument arrays. -/
abbrev X0 (c : Dev nD) : Vec Ideal S32 .i32 := m ((c : Thread nD τ).loc main_arg0)
abbrev X1 (c : Dev nD) : Vec Ideal S1 .i32 := m ((c : Thread nD τ).loc main_arg1)
abbrev X2 (c : Dev nD) : Vec Ideal S16384x1024 .f32 := m ((c : Thread nD τ).loc main_arg2)
abbrev X3 (c : Dev nD) : Vec Ideal S16384 .f32 := m ((c : Thread nD τ).loc main_arg3)
abbrev X4 (c : Dev nD) : Vec Ideal S8x1024x1408 .f32 := m ((c : Thread nD τ).loc main_arg4)
abbrev X5 (c : Dev nD) : Vec Ideal S8x1024x1408 .f32 := m ((c : Thread nD τ).loc main_arg5)
abbrev X6 (c : Dev nD) : Vec Ideal S8x1408x1024 .f32 := m ((c : Thread nD τ).loc main_arg6)

theorem e0 (t : Fin (cfgM m hO).N) : ((cfgM m hO).win 0).index t = ![t.val, 0] :=
  (by decide +kernel : ∀ t : Fin grid0.N, cc0_transform_0 (grid0.coords t) = ![t.val, 0]) t
theorem e1 (t : Fin (cfgM m hO).N) : ((cfgM m hO).win 1).index t = ![t.val, 0] :=
  (by decide +kernel : ∀ t : Fin grid0.N, cc0_transform_1 (grid0.coords t) = ![t.val, 0]) t
theorem e5 (t : Fin (cfgM m hO).N) : ((cfgM m hO).win 5).index t = ![t.val, 0] :=
  (by decide +kernel : ∀ t : Fin grid0.N, cc0_transform_5 (grid0.coords t) = ![t.val, 0]) t
theorem e2 (t : Fin (cfgM m hO).N) : ((cfgM m hO).win 2).index t = ![(tiles m (ix1 (num t))).toNat, 0, 0] := by
  show (![(expert (grid0.coords t) (tiles m)).toNat, (0#32).toNat, (0#32).toNat] : Fin 3 → ℕ) = _
  rw [expert_at]; rfl
theorem e3 (t : Fin (cfgM m hO).N) : ((cfgM m hO).win 3).index t = ![(tiles m (ix1 (num t))).toNat, 0, 0] := by
  show (![(expert (grid0.coords t) (tiles m)).toNat, (0#32).toNat, (0#32).toNat] : Fin 3 → ℕ) = _
  rw [expert_at]; rfl
theorem e4 (t : Fin (cfgM m hO).N) : ((cfgM m hO).win 4).index t = ![(tiles m (ix1 (num t))).toNat, 0, 0] := by
  show (![(expert (grid0.coords t) (tiles m)).toNat, (0#32).toNat, (0#32).toNat] : Fin 3 → ℕ) = _
  rw [expert_at]; rfl

theorem V2 (c : Dev nD) : V m c main_v2 = truncf (F := Ideal) (s := S16384x1024) .bf16 (X2 m c) bitsLt_bf16_f32 := by
  unfold V; after_results

theorem V1 (c : Dev nD) : V m c main_v1 = broadcastInDim S16384x128 ![0, 1] bcast_S16384x1_S16384x128_0_1
    (broadcastInDim S16384x1 ![0] bcast_S16384_S16384x1_0 (X3 m c)) := by
  unfold V; after_results

theorem blk0 (c : Dev nD) (t : Fin (cfgM m hO).N) (r : Fin 512) (d : Fin 1024) :
    (iblk m hO c 0 t : Vec Ideal S512x1024 .bf16) (ix2 r d) = X2 m c (ix2 (tok t r) d) := by
  have e' : ((((cfgM m hO).win 0).blk t).view.emb (ix2 r d)) = (ix2 (tok t r) d : S16384x1024.Idx) := by
    unfold tok
    blk_ext [e0 m hO t]
  unfold iblk
  show V m c main_v2 ((((cfgM m hO).win 0).blk t).view.emb (ix2 r d)) = _
  rw [e', V2]
  pointwise

theorem blk1 (c : Dev nD) (t : Fin (cfgM m hO).N) (r : Fin 512) : (iblk m hO c 1 t : Vec Ideal S512x128 .f32) (ix2 r 0) = X3 m c (ix1 (tok t r)) := by
  have e' : ((((cfgM m hO).win 1).blk t).view.emb (ix2 r 0)) = (ix2 (tok t r) 0 : S16384x128.Idx) := by
    unfold tok
    blk_ext [e1 m hO t]
  unfold iblk
  show V m c main_v1 ((((cfgM m hO).win 1).blk t).view.emb (ix2 r 0)) = _
  rw [e', V1]
  pointwise

theorem blk2 (hte : ∀ j : Fin 32, (tiles m (ix1 j)).toNat < 8) (c : Dev nD) (t : Fin (cfgM m hO).N) (k : Fin 1024) (f : Fin 1408) :
    (iblk m hO c 2 t : Vec Ideal S1x1024x1408 .f32) (ix3 0 k f) = X4 m c (ix3 (expertOf (tiles m (ix1 (num t)))) k f) := by
  have e' : ((((cfgM m hO).win 2).blk t).view.emb (ix3 0 k f)) = (ix3 (expertOf (tiles m (ix1 (num t)))) k f : S8x1024x1408.Idx) := by
    have := hte (num t)
    unfold expertOf
    blk_ext [e2 m hO t]
  unfold iblk
  show V m c main_arg4 ((((cfgM m hO).win 2).blk t).view.emb (ix3 0 k f)) = _
  rw [e', V_of_ne m c main_arg4 (by decide) (by decide) (by decide)]

theorem blk3 (hte : ∀ j : Fin 32, (tiles m (ix1 j)).toNat < 8) (c : Dev nD) (t : Fin (cfgM m hO).N) (k : Fin 1024) (f : Fin 1408) :
    (iblk m hO c 3 t : Vec Ideal S1x1024x1408 .f32) (ix3 0 k f) = X5 m c (ix3 (expertOf (tiles m (ix1 (num t)))) k f) := by
  have e' : ((((cfgM m hO).win 3).blk t).view.emb (ix3 0 k f)) = (ix3 (expertOf (tiles m (ix1 (num t)))) k f : S8x1024x1408.Idx) := by
    have := hte (num t)
    unfold expertOf
    blk_ext [e3 m hO t]
  unfold iblk
  show V m c main_arg5 ((((cfgM m hO).win 3).blk t).view.emb (ix3 0 k f)) = _
  rw [e', V_of_ne m c main_arg5 (by decide) (by decide) (by decide)]

theorem blk4 (hte : ∀ j : Fin 32, (tiles m (ix1 j)).toNat < 8) (c : Dev nD) (t : Fin (cfgM m hO).N) (k : Fin 1408) (f : Fin 1024) :
    (iblk m hO c 4 t : Vec Ideal S1x1408x1024 .f32) (ix3 0 k f) = X6 m c (ix3 (expertOf (tiles m (ix1 (num t)))) k f) := by
  have e' : ((((cfgM m hO).win 4).blk t).view.emb (ix3 0 k f)) = (ix3 (expertOf (tiles m (ix1 (num t)))) k f : S8x1408x1024.Idx) := by
    have := hte (num t)
    unfold expertOf
    blk_ext [e4 m hO t]
  unfold iblk
  show V m c main_arg6 ((((cfgM m hO).win 4).blk t).view.emb (ix3 0 k f)) = _
  rw [e', V_of_ne m c main_arg6 (by decide) (by decide) (by decide)]

theorem w1_at (hte : ∀ j : Fin 32, (tiles m (ix1 j)).toNat < 8) (c : Dev nD) (t : Fin (cfgM m hO).N) :
    mat (W1 m hO c t) = lay (X4 m c) (expertOf (tiles m (ix1 (num t)))) := by
  funext k f
  refine Eq.trans ?_ (blk2 m hO hte c t k f)
  show k0_pay1 (iblk m hO c 2 t) (ix2 k f) = _
  pointwise [k0_pay1]
theorem w3_at (hte : ∀ j : Fin 32, (tiles m (ix1 j)).toNat < 8) (c : Dev nD) (t : Fin (cfgM m hO).N) :
    mat (W3 m hO c t) = lay (X5 m c) (expertOf (tiles m (ix1 (num t)))) := by
  funext k f
  refine Eq.trans ?_ (blk3 m hO hte c t k f)
  show k0_pay2 (iblk m hO c 3 t) (ix2 k f) = _
  pointwise [k0_pay2]
theorem w2_at (hte : ∀ j : Fin 32, (tiles m (ix1 j)).toNat < 8) (c : Dev nD) (t : Fin (cfgM m hO).N) :
    mat (W2 m hO c t) = lay (X6 m c) (expertOf (tiles m (ix1 (num t)))) := by
  funext k f
  refine Eq.trans ?_ (blk4 m hO hte c t k f)
  show k0_pay3 (iblk m hO c 4 t) (ix2 k f) = _
  pointwise [k0_pay3]

theorem flush5 (t : Fin (cfgM m hO).N) : ((cfgM m hO).win 5).flush t = true := by
  unfold Pipeline.Window.flush
  rw [Bool.and_eq_true, Bool.or_eq_true]
  refine ⟨rfl, ?_⟩
  by_cases h : t.val + 1 = (cfgM m hO).N
  · exact Or.inl (decide_eq_true h)
  · refine Or.inr (decide_eq_true ?_)
    have h' : t.val + 1 < (cfgM m hO).N := by have := t.isLt; omega
    refine ⟨h', fun e => ?_⟩
    have e' := (e5 m hO ⟨t.val + 1, h'⟩).symm.trans (e.trans (e5 m hO t))
    have e0 : t.val + 1 = t.val := congrFun e' 0
    omega

theorem covers5 : ((cfgM m hO).win 5).Covers := by
  refine ⟨(by decide : ∀ a : Fin 2, 0 < S512x1024.size a), fun β => ?_⟩
  have n0 : ((cfgM m hO).win 5).nblk (0 : Fin 2) = 32 := by show (16384 + 512 - 1) / 512 = 32; rfl
  have n1 : ((cfgM m hO).win 5).nblk (1 : Fin 2) = 1 := by show (1024 + 1024 - 1) / 1024 = 1; rfl
  refine ⟨⟨(β (0 : Fin 2)).val, lt_of_lt_of_eq (β (0 : Fin 2)).isLt n0⟩, flush5 m hO _, fun a => ⟨?_, Or.inl ?_⟩⟩
  · rw [e5 m hO]
    change Fin 2 at a
    fin_cases a
    · rfl
    · have : (β (1 : Fin 2)).val < 1 := lt_of_lt_of_eq (β (1 : Fin 2)).isLt n1
      show 0 = (β (1 : Fin 2)).val
      omega
  · rfl

/-- The result array. -/
theorem final (hte : ∀ j : Fin 32, (tiles m (ix1 j)).toNat < 8) (c : Dev nD) :
    result m hO c = G (tiles m) (count m) (X2 m c) (X3 m c) (X4 m c) (X5 m c) (X6 m c) := by
  unfold result
  refine (dats m hO 0 c).arrAt_eq_of_covers 5 (G (tiles m) (count m) (X2 m c) (X3 m c) (X4 m c) (X5 m c) (X6 m c)) (covers5 m hO) fun t hf y => ?_
  change S512x1024.Idx at y
  blk_simp
  rw [after5]
  obtain ⟨r, n, rfl⟩ : ∃ (r : Fin 512) (n : Fin 1024), y = ix2 r n := ⟨y 0, y 1, eq_ix2 y⟩
  have e' : ((((cfgM m hO).win 5).blk t).view.emb (ix2 r n)) = (ix2 (tok t r) n : S16384x1024.Idx) := by unfold tok; blk_ext [e5 m hO t]
  rw [e']
  refine (block_at _ _ _ _ _ r n (grid0.coords t) (count m)).trans ?_
  have a0 : mat (iblk m hO c 0 t : Vec Ideal S512x1024 .bf16) r = mat (X2 m c) (tok t r) := funext fun d => blk0 m hO c t r d
  rw [a0, w1_at m hO hte, w2_at m hO hte, w3_at m hO hte, blk1]
  unfold G
  have et : tile ((ix2 (tok t r) n : S16384x1024.Idx) 0) = num t := tile_tok t r
  rw [et]
  have ew : word (count m) = count m (ix1 0) := congrArg (count m) (funext fun a => Fin.ext (by
    obtain rfl : a = 0 := Subsingleton.elim _ _
    have h1 := (Shape.Idx.first (s := S1) (numel1_S1.symm ▸ Nat.one_pos) 0).isLt
    have h2 : S1.size 0 = 1 := rfl
    show _ = 0
    omega))
  rw [ew]
  by_cases h : IntOp.cmpi .slt (BitVec.ofNat 32 (num t).val) (count m (ix1 0)) = 1#1
  · rw [if_pos h, if_neg (fun h' => (past_iff t _).mp h' h)]
    rfl
  · rw [if_neg h, if_pos ((past_iff t _).mpr h)]

end Cert.Proof.ExpertsArrays
end

end
-- ==== Proof.Experts.lean ====
module

public import proofs.«01_k».proof.Defs
public import proofs.«01_k».proof.Proof.Gen.Kernel2
public import proofs.«01_k».proof.Proof.Gen.Kernel2Ideal
public import proofs.«01_k».proof.Proof.Gen.Pre_experts_exist
public import proofs.«01_k».proof.Proof.Gen.Reference2Ideal
public import proofs.«01_k».proof.Proof.ExpertsArrays

/-!
# The experts: the claims

Where the tiles' experts exist, the windows on the weights stay inside the arrays, so the run of `ExpertsFrame` is the
kernel's, and its result is the reference's.
-/

@[expose] public section

set_option maxRecDepth 16384

noncomputable section

namespace Cert.Proof.Experts

open Cert.Kernel2Ideal Cert.Kernel2Ideal.Gen Idealize.ShloMosaic Idealize.ShloMosaic.TcCoe Idealize.SL.Sem
open Cert.Proof.ExpertsRef (G)
open Cert.Proof.ExpertsArrays (X0 X1 X2 X3 X4 X5 X6)

/-- A word the precondition admits names an expert. -/
theorem bound_of_bits (v : BitVec 32) (e : IntOp.andi (IntOp.cmpi .sge v 0#32) (IntOp.cmpi .slt v 8#32) = 1#1) : v.toNat < 8 := by
  rw [WordCmp.cmpi_sge_eq, WordCmp.cmpi_slt_eq, WordCmp.andi_ofBool, WordCmp.ofBool_eq_one_iff, Bool.and_eq_true, decide_eq_true_eq,
    decide_eq_true_eq] at e
  have h0 : (0#32 : BitVec 32).toInt = 0 := rfl
  have h8 : (8#32 : BitVec 32).toInt = 8 := rfl
  rw [h0, h8, BitVec.toInt_eq_toNat_cond] at e
  omega

section
variable {F : FTy → Type} [FloatOps F]

/-- The precondition bounds the tiles' words. -/
theorem bound_of_pre (te : IVec Cert.Pre_experts_exist.S32 32) (nt : IVec Cert.Pre_experts_exist.S1 32) (x : FVec F Cert.Pre_experts_exist.S16384x1024 .f32)
    (g : FVec F Cert.Pre_experts_exist.S16384 .f32) (w1 w3 : FVec F Cert.Pre_experts_exist.S8x1024x1408 .f32) (w2 : FVec F Cert.Pre_experts_exist.S8x1408x1024 .f32)
    (h : Cert.Pre_experts_exist.fn (F := F) te nt x g w1 w3 w2 = fun _ => 1#1) (j : Cert.Pre_experts_exist.S32.Idx) : (te j).toNat < 8 :=
  bound_of_bits (te j) (congrFun h j)

variable (m : (ℓ : Loc nD τ sig) → Buf (Elt F) ℓ)

/-- The experts' table is the first argument. -/
theorem tiles_eq (c : Dev nD) : tiles m = m ((c : Thread nD τ).loc main_arg0) := by
  obtain rfl : c = 0 := Subsingleton.elim _ _
  exact V_of_ne m 0 main_arg0 (by decide) (by decide) (by decide)
/-- The count's table is the second argument. -/
theorem count_eq (c : Dev nD) : count m = m ((c : Thread nD τ).loc main_arg1) := by
  obtain rfl : c = 0 := Subsingleton.elim _ _
  exact V_of_ne m 0 main_arg1 (by decide) (by decide) (by decide)

/-- With the tiles' words bounded every block of weights lies inside its array. -/
theorem ok_of_bound (h : ∀ j : S32.Idx, (tiles m j).toNat < 8) : ok0 (tbl m) := by
  refine ⟨fun i => ⟨fun a => ?_, Or.inl rfl⟩, fun i => ⟨fun a => ?_, Or.inl rfl⟩, fun i => ⟨fun a => ?_, Or.inl rfl⟩⟩
  all_goals
    have hx : (expert i (tiles m)).toNat < 8 := h _
    change Fin 3 at a
    fin_cases a
  · show ((expert i (tiles m)).toNat + 1) * 1 ≤ 8; omega
  · show (0 + 1) * 1024 ≤ 1024; omega
  · show (0 + 1) * 1408 ≤ 1408; omega
  · show ((expert i (tiles m)).toNat + 1) * 1 ≤ 8; omega
  · show (0 + 1) * 1024 ≤ 1024; omega
  · show (0 + 1) * 1408 ≤ 1408; omega
  · show ((expert i (tiles m)).toNat + 1) * 1 ≤ 8; omega
  · show (0 + 1) * 1408 ≤ 1408; omega
  · show (0 + 1) * 1024 ≤ 1024; omega

/-! The kernel and its idealization have the same text: the same bodies, the same pipeline, the same host operations. -/

theorem bodies_eq : Cert.Kernel2.defs₀ (F := F) = Cert.Kernel2Ideal.defs₀ (F := F) := by
  refine congrArg (Defs.onTc (nD := Cert.Kernel2.nD) (τ := Cert.Kernel2.τ) (sig := Cert.Kernel2.sig) (Λ := Cert.Kernel2.Λ₀))
    (funext fun l => funext fun x => ?_)
  match l, x with
  | 0, (t, s) => rfl
theorem defs_eq : Cert.Kernel2.defs (F := F) = Cert.Kernel2Ideal.defs (F := F) :=
  congrArg (Pipeline.defs (Cert.Kernel2.pcfgs (F := F))) bodies_eq
theorem main_eq : Cert.Kernel2.main (F := F) = Cert.Kernel2Ideal.main (F := F) := rfl
end

/-- The kernel runs, ends with its arguments unchanged and every semaphore at zero: the one run, at the machine's floats. -/
theorem frame : Cert.quiescent_Kernel2 := fun m ρ hpre =>
  Eq.mpr (congrArg₂ (fun d k => θ_run d (onTc (τ := Cert.Kernel2.τ) k) _ _) (defs_eq (F := Bits)) (main_eq (F := Bits)))
    ((θ_run (Cert.Kernel2Ideal.defs (F := Bits)) _ _).mono (fun _ h => ⟨fun c => (h.1 c).2, h.2⟩)
      (final (F := Bits) m ρ (ok_of_bound m fun j => by
        rw [tiles_eq m 0]
        exact bound_of_pre _ _ _ _ _ _ _ (hpre 0) j)))

/-- The bound at the ideal values. -/
theorem bound_ideal (m : (ℓ : Loc nD τ sig) → Buf (Elt Ideal) ℓ) (hpre : Cert.Pre_Kernel2Ideal m) (j : S32.Idx) : (tiles m j).toNat < 8 := by
  rw [tiles_eq m 0]
  exact bound_of_pre _ _ _ _ _ _ _ (hpre 0) j

/-- So does its idealization. -/
theorem frameIdeal : Cert.quiescent_Kernel2Ideal := fun m ρ hpre =>
  (θ_run Cert.Kernel2Ideal.defs _ _).mono (fun _ h => ⟨fun c => (h.1 c).2, h.2⟩)
    (final (F := Ideal) m ρ (ok_of_bound m (bound_ideal m hpre)))

/-- So does the reference. -/
theorem frameReference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The idealization rewrites nothing. -/
theorem preserves : Cert.preserves_Kernel2_Kernel2Ideal := trivial

/-- Both programs end with every token's output of its tile's expert, weighted by its gate, in the tiles in use. -/
theorem algebraic : Cert.algebraic_Kernel2Ideal_Reference2Ideal := by
  intro m ρ m' ρ' hpre hagree
  refine ⟨fun c => G (X0 m c) (X1 m c) (X2 m c) (X3 m c) (X4 m c) (X5 m c) (X6 m c), ?_, ?_⟩
  · refine (θ_run Cert.Kernel2Ideal.defs _ _).mono (fun _ h c => ⟨(h.1 c).1.trans ?_, (h.1 c).2⟩)
      (final (F := Ideal) m ρ (ok_of_bound m (bound_ideal m hpre)))
    rw [ExpertsArrays.final m _ (fun j => bound_ideal m hpre (ix1 j)) c, tiles_eq m c, count_eq m c]
  · refine (θ_run Cert.Reference2Ideal.defs _ _).mono (fun _ h c => ⟨?_, (h c).2⟩)
      (Cert.Reference2Ideal.Value.run (F := Ideal) m' ρ')
    obtain ⟨a0, a1, a2, a3, a4, a5, a6⟩ := hagree c
    refine (h c).1.trans ((Cert.Reference2Ideal.Read.val_main_v21_eq (F := Ideal) _ _ _ _ _ _ _).trans ?_)
    rw [a0, a1, a2, a3, a4, a5, a6]
    refine ExpertsRef.result _ _ _ _ _ _ _ fun t => ?_
    have := bound_ideal m hpre (ix1 t)
    rw [tiles_eq m c] at this
    exact this

end Cert.Proof.Experts
end

end
-- ==== Proof.InprojRun.lean ====
module
public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-!
# The in-projection: one grid point

What a grid point leaves in its buffers, run once from the kernel's text, over any float values.
-/

@[expose] public section
noncomputable section
namespace Cert.Proof.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

/-- The resources that the run is stated over. -/
abbrev Res (F : FTy → Type) [FloatOps F] := MT nD τ sig Unit (Elt F) ℕ (UR sig nD τ) ℕ

/-- A row of the shifts or the scales. -/
abbrev row (x : Vec F S16x1024 .f32) (o : Fin 2 → ℕ) (h : ∀ a, o a + S1x1024.size a ≤ S16x1024.size a) : Vec F S1x1024 .f32 :=
  View.ld (Val := Elt F) x (Rect.unit (s := S16x1024) o S1x1024.size h)

abbrev sc0 : Memref sig .tc .vmem S6144x1024 .bf16 := Memref.whole cc0_scratch0
abbrev sc1 : Memref sig .tc .vmem S1024x1152 .bf16 := Memref.whole cc0_scratch1

/-- Whether a point is the first of its columns, where it loads the weights. -/
def fresh (i : grid0.Coords) : BitVec 1 := Scalar.cmpi .ne (Scalar.extui (Scalar.cmpi .eq (BitVec.ofNat 32 (i 1).val) 0#32)) 0#32

open Classical in
/-- The modulated rows' buffer after a point. -/
def hNext (i : grid0.Coords) (x0 x1 : Vec F S1024x1024 .f32) (x2 x3 : Vec F S16x1024 .f32) (h : Vec F S6144x1024 .bf16) : Vec F S6144x1024 .bf16 :=
  if h2 : k0_cond2 i = 1#1 then
    VecWindow.put h (k0_off4 i) S1024x1024.size (k0_pay6 (row x3 (k0_off3 i) (k0_off3_inb i h2)) (row x2 (k0_off3 i) (k0_off3_inb i h2)) x1)
  else if h1 : k0_cond1 i = 1#1 then
    VecWindow.put h (k0_off2 i) S1024x1024.size (k0_pay5 (row x3 (k0_off1 i) (k0_off1_inb i h1)) (row x2 (k0_off1 i) (k0_off1_inb i h1)) x0)
  else h

/-- The rows of a point, as its matrix product reads them. -/
abbrev tileOf (i : grid0.Coords) (h : Vec F S6144x1024 .bf16) : Vec F S1024x1024 .bf16 :=
  View.ld (Val := Elt F) h (Rect.unit (s := S6144x1024) (k0_off5 i) S1024x1024.size (k0_off5_inb i))

/-- The contents of a whole buffer after a store of all of it under a condition. -/
theorem store_if {σ : RefSig} {κ : Kind} {sp : Space} {s : Shape} {e : EltTy} {M : Memref σ κ sp s e} (hM : M.IsWhole) {p : Prop} [Decidable p]
    {off : Fin s.rank → ℕ} (inb : ∀ a, off a + s.size a ≤ s.size a) (w : (Rect.unit off s.size inb).shape.Idx → Elt F e)
    (x : s.Idx → Elt F e) :
    (if _ : p then M.view.writes (Elt F) (hM.unread x) [⟨Rect.unit off s.size inb, w⟩] else hM.unread x)
      = hM.unread (if p then w else x) := by
  split
  · exact hM.eq_unread (View.read_writes_full _ _ _ _ _)
  · rfl

theorem excl : ∀ t : Fin grid0.N, k0_cond2 (grid0.coords t) = 1#1 → ¬k0_cond1 (grid0.coords t) = 1#1 := by decide +kernel

set_option maxHeartbeats 1000000 in
set_option maxRecDepth 16384 in
/-- The body at a grid point. -/
theorem run (c : Dev nD) (i : grid0.Coords) (hx : k0_cond2 i = 1#1 → ¬k0_cond1 i = 1#1)
    (arg2 : Memref sig .tc .vmem S1024x1024 .f32) (harg2 : arg2.IsWhole) (arg3 : Memref sig .tc .vmem S1024x1024 .f32) (harg3 : arg3.IsWhole)
    (arg4 : Memref sig .tc .vmem S16x1024 .f32) (harg4 : arg4.IsWhole) (arg5 : Memref sig .tc .vmem S16x1024 .f32) (harg5 : arg5.IsWhole)
    (arg6 : Memref sig .tc .vmem S1024x1152 .f32) (harg6 : arg6.IsWhole) (arg7 : Memref sig .tc .vmem S1024x1152 .f32) (harg7 : arg7.IsWhole)
    (arg8 : Memref sig .tc .vmem S1024x128 .f32) (harg8 : arg8.IsWhole) (arg9 : Memref sig .tc .vmem S1024x128 .f32) (harg9 : arg9.IsWhole)
    (x0 x1 : Vec F S1024x1024 .f32) (x2 x3 : Vec F S16x1024 .f32) (x4 : Vec F S1024x1152 .f32) (d6 d7 : Vec F S1024x128 .f32)
    (h : Vec F S6144x1024 .bf16) (w : Vec F S1024x1152 .bf16)
    (E : Set ℕ) (K : PUnit → sProp (Res F)) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ (∃ d, owns (c : Thread nD τ) arg7 fullShare d)
      ∗ owns (c : Thread nD τ) arg8 fullShare d6
      ∗ owns (c : Thread nD τ) arg9 fullShare d7
      ∗ owns (c : Thread nD τ) sc0 fullShare h ∗ owns (c : Thread nD τ) sc1 fullShare w
      ∗ (iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare (k0_pay2 (tileOf i (hNext i x0 x1 x2 x3 h)) (if fresh i = 1#1 then k0_pay1 x4 else w))
      ∗ owns (c : Thread nD τ) arg8 fullShare (if k0_cond4 i = 1#1 then k0_pay3 (tileOf i (hNext i x0 x1 x2 x3 h)) (if fresh i = 1#1 then k0_pay1 x4 else w) else d6)
      ∗ owns (c : Thread nD τ) arg9 fullShare (if k0_cond5 i = 1#1 then k0_pay4 (tileOf i (hNext i x0 x1 x2 x3 h)) (if fresh i = 1#1 then k0_pay1 x4 else w) else d7)
      ∗ owns (c : Thread nD τ) sc0 fullShare (hNext i x0 x1 x2 x3 h)
      ∗ owns (c : Thread nD τ) sc1 fullShare (if fresh i = 1#1 then k0_pay1 x4 else w)) -∗ K ⟨⟩))
    ⊢ wp frame (wpE (defs₀ (F := F)) Variants.none c none) E
        (cc0_inproj i arg2 harg2 arg3 harg3 arg4 harg4 arg5 harg5 arg6 harg6 arg7 harg7 arg8 harg8 arg9 harg9 sc0 (Memref.isWhole_whole _) sc1 (Memref.isWhole_whole _)) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%g0, %hg0, S0⟩, ⟨%g1, %hg1, S1⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6; obtain rfl := harg9.eq_unread hf7
  obtain rfl := (Memref.isWhole_whole cc0_scratch0).eq_unread hg0; obtain rfl := (Memref.isWhole_whole cc0_scratch1).eq_unread hg1
  sl_exec
  sl_step
  have l0 : View.readAt (Elt F) arg2.view (Rect.unit ![0, 0] S1024x1024.size inb_S1024x1024_S1024x1024_0_0).toLoadRect (harg2.unread x0) = x0 :=
    (View.readAt_full (s := S1024x1024) _ _ _).trans (harg2.read_unread _)
  have l1 : View.readAt (Elt F) arg3.view (Rect.unit ![0, 0] S1024x1024.size inb_S1024x1024_S1024x1024_0_0).toLoadRect (harg3.unread x1) = x1 :=
    (View.readAt_full (s := S1024x1024) _ _ _).trans (harg3.read_unread _)
  have l4 : View.readAt (Elt F) arg6.view (Rect.unit ![0, 0] ![1024, 1152] inb_S1024x1152_S1024x1152_0_0).toLoadRect (harg6.unread x4) = x4 :=
    (View.readAt_full (s := S1024x1152) _ _ _).trans (harg6.read_unread _)
  have l2 : ∀ (o : Fin 2 → ℕ) (ho : ∀ a, o a + S1x1024.size a ≤ S16x1024.size a),
      View.readAt (Elt F) arg4.view (Rect.unit (s := S16x1024) o S1x1024.size ho).toLoadRect (harg4.unread x2) = row x2 o ho := by
    intro o ho; rw [View.readAt_eq_ld, harg4.read_unread]
  have l3 : ∀ (o : Fin 2 → ℕ) (ho : ∀ a, o a + S1x1024.size a ≤ S16x1024.size a),
      View.readAt (Elt F) arg5.view (Rect.unit (s := S16x1024) o S1x1024.size ho).toLoadRect (harg5.unread x3) = row x3 o ho := by
    intro o ho; rw [View.readAt_eq_ld, harg5.read_unread]
  have e1 : (if _ : fresh i = 1#1 then sc1.view.writes (Elt F) ((Memref.isWhole_whole cc0_scratch1).unread w)
        [⟨Rect.unit ![0, 0] ![1024, 1152] inb_S1024x1152_S1024x1152_0_0, k0_pay1 x4⟩] else (Memref.isWhole_whole cc0_scratch1).unread w)
      = (Memref.isWhole_whole cc0_scratch1).unread (if fresh i = 1#1 then k0_pay1 x4 else w) :=
    store_if (F := F) (Memref.isWhole_whole cc0_scratch1) inb_S1024x1152_S1024x1152_0_0 (k0_pay1 x4) w
  have lf : Scalar.cmpi CmpIPredicate.ne (run.sl.v36 i) 0#32 = fresh i := rfl
  have e0 : (if _ : k0_cond2 i = 1#1 then
      sc0.view.writes (Elt F)
        (if hc : k0_cond1 i = 1#1 then
          sc0.view.writes (Elt F) ((Memref.isWhole_whole cc0_scratch0).unread h)
            [⟨Rect.unit (k0_off2 i) S1024x1024.size (k0_off2_inb i hc), k0_pay5 (row x3 (k0_off1 i) (k0_off1_inb i hc)) (row x2 (k0_off1 i) (k0_off1_inb i hc)) x0⟩]
        else (Memref.isWhole_whole cc0_scratch0).unread h)
        [⟨Rect.unit (k0_off4 i) S1024x1024.size (k0_off4_inb i ‹_›), k0_pay6 (row x3 (k0_off3 i) (k0_off3_inb i ‹_›)) (row x2 (k0_off3 i) (k0_off3_inb i ‹_›)) x1⟩]
      else if hc : k0_cond1 i = 1#1 then
          sc0.view.writes (Elt F) ((Memref.isWhole_whole cc0_scratch0).unread h)
            [⟨Rect.unit (k0_off2 i) S1024x1024.size (k0_off2_inb i hc), k0_pay5 (row x3 (k0_off1 i) (k0_off1_inb i hc)) (row x2 (k0_off1 i) (k0_off1_inb i hc)) x0⟩]
        else (Memref.isWhole_whole cc0_scratch0).unread h)
      = (Memref.isWhole_whole cc0_scratch0).unread (hNext i x0 x1 x2 x3 h) := by
    unfold hNext
    by_cases h2 : k0_cond2 i = 1#1
    · rw [dif_pos h2, dif_pos h2, dif_neg (hx h2)]
      refine (Memref.isWhole_whole cc0_scratch0).eq_unread ?_
      refine (View.read_writes_cons_put _ _ _ _ _ rfl).trans ?_
      rw [View.writes_nil, Memref.IsWhole.read_unread]
    · rw [dif_neg h2, dif_neg h2]
      by_cases h1 : k0_cond1 i = 1#1
      · rw [dif_pos h1, dif_pos h1]
        refine (Memref.isWhole_whole cc0_scratch0).eq_unread ?_
        refine (View.read_writes_cons_put _ _ _ _ _ rfl).trans ?_
        rw [View.writes_nil, Memref.IsWhole.read_unread]
      · rw [dif_neg h1, dif_neg h1]
  have v39 : run.sl.v39 c i arg2 harg2 arg3 harg3 arg4 harg4 arg5 harg5 x0 x1 x2 x3 h = tileOf i (hNext i x0 x1 x2 x3 h) := by
    delta run.sl.v39
    simp only [l0, l1, l2, l3, e0]
    rw [View.readAt_eq_ld]
    exact congrArg (fun z => View.ld (Val := Elt F) z (Rect.unit (s := S6144x1024) (k0_off5 i) S1024x1024.size (k0_off5_inb i)))
      (Memref.IsWhole.read_unread (Memref.isWhole_whole cc0_scratch0) _)
  have v40 : run.sl.v40 c i arg6 harg6 x4 w = (if fresh i = 1#1 then k0_pay1 x4 else w) := by
    delta run.sl.v40
    simp only [lf, l4, e1]
    exact (View.readAt_full (s := S1024x1152) _ _ _).trans (Memref.IsWhole.read_unread _ _)
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]
  · iexists _; isplitr
    swap; · iexact H5
    ipureintro
    delta run.sl.H5_1
    refine (View.read_writes_full (s := S1024x1152) _ _ _ _ _).trans ?_
    rw [v39, v40]
  isplitl [H6]
  · iexists _; isplitr
    swap; · iexact H6
    ipureintro
    rw [v39, v40]
    by_cases h5 : k0_cond5 i = 1#1
    · rw [dif_pos h5, if_pos (show k0_cond4 i = 1#1 from h5)]
      exact View.read_writes_full (s := S1024x128) _ _ _ _ _
    · rw [dif_neg h5, if_neg (show ¬k0_cond4 i = 1#1 from h5)]
      exact harg8.read_unread _
  isplitl [H7]
  · iexists _; isplitr
    swap; · iexact H7
    ipureintro
    rw [v39, v40]
    by_cases h5 : k0_cond5 i = 1#1
    · rw [dif_pos h5, if_pos h5]
      exact View.read_writes_full (s := S1024x128) _ _ _ _ _
    · rw [dif_neg h5, if_neg h5]
      exact harg9.read_unread _
  isplitl [S0]
  · iexists _; isplitr
    swap; · iexact S0
    ipureintro
    simp only [l0, l1, l2, l3, e0]
    exact Memref.IsWhole.read_unread _ _
  iexists _; isplitr
  swap; · iexact S1
  ipureintro
  simp only [lf, l4, e1]
  exact Memref.IsWhole.read_unread _ _

end Cert.Proof.Inproj
end
-- ==== Proof.InprojFrame.lean ====
module
public import proofs.«01_k».proof.Proof.InprojRun
public import Idealize.ShloMosaic.Lib.Quiescent

/-!
# The in-projection: the whole run

The grid's points one after another. The six points of the first columns fill the buffer of modulated rows, a tile each; every
later point finds its tile there. The weights of a point's columns lie in their buffer from the first point of those columns on.
-/

@[expose] public section
noncomputable section
namespace Cert.Proof.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

/-! ## The points' conditions and offsets -/

theorem cond_first : ∀ t : Fin grid0.N, t.val < 6 → k0_cond2 (grid0.coords t) = 1#1 ∨ k0_cond1 (grid0.coords t) = 1#1 := by decide +kernel
theorem cond_later : ∀ t : Fin grid0.N, ¬t.val < 6 → ¬k0_cond2 (grid0.coords t) = 1#1 ∧ ¬k0_cond1 (grid0.coords t) = 1#1 := by decide +kernel
theorem off4_eq : ∀ t : Fin grid0.N, t.val < 6 → k0_off4 (grid0.coords t) = k0_off5 (grid0.coords t) := by decide +kernel
theorem off2_eq : ∀ t : Fin grid0.N, t.val < 6 → k0_off2 (grid0.coords t) = k0_off5 (grid0.coords t) := by decide +kernel

/-- The point of the first columns that made a point's tile. -/
def src (t : Fin grid0.N) : Fin grid0.N := ⟨t.val % 6, lt_of_le_of_lt (Nat.mod_le _ _) t.isLt⟩
theorem src_lt (t : Fin grid0.N) : (src t).val < 6 := Nat.mod_lt _ (by decide)
theorem src_of_lt (t : Fin grid0.N) (h : t.val < 6) : src t = t := Fin.ext (Nat.mod_eq_of_lt h)
theorem src_lt_of (t : Fin grid0.N) (h : ¬t.val < 6) : (src t).val < t.val := lt_of_lt_of_le (src_lt t) (not_lt.mp h)
theorem off5_src : ∀ t : Fin grid0.N, k0_off5 (grid0.coords t) = k0_off5 (grid0.coords (src t)) := by decide +kernel

/-- The tiles of two points of the first columns lie apart. -/
theorem apart : ∀ t k : Fin grid0.N, k.val < t.val → t.val < 6 → k0_off5 (grid0.coords k) 0 + 1024 ≤ k0_off5 (grid0.coords t) 0 := by
  decide +kernel

/-- The tile at an offset depends on the offset only. -/
theorem tile_congr (h : Vec F S6144x1024 .bf16) {o o' : Fin 2 → ℕ} (e : o = o') (i : ∀ a, o a + S1024x1024.size a ≤ S6144x1024.size a)
    (i' : ∀ a, o' a + S1024x1024.size a ≤ S6144x1024.size a) :
    View.ld (Val := Elt F) h (Rect.unit (s := S6144x1024) o S1024x1024.size i) = View.ld (Val := Elt F) h (Rect.unit (s := S6144x1024) o' S1024x1024.size i') := by
  subst e; rfl

/-- The tile just stored. -/
theorem tile_same (h : Vec F S6144x1024 .bf16) (w : Vec F S1024x1024 .bf16) {o o' : Fin 2 → ℕ} (e : o = o')
    (i : ∀ a, o' a + S1024x1024.size a ≤ S6144x1024.size a) :
    View.ld (Val := Elt F) (VecWindow.put h o S1024x1024.size w) (Rect.unit (s := S6144x1024) o' S1024x1024.size i) = w := by
  subst e
  exact VecWindow.window_put_same h _ _ i w

/-- A tile apart from the one just stored. -/
theorem tile_apart (h : Vec F S6144x1024 .bf16) (w : Vec F S1024x1024 .bf16) {o o' : Fin 2 → ℕ} (e : o' 0 + 1024 ≤ o 0)
    (i : ∀ a, o' a + S1024x1024.size a ≤ S6144x1024.size a) :
    View.ld (Val := Elt F) (VecWindow.put h o S1024x1024.size w) (Rect.unit (s := S6144x1024) o' S1024x1024.size i)
      = View.ld (Val := Elt F) h (Rect.unit (s := S6144x1024) o' S1024x1024.size i) :=
  VecWindow.window_put_of_disjoint h _ _ _ _ i w 0 (.inl e)

section Steps
variable (x0 x1 : Vec F S1024x1024 .f32) (x2 x3 : Vec F S16x1024 .f32) (h h' : Vec F S6144x1024 .bf16)

/-- A point of the first columns makes its tile, whatever the buffer held. -/
theorem made (t : Fin grid0.N) (ht : t.val < 6) :
    tileOf (grid0.coords t) (hNext (grid0.coords t) x0 x1 x2 x3 h) = tileOf (grid0.coords t) (hNext (grid0.coords t) x0 x1 x2 x3 h') := by
  unfold hNext
  by_cases h2 : k0_cond2 (grid0.coords t) = 1#1
  · rw [dif_pos h2, dif_pos h2]
    exact (tile_same h _ (off4_eq t ht) _).trans (tile_same h' _ (off4_eq t ht) _).symm
  · have h1 := (cond_first t ht).resolve_left h2
    rw [dif_neg h2, dif_neg h2, dif_pos h1, dif_pos h1]
    exact (tile_same h _ (off2_eq t ht) _).trans (tile_same h' _ (off2_eq t ht) _).symm

/-- It leaves the tiles of the points before. -/
theorem left_apart (t k : Fin grid0.N) (hk : k.val < t.val) (ht : t.val < 6) :
    tileOf (grid0.coords k) (hNext (grid0.coords t) x0 x1 x2 x3 h) = tileOf (grid0.coords k) h := by
  unfold hNext
  by_cases h2 : k0_cond2 (grid0.coords t) = 1#1
  · rw [dif_pos h2]
    exact tile_apart h _ (by rw [off4_eq t ht]; exact apart t k hk ht) _
  · have h1 := (cond_first t ht).resolve_left h2
    rw [dif_neg h2, dif_pos h1]
    exact tile_apart h _ (by rw [off2_eq t ht]; exact apart t k hk ht) _

/-- A later point leaves the buffer as it is. -/
theorem left_later (t : Fin grid0.N) (ht : ¬t.val < 6) : hNext (grid0.coords t) x0 x1 x2 x3 h = h := by
  unfold hNext
  rw [dif_neg (cond_later t ht).1, dif_neg (cond_later t ht).2]

end Steps

/-! ## What the region finds -/

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer the host's operations do not write is found as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- Window `w`'s block at point `t`, of its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The tile of modulated rows that a point of the first columns makes. -/
def hT (c : Dev nD) (t : Fin cfg0.N) : Vec F S1024x1024 .bf16 :=
  tileOf (grid0.coords t) (hNext (grid0.coords t) (iblk m c 0 t) (iblk m c 1 t) (iblk m c 2 t) (iblk m c 3 t) (constant S6144x1024 .bf16 0x0000#16))

/-- The weights of a point's columns. -/
def wT (c : Dev nD) (t : Fin cfg0.N) : Vec F S1024x1152 .bf16 := k0_pay1 (iblk m c 4 t)

/-! ## The invariant -/

/-- The scratch buffers and the generator's register at some contents. -/
theorem PhiA_eq (c : Dev nD) : (Pipeline.ΦA spec0 c : sProp (Res F))
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- After `n` points the rows' buffer holds the tiles made so far, the weights' buffer the last point's weights. -/
def Inv (c : Dev nD) (n : ℕ) : sProp (Res F) :=
  iprop(∃ h w, ⌜(∀ k : Fin cfg0.N, k.val < 6 → k.val < n → tileOf (grid0.coords k) h = hT m c k)
      ∧ (∀ t : Fin cfg0.N, t.val + 1 = n → w = wT m c t)⌝
    ∗ owns (c : Thread nD τ) sc0 fullShare h ∗ owns (c : Thread nD τ) sc1 fullShare w ∗ (∃ r, prngReg c r))

/-- The point whose rows the two taps' buffers hold at a point: the points 6 to 9 store them. -/
def tapped (t : Fin cfg0.N) : Fin cfg0.N := ⟨6 + min (t.val - 6) 3, lt_of_le_of_lt (Nat.add_le_add_left (Nat.min_le_right _ _) 6) (by decide)⟩

/-- The proof data: inputs are left as found, the results' blocks as the body leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (hT m c (src t)) (wT m c t)
    | ⟨6, _⟩ => k0_pay3 (hT m c (src (tapped t))) (wT m c (tapped t))
    | ⟨7, _⟩ => k0_pay4 (hT m c (src (tapped t))) (wT m c (tapped t))
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = iblk m c 4 t := rfl
theorem after5 (c : Dev nD) (t : Fin cfg0.N) : (dats m 0 c).after 5 t = k0_pay2 (hT m c (src t)) (wT m c t) := rfl
theorem after6 (c : Dev nD) (t : Fin cfg0.N) : (dats m 0 c).after 6 t = k0_pay3 (hT m c (src (tapped t))) (wT m c (tapped t)) := rfl
theorem after7 (c : Dev nD) (t : Fin cfg0.N) : (dats m 0 c).after 7 t = k0_pay4 (hT m c (src (tapped t))) (wT m c (tapped t)) := rfl

/-- An input's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-- A point that does not load its weights is not the first, and has the columns of the point before. -/
theorem not_fresh : ∀ t : Fin cfg0.N, ¬fresh (grid0.coords t) = 1#1 → t.val ≠ 0 ∧ ∀ t' : Fin cfg0.N, t'.val + 1 = t.val →
    (cfg0.win 4).index t = (cfg0.win 4).index t' := by decide +kernel

/-- What a point finds in the weights' buffer, or loads into it, is its own columns' weights. -/
theorem loaded (c : Dev nD) (t : Fin cfg0.N) (w : Vec F S1024x1152 .bf16) (h : ∀ t' : Fin cfg0.N, t'.val + 1 = t.val → w = wT m c t') :
    (if fresh (grid0.coords t) = 1#1 then k0_pay1 (iblk m c 4 t) else w) = wT m c t := by
  by_cases hf : fresh (grid0.coords t) = 1#1
  · rw [if_pos hf]; rfl
  · rw [if_neg hf]
    obtain ⟨h0, he⟩ := not_fresh t hf
    have hlt : t.val - 1 < cfg0.N := lt_of_le_of_lt (Nat.sub_le _ _) t.isLt
    have h1 : (⟨t.val - 1, hlt⟩ : Fin cfg0.N).val + 1 = t.val := Nat.succ_pred_eq_of_ne_zero h0
    rw [h _ h1]
    have f := (dats m 0 c).fetched_congr 4 (he _ h1) rfl (iblk m c 4 t)
    unfold Dat.fetched Dat.blockOf at f
    rw [A_eq] at f
    exact (congrArg k0_pay1 f).symm

/-- The buffer of rows after a point holds that point's tile and those before. -/
theorem rows_next (c : Dev nD) (t : Fin cfg0.N) (h : Vec F S6144x1024 .bf16)
    (hh : ∀ k : Fin cfg0.N, k.val < 6 → k.val < t.val → tileOf (grid0.coords k) h = hT m c k) (k : Fin cfg0.N) (hk : k.val < 6)
    (hkt : k.val < t.val + 1) :
    tileOf (grid0.coords k) (hNext (grid0.coords t) (iblk m c 0 t) (iblk m c 1 t) (iblk m c 2 t) (iblk m c 3 t) h) = hT m c k := by
  by_cases ht : t.val < 6
  · rcases Nat.lt_succ_iff_lt_or_eq.mp hkt with hlt | heq
    · exact (left_apart _ _ _ _ h t k hlt ht).trans (hh k hk hlt)
    · obtain rfl : k = t := Fin.ext heq
      exact made _ _ _ _ h _ k ht
  · rw [left_later _ _ _ _ h t ht]
    exact hh k hk (lt_of_lt_of_le hk (not_lt.mp ht))

/-- What a point's matrix product reads. -/
theorem rows_read (c : Dev nD) (t : Fin cfg0.N) (h : Vec F S6144x1024 .bf16)
    (hh : ∀ k : Fin cfg0.N, k.val < 6 → k.val < t.val → tileOf (grid0.coords k) h = hT m c k) :
    tileOf (grid0.coords t) (hNext (grid0.coords t) (iblk m c 0 t) (iblk m c 1 t) (iblk m c 2 t) (iblk m c 3 t) h) = hT m c (src t) :=
  (tile_congr _ (off5_src t) _ _).trans
    (rows_next m c t h hh (src t) (src_lt t) (Nat.lt_succ_of_le (Nat.mod_le _ _)))

/-! ## The taps' buffers -/

theorem tapped_live : ∀ t : Fin cfg0.N, k0_cond4 (grid0.coords t) = 1#1 → tapped t = t := by decide +kernel
theorem live6 (t : Fin cfg0.N) (h : k0_cond4 (grid0.coords t) = 1#1) : cfg0.idle 6 (grid0.coords t) = false := by
  show (!(k0_cond4 (grid0.coords t) == 1#1)) = false
  rw [h]; rfl
theorem live7 (t : Fin cfg0.N) (h : k0_cond4 (grid0.coords t) = 1#1) : cfg0.idle 7 (grid0.coords t) = false := by
  show (!(k0_cond4 (grid0.coords t) == 1#1)) = false
  rw [h]; rfl
theorem idle6 (t : Fin cfg0.N) (h : ¬k0_cond4 (grid0.coords t) = 1#1) : cfg0.idle 6 (grid0.coords t) = true := by
  show (!(k0_cond4 (grid0.coords t) == 1#1)) = true
  rw [beq_false_of_ne h]; rfl
theorem idle7 (t : Fin cfg0.N) (h : ¬k0_cond4 (grid0.coords t) = 1#1) : cfg0.idle 7 (grid0.coords t) = true := by
  show (!(k0_cond4 (grid0.coords t) == 1#1)) = true
  rw [beq_false_of_ne h]; rfl
theorem flush6 : ∀ t : Fin cfg0.N, ¬k0_cond4 (grid0.coords t) = 1#1 → t ≠ t0_11 → (cfg0.win 6).flush t = false := by decide +kernel
theorem flush7 : ∀ t : Fin cfg0.N, ¬k0_cond4 (grid0.coords t) = 1#1 → t ≠ t0_11 → (cfg0.win 7).flush t = false := by decide +kernel

/-- At the last point the tap's buffer still holds what point 9 stored. -/
theorem before6_last (c : Dev nD) (d) : (dats m 0 c).before 6 t0_11 d = (dats m 0 c).after 6 t0_11 := by
  rw [(dats m 0 c).before_of_pos 6 t0_11 (by decide) (by decide +kernel) d]
  rw [if_neg (by decide +kernel)]
  rw [show (⟨t0_11.val - 1, Nat.lt_of_le_of_lt (Nat.sub_le _ _) t0_11.isLt⟩ : Fin cfg0.N) = t0_10 from rfl]
  unfold Dat.left
  rw [idle6 t0_10 (by decide +kernel)]
  show (dats m 0 c).before 6 t0_10 d = _
  rw [(dats m 0 c).before_of_pos 6 t0_10 (by decide) (by decide +kernel) d]
  rw [if_neg (by decide +kernel)]
  rw [show (⟨t0_10.val - 1, Nat.lt_of_le_of_lt (Nat.sub_le _ _) t0_10.isLt⟩ : Fin cfg0.N) = t0_9 from rfl]
  unfold Dat.left
  rw [live6 t0_9 (by decide +kernel)]
  rfl

/-- What a point leaves in the tap's buffer. -/
theorem tap6 (c : Dev nD) (t : Fin cfg0.N) (d) :
    owns (c : Thread nD τ) ((cfg0.win 6).stage (cfg0.slots t 6)) fullShare
        (if k0_cond4 (grid0.coords t) = 1#1 then k0_pay3 (hT m c (src t)) (wT m c t) else (dats m 0 c).before 6 t d)
      ⊢ ((dats m 0 c).leavesExact 6 t : sProp (Res F)) := by
  by_cases h : k0_cond4 (grid0.coords t) = 1#1
  · rw [if_pos (show k0_cond4 (grid0.coords t) = 1#1 from h)]
    rw [show (dats m 0 c).leavesExact 6 t = owns (c : Thread nD τ) ((cfg0.win 6).stage (cfg0.slots t 6)) fullShare ((dats m 0 c).after 6 t) from by
      unfold Dat.leavesExact; rw [live6 t h]; try rfl, after6, tapped_live t h]
  · rw [if_neg (show ¬k0_cond4 (grid0.coords t) = 1#1 from h)]
    by_cases ht : t = t0_11
    · subst ht
      rw [before6_last]
      rw [show (dats m 0 c).leavesExact 6 t0_11 = owns (c : Thread nD τ) ((cfg0.win 6).stage (cfg0.slots t0_11 6)) fullShare ((dats m 0 c).after 6 t0_11) from by
        unfold Dat.leavesExact; rw [idle6 t0_11 h, show (cfg0.win 6).flush t0_11 = true from by decide +kernel]; try rfl]
    · rw [(dats m 0 c).leavesExact_idle 6 t (idle6 t h) (flush6 t h ht)]
      iintro H
      iexists d
      iexact H

/-- At the last point the tap's buffer still holds what point 9 stored. -/
theorem before7_last (c : Dev nD) (d) : (dats m 0 c).before 7 t0_11 d = (dats m 0 c).after 7 t0_11 := by
  rw [(dats m 0 c).before_of_pos 7 t0_11 (by decide) (by decide +kernel) d]
  rw [if_neg (by decide +kernel)]
  rw [show (⟨t0_11.val - 1, Nat.lt_of_le_of_lt (Nat.sub_le _ _) t0_11.isLt⟩ : Fin cfg0.N) = t0_10 from rfl]
  unfold Dat.left
  rw [idle7 t0_10 (by decide +kernel)]
  show (dats m 0 c).before 7 t0_10 d = _
  rw [(dats m 0 c).before_of_pos 7 t0_10 (by decide) (by decide +kernel) d]
  rw [if_neg (by decide +kernel)]
  rw [show (⟨t0_10.val - 1, Nat.lt_of_le_of_lt (Nat.sub_le _ _) t0_10.isLt⟩ : Fin cfg0.N) = t0_9 from rfl]
  unfold Dat.left
  rw [live7 t0_9 (by decide +kernel)]
  rfl

/-- What a point leaves in the tap's buffer. -/
theorem tap7 (c : Dev nD) (t : Fin cfg0.N) (d) :
    owns (c : Thread nD τ) ((cfg0.win 7).stage (cfg0.slots t 7)) fullShare
        (if k0_cond5 (grid0.coords t) = 1#1 then k0_pay4 (hT m c (src t)) (wT m c t) else (dats m 0 c).before 7 t d)
      ⊢ ((dats m 0 c).leavesExact 7 t : sProp (Res F)) := by
  by_cases h : k0_cond4 (grid0.coords t) = 1#1
  · rw [if_pos (show k0_cond5 (grid0.coords t) = 1#1 from h)]
    rw [show (dats m 0 c).leavesExact 7 t = owns (c : Thread nD τ) ((cfg0.win 7).stage (cfg0.slots t 7)) fullShare ((dats m 0 c).after 7 t) from by
      unfold Dat.leavesExact; rw [live7 t h]; try rfl, after7, tapped_live t h]
  · rw [if_neg (show ¬k0_cond5 (grid0.coords t) = 1#1 from h)]
    by_cases ht : t = t0_11
    · subst ht
      rw [before7_last]
      rw [show (dats m 0 c).leavesExact 7 t0_11 = owns (c : Thread nD τ) ((cfg0.win 7).stage (cfg0.slots t0_11 7)) fullShare ((dats m 0 c).after 7 t0_11) from by
        unfold Dat.leavesExact; rw [idle7 t0_11 h, show (cfg0.win 7).flush t0_11 = true from by decide +kernel]; try rfl]
    · rw [(dats m 0 c).leavesExact_idle 7 t (idle7 t h) (flush7 t h ht)]
      iintro H
      iexists d
      iexact H

/-! ## The body at a point -/

/-- Each window's staging buffer at a point. -/
abbrev ms0 (t : Fin cfg0.N) : Memref sig .tc .vmem S1024x1024 .f32 := (cfg0.win 0).stage (cfg0.slots t 0)
abbrev ms1 (t : Fin cfg0.N) : Memref sig .tc .vmem S1024x1024 .f32 := (cfg0.win 1).stage (cfg0.slots t 1)
abbrev ms2 (t : Fin cfg0.N) : Memref sig .tc .vmem S16x1024 .f32 := (cfg0.win 2).stage (cfg0.slots t 2)
abbrev ms3 (t : Fin cfg0.N) : Memref sig .tc .vmem S16x1024 .f32 := (cfg0.win 3).stage (cfg0.slots t 3)
abbrev ms4 (t : Fin cfg0.N) : Memref sig .tc .vmem S1024x1152 .f32 := (cfg0.win 4).stage (cfg0.slots t 4)
abbrev ms5 (t : Fin cfg0.N) : Memref sig .tc .vmem S1024x1152 .f32 := (cfg0.win 5).stage (cfg0.slots t 5)
abbrev ms6 (t : Fin cfg0.N) : Memref sig .tc .vmem S1024x128 .f32 := (cfg0.win 6).stage (cfg0.slots t 6)
abbrev ms7 (t : Fin cfg0.N) : Memref sig .tc .vmem S1024x128 .f32 := (cfg0.win 7).stage (cfg0.slots t 7)

/-- The body at a point, on the buffers the pipeline calls it with. -/
abbrev bodyAt (t : Fin cfg0.N) : Prog (TpuEff nD τ sig (Elt F) Λ₀ .tc) PUnit :=
  cc0_inproj (grid0.coords t)
    (ms0 t) (hstage0_0 ((cfg0.slots t 0).cast nbuf0_0))
    (ms1 t) (hstage0_1 ((cfg0.slots t 1).cast nbuf0_1))
    (ms2 t) (hstage0_2 ((cfg0.slots t 2).cast nbuf0_2))
    (ms3 t) (hstage0_3 ((cfg0.slots t 3).cast nbuf0_3))
    (ms4 t) (hstage0_4 ((cfg0.slots t 4).cast nbuf0_4))
    (ms5 t) (hstage0_5 ((cfg0.slots t 5).cast nbuf0_5))
    (ms6 t) (hstage0_6 ((cfg0.slots t 6).cast nbuf0_6))
    (ms7 t) (hstage0_7 ((cfg0.slots t 7).cast nbuf0_7))
    sc0 (Memref.isWhole_whole _) sc1 (Memref.isWhole_whole _)

/-- What the body is called with, -/
def bodyPre (c : Dev nD) (t : Fin cfg0.N) : sProp (Res F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

set_option maxHeartbeats 2000000 in
/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0, before1, before2, before3, before4]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [show (dats m 0 c).leavesExact 0 t = owns (c : Thread nD τ) (ms0 t) fullShare (iblk m c 0 t) from rfl]
  rw [show (dats m 0 c).leavesExact 1 t = owns (c : Thread nD τ) (ms1 t) fullShare (iblk m c 1 t) from rfl]
  rw [show (dats m 0 c).leavesExact 2 t = owns (c : Thread nD τ) (ms2 t) fullShare (iblk m c 2 t) from rfl]
  rw [show (dats m 0 c).leavesExact 3 t = owns (c : Thread nD τ) (ms3 t) fullShare (iblk m c 3 t) from rfl]
  rw [show (dats m 0 c).leavesExact 4 t = owns (c : Thread nD τ) (ms4 t) fullShare (iblk m c 4 t) from rfl]
  rw [show (dats m 0 c).leavesExact 5 t = owns (c : Thread nD τ) (ms5 t) fullShare ((dats m 0 c).after 5 t) from rfl, after5]
  unfold Inv
  iintro ⟨⟨%h, %w, %hw, S0, S1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨hh, hw⟩ := hw
  iapply (run c (grid0.coords t) (excl t) _ _ _ _ _ _ _ _ _ _ _ _ _ _ _ _ (iblk m c 0 t) (iblk m c 1 t)
    (iblk m c 2 t) (iblk m c 3 t) (iblk m c 4 t) ((dats m 0 c).before 6 t d6) ((dats m 0 c).before 7 t d7) h w Set.univ _)
  rw [loaded m c t w hw, rows_read m c t h hh]
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [S0]; · iexact S0
  isplitl [S1]; · iexact S1
  iintro ⟨H0, H1, H2, H3, H4, H5, H6, H7, S0, S1⟩
  isplitl [S0 S1 Hg]
  · iexists _, _
    isplitr
    swap
    · isplitl [S0]; · iexact S0
      isplitl [S1]; · iexact S1
      iexact Hg
    ipureintro
    refine ⟨fun k hk hkt => rows_next m c t h hh k hk hkt, fun t' ht => ?_⟩
    obtain rfl : t' = t := Fin.ext (by omega)
    rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (tap6 m c t d6); iexact H6
  iapply (tap7 m c t d7); iexact H7

/-- The body's row of the table, at the point's buffers. -/
theorem defs₀_row (t : Fin cfg0.N) :
    defs₀ (F := F) .tc cfg0.body (cfg0.bodyArgs t (cfg0.slots t)) = bodyAt t := by
  unfold defs₀; rw [Defs.onTc_tc]

set_option maxHeartbeats 2000000 in
/-- The body's obligation, at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = Inv m c 0 from rfl, PhiA_eq]
  unfold Inv
  iintro ⟨⟨⟨%e0, S0⟩, ⟨%e1, S1⟩⟩, Hg⟩
  iexists e0, e1
  isplitr
  · ipureintro
    exact ⟨fun k _ hk => absurd hk (Nat.not_lt_zero _), fun t ht => absurd ht (Nat.succ_ne_zero _)⟩
  isplitl [S0]; · iexact S0
  isplitl [S1]; · iexact S1
  iexact Hg

theorem hout (c : Dev nD) : (dats m 0 c).Φ (Fin.last cfg0.N) ⊢ Pipeline.ΦA spec0 c := by
  rw [show (dats m 0 c).Φ (Fin.last cfg0.N) = Inv m c cfg0.N from rfl, PhiA_eq]
  unfold Inv
  iintro ⟨%h, %w, %hw, S0, S1, Hg⟩
  isplitr [Hg]
  · isplitl [S0]; · iexists _; iexact S0
    iexists _; iexact S1
  iexact Hg

theorem rest0 : main_arg0 ∈ Pipeline.restRefs sig spec0 := Pipeline.mem_restRefs_of main_arg0 (by decide) (by decide)
theorem rest1 : main_arg1 ∈ Pipeline.restRefs sig spec0 := Pipeline.mem_restRefs_of main_arg1 (by decide) (by decide)

set_option backward.isDefEq.respectTransparency.types false in
/-- The run: every array of the pipeline ends at what the blocks make of it, every other buffer as the region found it,
    and every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := hin m) (hout := hout m)

/-- The results' arrays, after the run. -/
def resU (c : Dev nD) : Buf (Elt F) ((c : Thread nD τ).loc main_v2_0) := (dats m 0 c).arrAt 5 cfg0.N
def resK (c : Dev nD) : Buf (Elt F) ((c : Thread nD τ).loc main_v2_1) := (dats m 0 c).arrAt 6 cfg0.N
def resV (c : Dev nD) : Buf (Elt F) ((c : Thread nD τ).loc main_v2_2) := (dats m 0 c).arrAt 7 cfg0.N

/-- The results and the unchanged arguments. -/
theorem final : θ_run defs (onTc (τ := τ) (main (F := F))) ⟨m, fun _ => 0, ρ⟩ (fun r => (∀ c : Dev nD,
      r.2.mem ((c.tc : Thread nD τ).loc main_v2_0) = resU m c
      ∧ r.2.mem ((c.tc : Thread nD τ).loc main_v2_1) = resK m c
      ∧ r.2.mem ((c.tc : Thread nD τ).loc main_v2_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r (h : _ ∧ _) => ⟨fun c => ⟨(h.1 c).1 5, (h.1 c).1 6, (h.1 c).1 7,
      ((h.1 c).2 main_arg0 rest0).trans (V_of_ne m c _ (by decide) (by decide)),
      ((h.1 c).2 main_arg1 rest1).trans (V_of_ne m c _ (by decide) (by decide)),
      ((h.1 c).1 2).trans (((dats m 0 c).arrAt_in 2 rfl _).trans ((A_eq m c 2).trans (V_of_ne m c main_arg2 (by decide) (by decide)))),
      ((h.1 c).1 4).trans (((dats m 0 c).arrAt_in 4 rfl _).trans ((A_eq m c 4).trans (V_of_ne m c main_arg3 (by decide) (by decide))))⟩, h.2⟩)
    (run_main m ρ)

end Cert.Proof.Inproj
end
-- ==== Proof.InprojRef.lean ====
module

public import proofs.«01_k».proof.Proof.Gen.Reference4Ideal
public import proofs.«01_k».proof.Proof.Gen.Reference4Ideal.Read
public import proofs.«01_k».proof.Proof.FfnRef

/-! The in-projection reference's results, for the prompt's rows and for the samples' rows. -/

@[expose] public section

set_option maxRecDepth 16384

noncomputable section

namespace Cert.Proof.InprojRef

open Cert.Reference4Ideal Cert.Reference4Ideal.Gen Cert.Reference4Ideal.Read Idealize.ShloMosaic Idealize.ShloMosaic.TcCoe
open Idealize.ShloMosaic.Tactic Idealize.SL.Sem
open Cert.Proof.Layer
open Cert.Proof.FfnBlock (tab)
open Cert.Proof.FfnArrays (grp sec)
open Cert.Proof.FfnRef (tokP tokS modS)

variable (x0 : Vec Ideal S16x256x1024 .f32) (x1 : Vec Ideal S2x1024x1024 .f32) (x2 : Vec Ideal S16x6144 .f32) (x3 : Vec Ideal S1024x2304 .f32)

/-- A token's row: the prompt's tokens, then the samples'. -/
def xrow (i : Fin 6144) : Fin 1024 → EReal := fun d =>
  if h : i.val < 4096 then x0 (ix3 ⟨i.val / 256, by omega⟩ ⟨i.val % 256, by omega⟩ d)
  else x1 (ix3 ⟨(i.val - 4096) / 1024, by omega⟩ ⟨(i.val - 4096) % 1024, by omega⟩ d)
/-- Column `n` of a token's projection. -/
def proj (i : Fin 6144) (n : Fin 2304) : EReal := dot (hid (xrow x0 x1 i) (sec x2 1 (grp i)) (sec x2 0 (grp i))) (tab x3) n
/-- The projection of every row. -/
def G : Vec Ideal S6144x2304 .f32 := fun j => proj x0 x1 x2 x3 (j 0) (j 1)
/-- The prompt's keys, -/
def GK : Vec Ideal S4096x128 .f32 := fun j => proj x0 x1 x2 x3 ⟨(j 0).val, lt_trans (j 0).isLt (by decide)⟩ ⟨2048 + (j 1).val, by have : (j 1).val < 128 := (j 1).isLt; omega⟩
/-- and its values. -/
def GV : Vec Ideal S4096x128 .f32 := fun j => proj x0 x1 x2 x3 ⟨(j 0).val, lt_trans (j 0).isLt (by decide)⟩ ⟨2176 + (j 1).val, by have : (j 1).val < 128 := (j 1).isLt; omega⟩

theorem xrow_P (b : Fin 16) (n : Fin 256) (d : Fin 1024) : xrow x0 x1 (tokP b n) d = x0 (ix3 b n d) := by
  unfold xrow
  rw [dif_pos (show (tokP b n).val < 4096 by unfold tokP; dsimp only; omega)]
  have e1 : (⟨(tokP b n).val / 256, by unfold tokP; dsimp only; omega⟩ : Fin 16) = b := Fin.ext (by unfold tokP; dsimp only; omega)
  have e2 : (⟨(tokP b n).val % 256, by omega⟩ : Fin 256) = n := Fin.ext (by unfold tokP; dsimp only; omega)
  rw [e1, e2]
theorem xrow_S (b : Fin 2) (n : Fin 1024) (d : Fin 1024) : xrow x0 x1 (tokS b n) d = x1 (ix3 b n d) := by
  unfold xrow
  rw [dif_neg (show ¬(tokS b n).val < 4096 by unfold tokS; dsimp only; omega)]
  have e1 : (⟨((tokS b n).val - 4096) / 1024, by unfold tokS; dsimp only; omega⟩ : Fin 2) = b := Fin.ext (by unfold tokS; dsimp only; omega)
  have e2 : (⟨((tokS b n).val - 4096) % 1024, by omega⟩ : Fin 1024) = n := Fin.ext (by unfold tokS; dsimp only; omega)
  rw [e1, e2]
theorem grp_P (b : Fin 16) (n : Fin 256) : grp (tokP b n) = 0 := Fin.ext (by unfold grp tokP; simp only [Fin.val_zero]; omega)
theorem grp_S (b : Fin 2) (n : Fin 1024) : grp (tokS b n) = modS b := Fin.ext (by unfold modS grp tokS; dsimp only; omega)

theorem hP (b : Fin 16) (n : Fin 256) (d : Fin 1024) : val_main_v15 x0 x2 (ix3 b n d)
    = hid (xrow x0 x1 (tokP b n)) (sec x2 1 (grp (tokP b n))) (sec x2 0 (grp (tokP b n))) d := by
  unfold hid sec
  rw [xrow_P, grp_P]
  pointwise [val_main_v15, val_main_v14, val_main_v13, val_main_v12, val_main_v11, val_main_v10, val_main_v9, val_main_v8, val_main_cst, val_main_v3, val_main_v2, val_main_v1, val_main_v0]
theorem hS (b : Fin 2) (n : Fin 1024) (d : Fin 1024) : val_main_v30 x1 x2 (ix3 b n d)
    = hid (xrow x0 x1 (tokS b n)) (sec x2 1 (grp (tokS b n))) (sec x2 0 (grp (tokS b n))) d := by
  unfold hid sec
  rw [xrow_S, grp_S]
  pointwise [val_main_v30, val_main_v29, val_main_v28, val_main_v27, val_main_v26, val_main_v25, val_main_cst_0, val_main_v20, val_main_v19, val_main_v18, val_main_v17]
  rfl
theorem uP (b : Fin 16) (n : Fin 256) (f : Fin 2304) : val_main_v16 x0 x2 x3 (ix3 b n f) = proj x0 x1 x2 x3 (tokP b n) f := by
  unfold proj dot tab
  pointwise [val_main_v16]
  exact Finset.sum_congr rfl fun d _ => by rw [hP x0 x1]
theorem uS (b : Fin 2) (n : Fin 1024) (f : Fin 2304) : val_main_v31 x1 x2 x3 (ix3 b n f) = proj x0 x1 x2 x3 (tokS b n) f := by
  unfold proj dot tab
  pointwise [val_main_v31]
  exact Finset.sum_congr rfl fun d _ => by rw [hS x0 x1]

/-- The reference's first result is the projection of every row, -/
theorem result : val_main_v38 x0 x1 x2 x3 = G x0 x1 x2 x3 := by
  funext j
  obtain ⟨i, e, rfl⟩ : ∃ (i : Fin 6144) (e : Fin 2304), j = ix2 i e := ⟨j 0, j 1, eq_ix2 j⟩
  by_cases h : i.val < 4096
  · have e1 : val_main_v38 x0 x1 x2 x3 (ix2 i e)
        = val_main_v16 x0 x2 x3 (ix3 ⟨i.val / 256, by omega⟩ ⟨i.val % 256, by omega⟩ e) := by
      pointwise [val_main_v38, val_main_v37, val_main_v36]
      rw [dif_pos h]
    rw [e1, uP x0 x1]
    have e2 : tokP ⟨i.val / 256, by omega⟩ ⟨i.val % 256, by omega⟩ = i := Fin.ext (by unfold tokP; dsimp only; omega)
    rw [e2]
    rfl
  · have e1 : val_main_v38 x0 x1 x2 x3 (ix2 i e)
        = val_main_v31 x1 x2 x3 (ix3 ⟨(i.val - 4096) / 1024, by omega⟩ ⟨(i.val - 4096) % 1024, by omega⟩ e) := by
      pointwise [val_main_v38, val_main_v37, val_main_v36]
      rw [dif_neg h]
    rw [e1, uS x0 x1]
    have e2 : tokS ⟨(i.val - 4096) / 1024, by omega⟩ ⟨(i.val - 4096) % 1024, by omega⟩ = i :=
      Fin.ext (by unfold tokS; dsimp only; omega)
    rw [e2]
    rfl
/-- the second the prompt's keys, -/
theorem keys : val_main_v39 x0 x2 x3 = GK x0 x1 x2 x3 := by
  funext j
  obtain ⟨i, e, rfl⟩ : ∃ (i : Fin 4096) (e : Fin 128), j = ix2 i e := ⟨j 0, j 1, eq_ix2 j⟩
  have e1 : val_main_v39 x0 x2 x3 (ix2 i e)
      = val_main_v16 x0 x2 x3 (ix3 ⟨i.val / 256, by omega⟩ ⟨i.val % 256, by omega⟩ ⟨2048 + e.val, by omega⟩) := by
    pointwise [val_main_v39, val_main_v34]
  rw [e1, uP x0 x1]
  have e2 : tokP ⟨i.val / 256, by omega⟩ ⟨i.val % 256, by omega⟩ = ⟨i.val, by omega⟩ := Fin.ext (by unfold tokP; dsimp only; omega)
  rw [e2]
  rfl
/-- and the third its values. -/
theorem values : val_main_v40 x0 x2 x3 = GV x0 x1 x2 x3 := by
  funext j
  obtain ⟨i, e, rfl⟩ : ∃ (i : Fin 4096) (e : Fin 128), j = ix2 i e := ⟨j 0, j 1, eq_ix2 j⟩
  have e1 : val_main_v40 x0 x2 x3 (ix2 i e)
      = val_main_v16 x0 x2 x3 (ix3 ⟨i.val / 256, by omega⟩ ⟨i.val % 256, by omega⟩ ⟨2176 + e.val, by omega⟩) := by
    pointwise [val_main_v40, val_main_v35]
  rw [e1, uP x0 x1]
  have e2 : tokP ⟨i.val / 256, by omega⟩ ⟨i.val % 256, by omega⟩ = ⟨i.val, by omega⟩ := Fin.ext (by unfold tokP; dsimp only; omega)
  rw [e2]
  rfl

end Cert.Proof.InprojRef
end

end
-- ==== Proof.InprojArrays.lean ====
module

public import proofs.«01_k».proof.Proof.InprojFrame
public import proofs.«01_k».proof.Proof.InprojRef

/-! The in-projection's result arrays at the ideal values, row by row. -/

@[expose] public section

set_option maxRecDepth 16384

noncomputable section

namespace Cert.Proof.InprojArrays

open Cert.Kernel4Ideal Cert.Kernel4Ideal.Gen Idealize.ShloMosaic Idealize.ShloMosaic.TcCoe Idealize.ShloMosaic.Tactic Idealize.SL.Sem
open Idealize.ShloMosaic.Pointwise
open Idealize.ShloMosaic.Pipeline (Dat)
open Cert.Proof.Layer Cert.Proof.Inproj
open Cert.Proof.FfnBlock (tab)
open Cert.Proof.FfnArrays (grp sec)
open Cert.Proof.InprojRef (xrow proj G GK GV)

/-! ## The payloads -/

theorem pay5 (x : Vec Ideal S1024x1024 .f32) (y z : Vec Ideal S1x1024 .f32) (i n : Fin 1024) :
    k0_pay5 y z x (ix2 i n) = hid (tab x i) (tab y 0) (tab z 0) n := by
  pointwise [k0_pay5]
  rfl
theorem pay6 (x : Vec Ideal S1024x1024 .f32) (y z : Vec Ideal S1x1024 .f32) (i n : Fin 1024) :
    k0_pay6 y z x (ix2 i n) = hid (tab x i) (tab y 0) (tab z 0) n := by
  pointwise [k0_pay6]
  rfl
theorem pay2 (h : Vec Ideal S1024x1024 .bf16) (w : Vec Ideal S1024x1152 .bf16) (i : Fin 1024) (n : Fin 1152) :
    k0_pay2 h w (ix2 i n) = dot (tab h i) (tab w) n := by
  pointwise [k0_pay2]
  rfl
theorem pay3 (h : Vec Ideal S1024x1024 .bf16) (w : Vec Ideal S1024x1152 .bf16) (i : Fin 1024) (n : Fin 128) :
    k0_pay3 h w (ix2 i n) = dot (tab h i) (tab w) ⟨896 + n.val, by omega⟩ := by
  refine Eq.trans ?_ (pay2 h w i _)
  unfold k0_pay3
  generalize k0_pay2 h w = u
  pointwise
theorem pay4 (h : Vec Ideal S1024x1024 .bf16) (w : Vec Ideal S1024x1152 .bf16) (i : Fin 1024) (n : Fin 128) :
    k0_pay4 h w (ix2 i n) = dot (tab h i) (tab w) ⟨1024 + n.val, by omega⟩ := by
  refine Eq.trans ?_ (pay2 h w i _)
  unfold k0_pay4
  generalize k0_pay2 h w = u
  pointwise

/-! ## The blocks -/

variable (m : (ℓ : Loc nD τ sig) → Buf (Elt Ideal) ℓ)

/-- The argument arrays. -/
abbrev X0 (c : Dev nD) : Vec Ideal S16x256x1024 .f32 := m ((c : Thread nD τ).loc main_arg0)
abbrev X1 (c : Dev nD) : Vec Ideal S2x1024x1024 .f32 := m ((c : Thread nD τ).loc main_arg1)
abbrev X2 (c : Dev nD) : Vec Ideal S16x6144 .f32 := m ((c : Thread nD τ).loc main_arg2)
abbrev X3 (c : Dev nD) : Vec Ideal S1024x2304 .f32 := m ((c : Thread nD τ).loc main_arg3)

theorem e0 : ∀ t : Fin cfg0.N, t.val < 4 → win0_0.index t = ![t.val, 0] :=
  (by decide +kernel : ∀ t : Fin grid0.N, t.val < 4 → win0_0.index t = ![t.val, 0])
theorem e1 : ∀ t : Fin cfg0.N, t.val < 6 → ¬t.val < 4 → win0_1.index t = ![t.val - 4, 0] :=
  (by decide +kernel : ∀ t : Fin grid0.N, t.val < 6 → ¬t.val < 4 → win0_1.index t = ![t.val - 4, 0])
theorem e2 : ∀ t : Fin cfg0.N, win0_2.index t = ![0, 0] := (by decide +kernel : ∀ t : Fin grid0.N, win0_2.index t = ![0, 0])
theorem e3 : ∀ t : Fin cfg0.N, win0_3.index t = ![0, 1] := (by decide +kernel : ∀ t : Fin grid0.N, win0_3.index t = ![0, 1])
theorem e4 : ∀ t : Fin cfg0.N, win0_4.index t = ![0, t.val / 6] := (by decide +kernel : ∀ t : Fin grid0.N, win0_4.index t = ![0, t.val / 6])
theorem e5 : ∀ t : Fin cfg0.N, win0_5.index t = ![t.val % 6, t.val / 6] :=
  (by decide +kernel : ∀ t : Fin grid0.N, win0_5.index t = ![t.val % 6, t.val / 6])
theorem e6 : ∀ t : Fin cfg0.N, (cfg0.win 6).flush t = true → win0_6.index t = ![(tapped t).val % 6, 0] :=
  (by decide +kernel : ∀ t : Fin grid0.N, (cfg0.win 6).flush t = true → win0_6.index t = ![(tapped t).val % 6, 0])
theorem e7 : ∀ t : Fin cfg0.N, (cfg0.win 7).flush t = true → win0_7.index t = ![(tapped t).val % 6, 0] :=
  (by decide +kernel : ∀ t : Fin grid0.N, (cfg0.win 7).flush t = true → win0_7.index t = ![(tapped t).val % 6, 0])

theorem hN (t : Fin cfg0.N) : t.val < 12 := t.isLt

/-- The token of a tile's row. -/
def tok (t : Fin cfg0.N) (r : Fin 1024) : Fin 6144 := ⟨t.val % 6 * 1024 + r.val, by omega⟩
/-- The column of a block's column. -/
def pcol (t : Fin cfg0.N) (n : Fin 1152) : Fin 2304 := ⟨t.val / 6 * 1152 + n.val, by have := hN t; omega⟩

theorem tok_src (t : Fin cfg0.N) (r : Fin 1024) : tok (src t) r = tok t r := Fin.ext (by unfold tok src; dsimp only; omega)

theorem blk0 (c : Dev nD) (t : Fin cfg0.N) (ht : t.val < 4) (r d : Fin 1024) :
    (iblk m c 0 t : Vec Ideal S1024x1024 .f32) (ix2 r d) = xrow (X0 m c) (X1 m c) (tok t r) d := by
  have e : V m c main_v0 = shapeCast S4096x1024 (X0 m c) shapeCasts_S16x256x1024_S4096x1024 := by
    unfold V; after_results; rfl
  have e' : ((win0_0.blk t).view.emb (ix2 r d)) = (ix2 ⟨t.val * 1024 + r.val, by omega⟩ d : S4096x1024.Idx) := by blk_ext [e0 t ht]
  unfold iblk xrow
  rw [dif_pos (show (tok t r).val < 4096 by unfold tok; dsimp only; omega)]
  show V m c main_v0 ((win0_0.blk t).view.emb (ix2 r d)) = _
  rw [e, e']
  have f1 : (⟨(t.val * 1024 + r.val) / 256, by omega⟩ : Fin 16) = ⟨(tok t r).val / 256, by unfold tok; dsimp only; omega⟩ :=
    Fin.ext (by unfold tok; dsimp only; rw [Nat.mod_eq_of_lt (by omega : t.val < 6)])
  have f2 : (⟨(t.val * 1024 + r.val) % 256, by omega⟩ : Fin 256) = ⟨(tok t r).val % 256, by omega⟩ :=
    Fin.ext (by unfold tok; dsimp only; rw [Nat.mod_eq_of_lt (by omega : t.val < 6)])
  rw [← f1, ← f2]
  pointwise
theorem blk1 (c : Dev nD) (t : Fin cfg0.N) (h6 : t.val < 6) (ht : ¬t.val < 4) (r d : Fin 1024) :
    (iblk m c 1 t : Vec Ideal S1024x1024 .f32) (ix2 r d) = xrow (X0 m c) (X1 m c) (tok t r) d := by
  have e : V m c main_v1 = shapeCast S2048x1024 (X1 m c) shapeCasts_S2x1024x1024_S2048x1024 := by
    unfold V; after_results; rfl
  have e' : ((win0_1.blk t).view.emb (ix2 r d)) = (ix2 ⟨(t.val - 4) * 1024 + r.val, by omega⟩ d : S2048x1024.Idx) := by blk_ext [e1 t h6 ht]
  unfold iblk xrow
  rw [dif_neg (show ¬(tok t r).val < 4096 by unfold tok; dsimp only; omega)]
  show V m c main_v1 ((win0_1.blk t).view.emb (ix2 r d)) = _
  rw [e, e']
  have f1 : (⟨((t.val - 4) * 1024 + r.val) / 1024, by omega⟩ : Fin 2) = ⟨((tok t r).val - 4096) / 1024, by unfold tok; dsimp only; omega⟩ :=
    Fin.ext (by unfold tok; dsimp only; omega)
  have f2 : r = ⟨((tok t r).val - 4096) % 1024, by omega⟩ :=
    Fin.ext (by unfold tok; dsimp only; omega)
  rw [← f1, ← f2]
  pointwise
theorem blk2 (c : Dev nD) (t : Fin cfg0.N) (r : Fin 16) (d : Fin 1024) :
    (iblk m c 2 t : Vec Ideal S16x1024 .f32) (ix2 r d) = sec (X2 m c) 0 r d := by
  unfold sec iblk
  show V m c main_arg2 ((win0_2.blk t).view.emb (ix2 r d)) = _
  rw [V_of_ne m c main_arg2 (by decide) (by decide)]
  refine congrArg (X2 m c) ?_
  blk_ext [e2 t]
theorem blk3 (c : Dev nD) (t : Fin cfg0.N) (r : Fin 16) (d : Fin 1024) :
    (iblk m c 3 t : Vec Ideal S16x1024 .f32) (ix2 r d) = sec (X2 m c) 1 r d := by
  unfold sec iblk
  show V m c main_arg2 ((win0_3.blk t).view.emb (ix2 r d)) = _
  rw [V_of_ne m c main_arg2 (by decide) (by decide)]
  refine congrArg (X2 m c) ?_
  blk_ext [e3 t]
theorem blk4 (c : Dev nD) (t : Fin cfg0.N) (d : Fin 1024) (n : Fin 1152) :
    (iblk m c 4 t : Vec Ideal S1024x1152 .f32) (ix2 d n) = X3 m c (ix2 d (pcol t n)) := by
  unfold iblk
  show V m c main_arg3 ((win0_4.blk t).view.emb (ix2 d n)) = _
  rw [V_of_ne m c main_arg3 (by decide) (by decide)]
  refine congrArg (X3 m c) ?_
  unfold pcol
  blk_ext [e4 t]

theorem w_at (c : Dev nD) (t : Fin cfg0.N) (d : Fin 1024) (n : Fin 1152) : wT m c t (ix2 d n) = X3 m c (ix2 d (pcol t n)) := by
  refine Eq.trans ?_ (blk4 m c t d n)
  unfold wT
  pointwise [k0_pay1]

/-! ## The tiles of modulated rows -/

theorem first : ∀ t : Fin cfg0.N, t.val < 4 → k0_cond1 (grid0.coords t) = 1#1 ∧ ¬k0_cond2 (grid0.coords t) = 1#1 :=
  (by decide +kernel : ∀ t : Fin grid0.N, t.val < 4 → k0_cond1 (grid0.coords t) = 1#1 ∧ ¬k0_cond2 (grid0.coords t) = 1#1)
theorem second : ∀ t : Fin cfg0.N, t.val < 6 → ¬t.val < 4 → k0_cond2 (grid0.coords t) = 1#1 :=
  (by decide +kernel : ∀ t : Fin grid0.N, t.val < 6 → ¬t.val < 4 → k0_cond2 (grid0.coords t) = 1#1)
theorem off1 : ∀ t : Fin cfg0.N, t.val < 4 → k0_off1 (grid0.coords t) = ![0, 0] :=
  (by decide +kernel : ∀ t : Fin grid0.N, t.val < 4 → k0_off1 (grid0.coords t) = ![0, 0])
theorem off3 : ∀ t : Fin cfg0.N, t.val < 6 → ¬t.val < 4 → k0_off3 (grid0.coords t) = ![t.val - 3, 0] :=
  (by decide +kernel : ∀ t : Fin grid0.N, t.val < 6 → ¬t.val < 4 → k0_off3 (grid0.coords t) = ![t.val - 3, 0])

/-- A row of the shifts or the scales, by its number. -/
theorem row_at (x : Vec Ideal S16x1024 .f32) (o : Fin 2 → ℕ) (h : ∀ a, o a + S1x1024.size a ≤ S16x1024.size a) (g : Fin 16)
    (e : o = ![g.val, 0]) (d : Fin 1024) : Inproj.row x o h (ix2 0 d) = x (ix2 g d) := by
  subst e
  pointwise [Inproj.row]

/-- A tile holds the modulated rows of its tokens. -/
theorem h_at (c : Dev nD) (t : Fin cfg0.N) (ht : t.val < 6) (r d : Fin 1024) : hT m c t (ix2 r d)
    = hid (xrow (X0 m c) (X1 m c) (tok t r)) (sec (X2 m c) 1 (grp (tok t r))) (sec (X2 m c) 0 (grp (tok t r))) d := by
  unfold hT hNext
  by_cases h4 : t.val < 4
  · obtain ⟨h1, h2⟩ := first t h4
    rw [dif_neg h2, dif_pos h1]
    refine (congrFun (tile_same (F := Ideal) _ _ (off2_eq t ht) _) (ix2 r d)).trans ?_
    refine (pay5 _ _ _ r d).trans ?_
    have eg : k0_off1 (grid0.coords t) = ![(grp (tok t r)).val, 0] := by
      rw [off1 t h4, show (grp (tok t r)).val = 0 by unfold grp tok; dsimp only; omega]
    unfold hid tab
    rw [row_at _ _ _ _ eg, row_at _ _ _ _ eg, blk0 m c t h4, blk2, blk3]
  · have h2 := second t ht h4
    rw [dif_pos h2]
    refine (congrFun (tile_same (F := Ideal) _ _ (off4_eq t ht) _) (ix2 r d)).trans ?_
    refine (pay6 _ _ _ r d).trans ?_
    have eg : k0_off3 (grid0.coords t) = ![(grp (tok t r)).val, 0] := by
      rw [off3 t ht h4, show (grp (tok t r)).val = t.val - 3 by unfold grp tok; dsimp only; omega]
    unfold hid tab
    rw [row_at _ _ _ _ eg, row_at _ _ _ _ eg, blk1 m c t ht h4, blk2, blk3]

/-- A row of a tile times a column of a block of weights is the projection. -/
theorem dot_at (c : Dev nD) (t : Fin cfg0.N) (r : Fin 1024) (n : Fin 1152) :
    dot (tab (hT m c (src t)) r) (tab (wT m c t)) n = proj (X0 m c) (X1 m c) (X2 m c) (X3 m c) (tok t r) (pcol t n) := by
  unfold proj
  rw [← tok_src t r]
  refine Finset.sum_congr rfl fun d _ => ?_
  show hT m c (src t) (ix2 r d) * wT m c t (ix2 d n) = _
  rw [h_at m c (src t) (src_lt t), w_at]

/-! ## The result arrays -/

theorem finalU (c : Dev nD) : resU m c = G (X0 m c) (X1 m c) (X2 m c) (X3 m c) := by
  unfold resU
  refine (dats m 0 c).arrAt_eq_of_covers 5 (G (X0 m c) (X1 m c) (X2 m c) (X3 m c)) (by decide +kernel) fun t hf y => ?_
  blk_simp
  rw [after5]
  obtain ⟨r, n, rfl⟩ : ∃ (r : Fin 1024) (n : Fin 1152), y = ix2 r n := ⟨y 0, y 1, eq_ix2 y⟩
  have e' : ((win0_5.blk t).view.emb (ix2 r n)) = (ix2 (tok t r) (pcol t n) : S6144x2304.Idx) := by unfold tok pcol; blk_ext [e5 t]
  rw [e']
  exact (pay2 _ _ r n).trans (dot_at m c t r n)

/-- The points that store the taps have the second half of the columns. -/
theorem tapped_val (t : Fin cfg0.N) : (tapped t).val / 6 = 1 ∧ (tapped t).val % 6 < 4 := by
  unfold tapped; dsimp only; omega

theorem finalK (c : Dev nD) : resK m c = GK (X0 m c) (X1 m c) (X2 m c) (X3 m c) := by
  unfold resK
  refine (dats m 0 c).arrAt_eq_of_covers 6 (GK (X0 m c) (X1 m c) (X2 m c) (X3 m c)) (by decide +kernel) fun t hf y => ?_
  blk_simp
  rw [after6]
  obtain ⟨r, n, rfl⟩ : ∃ (r : Fin 1024) (n : Fin 128), y = ix2 r n := ⟨y 0, y 1, eq_ix2 y⟩
  obtain ⟨h1, h2⟩ := tapped_val t
  have e' : ((win0_6.blk t).view.emb (ix2 r n)) = (ix2 ⟨(tapped t).val % 6 * 1024 + r.val, by omega⟩ n : S4096x128.Idx) := by blk_ext [e6 t hf]
  rw [e']
  refine (pay3 _ _ r n).trans ((dot_at m c (tapped t) r _).trans ?_)
  unfold GK
  congr 1
  exact Fin.ext (by unfold pcol; dsimp only; rw [h1]; show _ = 2048 + n.val; omega)

theorem finalV (c : Dev nD) : resV m c = GV (X0 m c) (X1 m c) (X2 m c) (X3 m c) := by
  unfold resV
  refine (dats m 0 c).arrAt_eq_of_covers 7 (GV (X0 m c) (X1 m c) (X2 m c) (X3 m c)) (by decide +kernel) fun t hf y => ?_
  blk_simp
  rw [after7]
  obtain ⟨r, n, rfl⟩ : ∃ (r : Fin 1024) (n : Fin 128), y = ix2 r n := ⟨y 0, y 1, eq_ix2 y⟩
  obtain ⟨h1, h2⟩ := tapped_val t
  have e' : ((win0_7.blk t).view.emb (ix2 r n)) = (ix2 ⟨(tapped t).val % 6 * 1024 + r.val, by omega⟩ n : S4096x128.Idx) := by blk_ext [e7 t hf]
  rw [e']
  refine (pay4 _ _ r n).trans ((dot_at m c (tapped t) r _).trans ?_)
  unfold GV
  congr 1
  exact Fin.ext (by unfold pcol; dsimp only; rw [h1]; show _ = 2176 + n.val; omega)

end Cert.Proof.InprojArrays
end

end
-- ==== Proof.Inproj.lean ====
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.InprojArrays

/-! The five claims about the in-projection. -/

@[expose] public section

set_option maxRecDepth 16384

noncomputable section

namespace Cert.Proof.Inproj

open Cert.Kernel4Ideal Cert.Kernel4Ideal.Gen Idealize.ShloMosaic Idealize.ShloMosaic.TcCoe Idealize.SL.Sem
open Cert.Proof.InprojRef (G GK GV)
open Cert.Proof.InprojArrays (X0 X1 X2 X3)

section
variable {F : FTy → Type} [FloatOps F]

/-! The kernel and its idealization have the same text: the same bodies, the same pipeline, the same host operations. -/

theorem bodies_eq : Cert.Kernel4.defs₀ (F := F) = Cert.Kernel4Ideal.defs₀ (F := F) := by
  refine congrArg (Defs.onTc (nD := Cert.Kernel4.nD) (τ := Cert.Kernel4.τ) (sig := Cert.Kernel4.sig) (Λ := Cert.Kernel4.Λ₀))
    (funext fun l => funext fun x => ?_)
  match l, x with
  | 0, (t, s) => rfl
theorem defs_eq : Cert.Kernel4.defs (F := F) = Cert.Kernel4Ideal.defs (F := F) :=
  congrArg (Pipeline.defs (Cert.Kernel4.pcfgs (F := F))) bodies_eq
theorem main_eq : Cert.Kernel4.main (F := F) = Cert.Kernel4Ideal.main (F := F) := rfl
end

/-- The kernel runs, ends with its arguments unchanged and every semaphore at zero: the one run, at the machine's floats. -/
theorem frame : Cert.quiescent_Kernel4 := fun m ρ _ =>
  Eq.mpr (congrArg₂ (fun d k => θ_run d (onTc (τ := Cert.Kernel4.τ) k) _ _) (defs_eq (F := Bits)) (main_eq (F := Bits)))
    ((θ_run (Cert.Kernel4Ideal.defs (F := Bits)) _ _).mono (fun _ h => ⟨fun c => (h.1 c).2.2.2, h.2⟩)
      (final (F := Bits) m ρ))

/-- So does its idealization. -/
theorem frameIdeal : Cert.quiescent_Kernel4Ideal := fun m ρ _ =>
  (θ_run Cert.Kernel4Ideal.defs _ _).mono (fun _ h => ⟨fun c => (h.1 c).2.2.2, h.2⟩) (final (F := Ideal) m ρ)

/-- So does the reference. -/
theorem frameReference : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

/-- The idealization rewrites nothing. -/
theorem preserves : Cert.preserves_Kernel4_Kernel4Ideal := trivial

/-- Both programs end with the projection of every row, the prompt's keys and the prompt's values. -/
theorem algebraic : Cert.algebraic_Kernel4Ideal_Reference4Ideal := by
  intro m ρ m' ρ' _ hagree
  refine ⟨fun c => G (X0 m c) (X1 m c) (X2 m c) (X3 m c), fun c => GK (X0 m c) (X1 m c) (X2 m c) (X3 m c),
    fun c => GV (X0 m c) (X1 m c) (X2 m c) (X3 m c), ?_, ?_⟩
  · exact (θ_run Cert.Kernel4Ideal.defs _ _).mono
      (fun _ h c => ⟨(h.1 c).1.trans (InprojArrays.finalU m c), (h.1 c).2.1.trans (InprojArrays.finalK m c),
        (h.1 c).2.2.1.trans (InprojArrays.finalV m c), (h.1 c).2.2.2⟩)
      (final (F := Ideal) m ρ)
  · refine (θ_run Cert.Reference4Ideal.defs _ _).mono (fun _ h c => ⟨?_, ?_, ?_, (h c).2.2.2⟩)
      (Cert.Reference4Ideal.Value.run (F := Ideal) m' ρ')
    all_goals obtain ⟨a0, a1, a2, a3⟩ := hagree c
    · refine (h c).1.trans ((Cert.Reference4Ideal.Read.val_main_v38_eq (F := Ideal) _ _ _ _).trans ?_)
      rw [a0, a1, a2, a3]
      exact InprojRef.result _ _ _ _
    · refine (h c).2.1.trans ((Cert.Reference4Ideal.Read.val_main_v39_eq (F := Ideal) _ _ _).trans ?_)
      rw [a0, a2, a3]
      exact InprojRef.keys _ _ _ _
    · refine (h c).2.2.1.trans ((Cert.Reference4Ideal.Read.val_main_v40_eq (F := Ideal) _ _ _).trans ?_)
      rw [a0, a2, a3]
      exact InprojRef.values _ _ _ _

end Cert.Proof.Inproj
end

end
-- ==== Proof.Inproj2Run.lean ====
module
public import proofs.«01_k».proof.Proof.Gen.Kernel5Ideal.Launch
public import proofs.«01_k».proof.Proof.Gen.Kernel5Ideal.Skeleton
public import proofs.«01_k».proof.Proof.InprojFrame

/-!
# The odd layer's in-projection: one grid point

What a grid point leaves in its buffers, run once from the kernel's text, over any float values.
-/

@[expose] public section
noncomputable section
namespace Cert.Proof.Inproj2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Proof.Inproj (row store_if)

variable {F : FTy → Type} [FloatOps F]

/-- The resources that the run is stated over. -/
abbrev Res (F : FTy → Type) [FloatOps F] := MT nD τ sig Unit (Elt F) ℕ (UR sig nD τ) ℕ

abbrev sc0 : Memref sig .tc .vmem S6144x1024 .bf16 := Memref.whole cc0_scratch0
abbrev sc1 : Memref sig .tc .vmem S1024x1664 .bf16 := Memref.whole cc0_scratch1

/-- Whether a point is the first of its columns, where it loads the weights. -/
def fresh (i : grid0.Coords) : BitVec 1 := Scalar.cmpi .ne (Scalar.extui (Scalar.cmpi .eq (BitVec.ofNat 32 (i 1).val) 0#32)) 0#32

open Classical in
/-- The modulated rows' buffer after a point. -/
def hNext (i : grid0.Coords) (x0 : Vec F S1024x1024 .f32) (x1 x2 : Vec F S16x1024 .f32) (h : Vec F S6144x1024 .bf16) : Vec F S6144x1024 .bf16 :=
  if h1 : k0_cond1 i = 1#1 then
    VecWindow.put h (k0_off2 i) S1024x1024.size (k0_pay2 (row x2 (k0_off1 i) (k0_off1_inb i h1)) (row x1 (k0_off1 i) (k0_off1_inb i h1)) x0)
  else h

/-- The rows of a point, as its matrix product reads them. -/
abbrev tileOf (i : grid0.Coords) (h : Vec F S6144x1024 .bf16) : Vec F S1024x1024 .bf16 :=
  View.ld (Val := Elt F) h (Rect.unit (s := S6144x1024) (k0_off3 i) S1024x1024.size (k0_off3_inb i))

set_option maxHeartbeats 1000000 in
set_option maxRecDepth 16384 in
/-- The body at a grid point. -/
theorem run (c : Dev nD) (i : grid0.Coords)
    (arg2 : Memref sig .tc .vmem S1024x1024 .f32) (harg2 : arg2.IsWhole) (arg3 : Memref sig .tc .vmem S16x1024 .f32) (harg3 : arg3.IsWhole)
    (arg4 : Memref sig .tc .vmem S16x1024 .f32) (harg4 : arg4.IsWhole) (arg5 : Memref sig .tc .vmem S1024x1664 .f32) (harg5 : arg5.IsWhole)
    (arg6 : Memref sig .tc .vmem S1024x1664 .f32) (harg6 : arg6.IsWhole) (arg7 : Memref sig .tc .vmem S1024x128 .f32) (harg7 : arg7.IsWhole)
    (x0 : Vec F S1024x1024 .f32) (x1 x2 : Vec F S16x1024 .f32) (x3 : Vec F S1024x1664 .f32) (d5 : Vec F S1024x128 .f32)
    (h : Vec F S6144x1024 .bf16) (w : Vec F S1024x1664 .bf16)
    (E : Set ℕ) (K : PUnit → sProp (Res F)) :
    iprop(owns (c : Thread nD τ) arg2 fullShare x0
      ∗ owns (c : Thread nD τ) arg3 fullShare x1
      ∗ owns (c : Thread nD τ) arg4 fullShare x2
      ∗ owns (c : Thread nD τ) arg5 fullShare x3
      ∗ (∃ d, owns (c : Thread nD τ) arg6 fullShare d)
      ∗ owns (c : Thread nD τ) arg7 fullShare d5
      ∗ owns (c : Thread nD τ) sc0 fullShare h ∗ owns (c : Thread nD τ) sc1 fullShare w
      ∗ (iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare (k0_pay4 (tileOf i (hNext i x0 x1 x2 h)) (if fresh i = 1#1 then k0_pay3 x3 else w))
      ∗ owns (c : Thread nD τ) arg7 fullShare (if k0_cond3 i = 1#1 then k0_pay1 (k0_pay4 (tileOf i (hNext i x0 x1 x2 h)) (if fresh i = 1#1 then k0_pay3 x3 else w)) else d5)
      ∗ owns (c : Thread nD τ) sc0 fullShare (hNext i x0 x1 x2 h)
      ∗ owns (c : Thread nD τ) sc1 fullShare (if fresh i = 1#1 then k0_pay3 x3 else w)) -∗ K ⟨⟩))
    ⊢ wp frame (wpE (defs₀ (F := F)) Variants.none c none) E
        (cc0_inproj i arg2 harg2 arg3 harg3 arg4 harg4 arg5 harg5 arg6 harg6 arg7 harg7 sc0 (Memref.isWhole_whole _) sc1 (Memref.isWhole_whole _)) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%g0, %hg0, S0⟩, ⟨%g1, %hg1, S1⟩, Hk⟩
  obtain rfl := harg2.eq_unread hf0; obtain rfl := harg3.eq_unread hf1; obtain rfl := harg4.eq_unread hf2
  obtain rfl := harg5.eq_unread hf3; obtain rfl := harg7.eq_unread hf5
  obtain rfl := (Memref.isWhole_whole cc0_scratch0).eq_unread hg0; obtain rfl := (Memref.isWhole_whole cc0_scratch1).eq_unread hg1
  sl_exec
  sl_step
  have l0 : View.readAt (Elt F) arg2.view (Rect.unit ![0, 0] S1024x1024.size inb_S1024x1024_S1024x1024_0_0).toLoadRect (harg2.unread x0) = x0 :=
    (View.readAt_full (s := S1024x1024) _ _ _).trans (harg2.read_unread _)
  have l3 : View.readAt (Elt F) arg5.view (Rect.unit ![0, 0] ![1024, 1664] inb_S1024x1664_S1024x1664_0_0).toLoadRect (harg5.unread x3) = x3 :=
    (View.readAt_full (s := S1024x1664) _ _ _).trans (harg5.read_unread _)
  have l1 : ∀ (o : Fin 2 → ℕ) (ho : ∀ a, o a + S1x1024.size a ≤ S16x1024.size a),
      View.readAt (Elt F) arg3.view (Rect.unit (s := S16x1024) o S1x1024.size ho).toLoadRect (harg3.unread x1) = row x1 o ho := by
    intro o ho; rw [View.readAt_eq_ld, harg3.read_unread]
  have l2 : ∀ (o : Fin 2 → ℕ) (ho : ∀ a, o a + S1x1024.size a ≤ S16x1024.size a),
      View.readAt (Elt F) arg4.view (Rect.unit (s := S16x1024) o S1x1024.size ho).toLoadRect (harg4.unread x2) = row x2 o ho := by
    intro o ho; rw [View.readAt_eq_ld, harg4.read_unread]
  have e1 : (if _ : fresh i = 1#1 then sc1.view.writes (Elt F) ((Memref.isWhole_whole cc0_scratch1).unread w)
        [⟨Rect.unit ![0, 0] ![1024, 1664] inb_S1024x1664_S1024x1664_0_0, k0_pay3 x3⟩] else (Memref.isWhole_whole cc0_scratch1).unread w)
      = (Memref.isWhole_whole cc0_scratch1).unread (if fresh i = 1#1 then k0_pay3 x3 else w) :=
    store_if (F := F) (Memref.isWhole_whole cc0_scratch1) inb_S1024x1664_S1024x1664_0_0 (k0_pay3 x3) w
  have lf : run.sl.v30 i = fresh i := rfl
  have e0 : (if hc : k0_cond1 i = 1#1 then
          sc0.view.writes (Elt F) ((Memref.isWhole_whole cc0_scratch0).unread h)
            [⟨Rect.unit (k0_off2 i) S1024x1024.size (k0_off2_inb i hc), k0_pay2 (row x2 (k0_off1 i) (k0_off1_inb i hc)) (row x1 (k0_off1 i) (k0_off1_inb i hc)) x0⟩]
        else (Memref.isWhole_whole cc0_scratch0).unread h)
      = (Memref.isWhole_whole cc0_scratch0).unread (hNext i x0 x1 x2 h) := by
    unfold hNext
    by_cases h1 : k0_cond1 i = 1#1
    · rw [dif_pos h1, dif_pos h1]
      refine (Memref.isWhole_whole cc0_scratch0).eq_unread ?_
      refine (View.read_writes_cons_put _ _ _ _ _ rfl).trans ?_
      rw [View.writes_nil, Memref.IsWhole.read_unread]
    · rw [dif_neg h1, dif_neg h1]
  have v32 : run.sl.v32 c i arg2 harg2 arg3 harg3 arg4 harg4 x0 x1 x2 h = tileOf i (hNext i x0 x1 x2 h) := by
    delta run.sl.v32
    simp only [l0, l1, l2, e0]
    rw [View.readAt_eq_ld]
    exact congrArg (fun z => View.ld (Val := Elt F) z (Rect.unit (s := S6144x1024) (k0_off3 i) S1024x1024.size (k0_off3_inb i)))
      (Memref.IsWhole.read_unread (Memref.isWhole_whole cc0_scratch0) _)
  have v33 : run.sl.v33 c i arg5 harg5 x3 w = (if fresh i = 1#1 then k0_pay3 x3 else w) := by
    delta run.sl.v33
    simp only [lf, l3, e1]
    exact (View.readAt_full (s := S1024x1664) _ _ _).trans (Memref.IsWhole.read_unread _ _)
  have vr : run.sl.r c i arg2 harg2 arg3 harg3 arg4 harg4 arg5 harg5 x0 x1 x2 x3 h w
      = k0_pay4 (tileOf i (hNext i x0 x1 x2 h)) (if fresh i = 1#1 then k0_pay3 x3 else w) := by
    delta run.sl.r
    rw [v32, v33]
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]
  · iexists _; isplitr
    swap; · iexact H4
    ipureintro
    delta run.sl.H4_1
    refine (View.read_writes_full (s := S1024x1664) _ _ _ _ _).trans ?_
    rw [vr]
  isplitl [H5]
  · iexists _; isplitr
    swap; · iexact H5
    ipureintro
    rw [vr]
    by_cases h3 : k0_cond3 i = 1#1
    · rw [dif_pos h3, if_pos h3]
      exact View.read_writes_full (s := S1024x128) _ _ _ _ _
    · rw [dif_neg h3, if_neg h3]
      exact harg7.read_unread _
  isplitl [S0]
  · iexists _; isplitr
    swap; · iexact S0
    ipureintro
    simp only [l0, l1, l2, e0]
    exact Memref.IsWhole.read_unread _ _
  iexists _; isplitr
  swap; · iexact S1
  ipureintro
  simp only [lf, l3, e1]
  exact Memref.IsWhole.read_unread _ _

end Cert.Proof.Inproj2
end
-- ==== Proof.Inproj2Frame.lean ====
module
public import proofs.«01_k».proof.Proof.Inproj2Run
public import Idealize.ShloMosaic.Lib.Quiescent

/-!
# The odd layer's in-projection: the whole run

The grid's points one after another. The six points of the first columns fill the buffer of modulated rows, a tile each; every
later point finds its tile there. The weights of a point's columns lie in their buffer from the first point of those columns on.
-/

@[expose] public section
noncomputable section
namespace Cert.Proof.Inproj2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Proof.Inproj (tile_congr tile_same tile_apart)

variable {F : FTy → Type} [FloatOps F]

/-! ## The points' conditions and offsets -/

theorem cond_first : ∀ t : Fin grid0.N, t.val < 6 → k0_cond1 (grid0.coords t) = 1#1 := by decide +kernel
theorem cond_later : ∀ t : Fin grid0.N, ¬t.val < 6 → ¬k0_cond1 (grid0.coords t) = 1#1 := by decide +kernel
theorem off2_eq : ∀ t : Fin grid0.N, t.val < 6 → k0_off2 (grid0.coords t) = k0_off3 (grid0.coords t) := by decide +kernel

/-- The point of the first columns that made a point's tile. -/
def src (t : Fin grid0.N) : Fin grid0.N := ⟨t.val % 6, lt_of_le_of_lt (Nat.mod_le _ _) t.isLt⟩
theorem src_lt (t : Fin grid0.N) : (src t).val < 6 := Nat.mod_lt _ (by decide)
theorem src_of_lt (t : Fin grid0.N) (h : t.val < 6) : src t = t := Fin.ext (Nat.mod_eq_of_lt h)
theorem src_lt_of (t : Fin grid0.N) (h : ¬t.val < 6) : (src t).val < t.val := lt_of_lt_of_le (src_lt t) (not_lt.mp h)
theorem off3_src : ∀ t : Fin grid0.N, k0_off3 (grid0.coords t) = k0_off3 (grid0.coords (src t)) := by decide +kernel

/-- The tiles of two points of the first columns lie apart. -/
theorem apart : ∀ t k : Fin grid0.N, k.val < t.val → t.val < 6 → k0_off3 (grid0.coords k) 0 + 1024 ≤ k0_off3 (grid0.coords t) 0 := by
  decide +kernel

section Steps
variable (x0 : Vec F S1024x1024 .f32) (x1 x2 : Vec F S16x1024 .f32) (h h' : Vec F S6144x1024 .bf16)

/-- A point of the first columns makes its tile, whatever the buffer held. -/
theorem made (t : Fin grid0.N) (ht : t.val < 6) :
    tileOf (grid0.coords t) (hNext (grid0.coords t) x0 x1 x2 h) = tileOf (grid0.coords t) (hNext (grid0.coords t) x0 x1 x2 h') := by
  unfold hNext
  rw [dif_pos (cond_first t ht), dif_pos (cond_first t ht)]
  exact (tile_same h _ (off2_eq t ht) _).trans (tile_same h' _ (off2_eq t ht) _).symm

/-- It leaves the tiles of the points before. -/
theorem left_apart (t k : Fin grid0.N) (hk : k.val < t.val) (ht : t.val < 6) :
    tileOf (grid0.coords k) (hNext (grid0.coords t) x0 x1 x2 h) = tileOf (grid0.coords k) h := by
  unfold hNext
  rw [dif_pos (cond_first t ht)]
  exact tile_apart h _ (by rw [off2_eq t ht]; exact apart t k hk ht) _

/-- A later point leaves the buffer as it is. -/
theorem left_later (t : Fin grid0.N) (ht : ¬t.val < 6) : hNext (grid0.coords t) x0 x1 x2 h = h := by
  unfold hNext
  rw [dif_neg (cond_later t ht)]

end Steps

/-! ## What the region finds -/

variable (m : (ℓ : Loc nD τ sig) → Buf (Elt F) ℓ) (ρ : Dev nD → PrngReg)

/-- A core's buffers when the region is entered: no operation of the host comes before. -/
abbrev V (c : Dev nD) (b : Ref sig .tc) : Buf (Elt F) ((c : Thread nD τ).loc b) := m ((c : Thread nD τ).loc b)

/-- The program up to the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun _ => rfl

/-- Window `w`'s block at point `t`, of its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The tile of modulated rows that a point of the first columns makes. -/
def hT (c : Dev nD) (t : Fin cfg0.N) : Vec F S1024x1024 .bf16 :=
  tileOf (grid0.coords t) (hNext (grid0.coords t) (iblk m c 0 t) (iblk m c 1 t) (iblk m c 2 t) (constant S6144x1024 .bf16 0x0000#16))

/-- The weights of a point's columns. -/
def wT (c : Dev nD) (t : Fin cfg0.N) : Vec F S1024x1664 .bf16 := k0_pay3 (iblk m c 3 t)

/-! ## The invariant -/

/-- The scratch buffers and the generator's register at some contents. -/
theorem PhiA_eq (c : Dev nD) : (Pipeline.ΦA spec0 c : sProp (Res F))
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- After `n` points the rows' buffer holds the tiles made so far, the weights' buffer the last point's weights. -/
def Inv (c : Dev nD) (n : ℕ) : sProp (Res F) :=
  iprop(∃ h w, ⌜(∀ k : Fin cfg0.N, k.val < 6 → k.val < n → tileOf (grid0.coords k) h = hT m c k)
      ∧ (∀ t : Fin cfg0.N, t.val + 1 = n → w = wT m c t)⌝
    ∗ owns (c : Thread nD τ) sc0 fullShare h ∗ owns (c : Thread nD τ) sc1 fullShare w ∗ (∃ r, prngReg c r))

/-- The point whose rows the tap's buffer holds at a point: the points 0 to 3 store them. -/
def tapped (t : Fin cfg0.N) : Fin cfg0.N := ⟨min t.val 3, lt_of_le_of_lt (Nat.min_le_left _ _) t.isLt⟩

/-- The proof data: inputs are left as found, the results' blocks as the body leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (hT m c (src t)) (wT m c t)
    | ⟨5, _⟩ => k0_pay1 (k0_pay4 (hT m c (src (tapped t))) (wT m c (tapped t)))
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = k0_pay4 (hT m c (src t)) (wT m c t) := rfl
theorem after5 (c : Dev nD) (t : Fin cfg0.N) :
    (dats m 0 c).after 5 t = k0_pay1 (k0_pay4 (hT m c (src (tapped t))) (wT m c (tapped t))) := rfl

/-- An input's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- A point that does not load its weights is not the first, and has the columns of the point before. -/
theorem not_fresh : ∀ t : Fin cfg0.N, ¬fresh (grid0.coords t) = 1#1 → t.val ≠ 0 ∧ ∀ t' : Fin cfg0.N, t'.val + 1 = t.val →
    (cfg0.win 3).index t = (cfg0.win 3).index t' := by decide +kernel

/-- What a point finds in the weights' buffer, or loads into it, is its own columns' weights. -/
theorem loaded (c : Dev nD) (t : Fin cfg0.N) (w : Vec F S1024x1664 .bf16) (h : ∀ t' : Fin cfg0.N, t'.val + 1 = t.val → w = wT m c t') :
    (if fresh (grid0.coords t) = 1#1 then k0_pay3 (iblk m c 3 t) else w) = wT m c t := by
  by_cases hf : fresh (grid0.coords t) = 1#1
  · rw [if_pos hf]; rfl
  · rw [if_neg hf]
    obtain ⟨h0, he⟩ := not_fresh t hf
    have hlt : t.val - 1 < cfg0.N := lt_of_le_of_lt (Nat.sub_le _ _) t.isLt
    have h1 : (⟨t.val - 1, hlt⟩ : Fin cfg0.N).val + 1 = t.val := Nat.succ_pred_eq_of_ne_zero h0
    rw [h _ h1]
    have f := (dats m 0 c).fetched_congr 3 (he _ h1) rfl (iblk m c 3 t)
    unfold Dat.fetched Dat.blockOf at f
    rw [A_eq] at f
    exact (congrArg k0_pay3 f).symm

/-- The buffer of rows after a point holds that point's tile and those before. -/
theorem rows_next (c : Dev nD) (t : Fin cfg0.N) (h : Vec F S6144x1024 .bf16)
    (hh : ∀ k : Fin cfg0.N, k.val < 6 → k.val < t.val → tileOf (grid0.coords k) h = hT m c k) (k : Fin cfg0.N) (hk : k.val < 6)
    (hkt : k.val < t.val + 1) :
    tileOf (grid0.coords k) (hNext (grid0.coords t) (iblk m c 0 t) (iblk m c 1 t) (iblk m c 2 t) h) = hT m c k := by
  by_cases ht : t.val < 6
  · rcases Nat.lt_succ_iff_lt_or_eq.mp hkt with hlt | heq
    · exact (left_apart _ _ _ h t k hlt ht).trans (hh k hk hlt)
    · obtain rfl : k = t := Fin.ext heq
      exact made _ _ _ h _ k ht
  · rw [left_later _ _ _ h t ht]
    exact hh k hk (lt_of_lt_of_le hk (not_lt.mp ht))

/-- What a point's matrix product reads. -/
theorem rows_read (c : Dev nD) (t : Fin cfg0.N) (h : Vec F S6144x1024 .bf16)
    (hh : ∀ k : Fin cfg0.N, k.val < 6 → k.val < t.val → tileOf (grid0.coords k) h = hT m c k) :
    tileOf (grid0.coords t) (hNext (grid0.coords t) (iblk m c 0 t) (iblk m c 1 t) (iblk m c 2 t) h) = hT m c (src t) :=
  (tile_congr _ (off3_src t) _ _).trans
    (rows_next m c t h hh (src t) (src_lt t) (Nat.lt_succ_of_le (Nat.mod_le _ _)))

/-! ## The tap's buffer -/

theorem tapped_live : ∀ t : Fin cfg0.N, k0_cond3 (grid0.coords t) = 1#1 → tapped t = t := by decide +kernel
theorem idle_iff : ∀ t : Fin cfg0.N, k0_cond3 (grid0.coords t) = 1#1 ↔ t.val < 4 := by decide +kernel
theorem live5 (t : Fin cfg0.N) (h : k0_cond3 (grid0.coords t) = 1#1) : cfg0.idle 5 (grid0.coords t) = false := by
  show (!(k0_cond3 (grid0.coords t) == 1#1)) = false
  rw [h]; rfl
theorem idle5 (t : Fin cfg0.N) (h : ¬k0_cond3 (grid0.coords t) = 1#1) : cfg0.idle 5 (grid0.coords t) = true := by
  show (!(k0_cond3 (grid0.coords t) == 1#1)) = true
  rw [beq_false_of_ne h]; rfl
theorem flush5 : ∀ t : Fin cfg0.N, ¬k0_cond3 (grid0.coords t) = 1#1 → t ≠ t0_11 → (cfg0.win 5).flush t = false := by decide +kernel
theorem kept5 : ∀ t : Fin cfg0.N, 3 ≤ t.val → t ≠ t0_11 → (cfg0.win 5).flush t = false := by decide +kernel
theorem fetch5 : ∀ t : Fin cfg0.N, (cfg0.win 5).fetch t = false := by decide +kernel

/-- After point 3 the tap's buffer holds what that point stored. -/
theorem before5 (c : Dev nD) (d) : ∀ (n : ℕ) (hn : 4 + n < cfg0.N), (dats m 0 c).before 5 ⟨4 + n, hn⟩ d = (dats m 0 c).after 5 ⟨4 + n, hn⟩
  | 0, hn => by
    rw [(dats m 0 c).before_of_pos 5 _ (Nat.succ_ne_zero 3) (fetch5 _) d]
    rw [if_neg (by rw [kept5 _ (Nat.le_refl 3) (fun e => absurd (congrArg Fin.val e) (by show ¬3 = 11; omega))]; decide)]
    unfold Dat.left
    rw [live5 _ ((idle_iff _).mpr (Nat.lt_succ_self 3))]
    rfl
  | n + 1, hn => by
    rw [(dats m 0 c).before_of_pos 5 _ (Nat.succ_ne_zero _) (fetch5 _) d]
    have hN : cfg0.N = 12 := N_0
    rw [if_neg (by
      rw [kept5 _ (by show 3 ≤ 4 + n; omega) (fun e => absurd (congrArg Fin.val e) (by show ¬4 + n = 11; omega))]; decide)]
    unfold Dat.left
    rw [idle5 _ (fun e => absurd ((idle_iff _).mp e) (by show ¬4 + n < 4; omega))]
    refine (before5 c d n (by omega)).trans ?_
    rw [after5, after5]
    have e : tapped ⟨4 + n, by omega⟩ = tapped ⟨4 + (n + 1), hn⟩ := Fin.ext (by unfold tapped; dsimp only; omega)
    rw [e]

/-- What a point leaves in the tap's buffer. -/
theorem tap5 (c : Dev nD) (t : Fin cfg0.N) (d) :
    owns (c : Thread nD τ) ((cfg0.win 5).stage (cfg0.slots t 5)) fullShare
        (if k0_cond3 (grid0.coords t) = 1#1 then k0_pay1 (k0_pay4 (hT m c (src t)) (wT m c t)) else (dats m 0 c).before 5 t d)
      ⊢ ((dats m 0 c).leavesExact 5 t : sProp (Res F)) := by
  by_cases h : k0_cond3 (grid0.coords t) = 1#1
  · rw [if_pos h]
    rw [show (dats m 0 c).leavesExact 5 t = owns (c : Thread nD τ) ((cfg0.win 5).stage (cfg0.slots t 5)) fullShare ((dats m 0 c).after 5 t) from by
      unfold Dat.leavesExact; rw [live5 t h]; try rfl, after5, tapped_live t h]
  · rw [if_neg h]
    by_cases ht : t = t0_11
    · subst ht
      rw [show (dats m 0 c).before 5 t0_11 d = (dats m 0 c).after 5 t0_11 from before5 m c d 7 t0_11.isLt]
      rw [show (dats m 0 c).leavesExact 5 t0_11 = owns (c : Thread nD τ) ((cfg0.win 5).stage (cfg0.slots t0_11 5)) fullShare ((dats m 0 c).after 5 t0_11) from by
        unfold Dat.leavesExact; rw [idle5 t0_11 h, show (cfg0.win 5).flush t0_11 = true from by decide +kernel]; try rfl]
    · rw [(dats m 0 c).leavesExact_idle 5 t (idle5 t h) (flush5 t h ht)]
      iintro H
      iexists d
      iexact H

/-! ## The body at a point -/

/-- Each window's staging buffer at a point. -/
abbrev ms0 (t : Fin cfg0.N) : Memref sig .tc .vmem S1024x1024 .f32 := (cfg0.win 0).stage (cfg0.slots t 0)
abbrev ms1 (t : Fin cfg0.N) : Memref sig .tc .vmem S16x1024 .f32 := (cfg0.win 1).stage (cfg0.slots t 1)
abbrev ms2 (t : Fin cfg0.N) : Memref sig .tc .vmem S16x1024 .f32 := (cfg0.win 2).stage (cfg0.slots t 2)
abbrev ms3 (t : Fin cfg0.N) : Memref sig .tc .vmem S1024x1664 .f32 := (cfg0.win 3).stage (cfg0.slots t 3)
abbrev ms4 (t : Fin cfg0.N) : Memref sig .tc .vmem S1024x1664 .f32 := (cfg0.win 4).stage (cfg0.slots t 4)
abbrev ms5 (t : Fin cfg0.N) : Memref sig .tc .vmem S1024x128 .f32 := (cfg0.win 5).stage (cfg0.slots t 5)

/-- The body at a point, on the buffers the pipeline calls it with. -/
abbrev bodyAt (t : Fin cfg0.N) : Prog (TpuEff nD τ sig (Elt F) Λ₀ .tc) PUnit :=
  cc0_inproj (grid0.coords t)
    (ms0 t) (hstage0_0 ((cfg0.slots t 0).cast nbuf0_0))
    (ms1 t) (hstage0_1 ((cfg0.slots t 1).cast nbuf0_1))
    (ms2 t) (hstage0_2 ((cfg0.slots t 2).cast nbuf0_2))
    (ms3 t) (hstage0_3 ((cfg0.slots t 3).cast nbuf0_3))
    (ms4 t) (hstage0_4 ((cfg0.slots t 4).cast nbuf0_4))
    (ms5 t) (hstage0_5 ((cfg0.slots t 5).cast nbuf0_5))
    sc0 (Memref.isWhole_whole _) sc1 (Memref.isWhole_whole _)

/-- What the body is called with, -/
def bodyPre (c : Dev nD) (t : Fin cfg0.N) : sProp (Res F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

set_option maxHeartbeats 2000000 in
/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0, before1, before2, before3]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [show (dats m 0 c).leavesExact 0 t = owns (c : Thread nD τ) (ms0 t) fullShare (iblk m c 0 t) from rfl]
  rw [show (dats m 0 c).leavesExact 1 t = owns (c : Thread nD τ) (ms1 t) fullShare (iblk m c 1 t) from rfl]
  rw [show (dats m 0 c).leavesExact 2 t = owns (c : Thread nD τ) (ms2 t) fullShare (iblk m c 2 t) from rfl]
  rw [show (dats m 0 c).leavesExact 3 t = owns (c : Thread nD τ) (ms3 t) fullShare (iblk m c 3 t) from rfl]
  rw [show (dats m 0 c).leavesExact 4 t = owns (c : Thread nD τ) (ms4 t) fullShare ((dats m 0 c).after 4 t) from rfl, after4]
  unfold Inv
  iintro ⟨⟨%h, %w, %hw, S0, S1, Hg⟩, Ho, ⟨%d0, H0⟩, ⟨%d1, H1⟩, ⟨%d2, H2⟩, ⟨%d3, H3⟩, ⟨%d4, H4⟩, ⟨%d5, H5⟩⟩
  obtain ⟨hh, hw⟩ := hw
  iapply (run c (grid0.coords t) _ _ _ _ _ _ _ _ _ _ _ _ (iblk m c 0 t) (iblk m c 1 t)
    (iblk m c 2 t) (iblk m c 3 t) ((dats m 0 c).before 5 t d5) h w Set.univ _)
  rw [loaded m c t w hw, rows_read m c t h hh]
  isplitl [H0]; · iexact H0
  isplitl [H1]; · iexact H1
  isplitl [H2]; · iexact H2
  isplitl [H3]; · iexact H3
  isplitl [H4]; · iexists _; iexact H4
  isplitl [H5]; · iexact H5
  isplitl [S0]; · iexact S0
  isplitl [S1]; · iexact S1
  iintro ⟨H0, H1, H2, H3, H4, H5, S0, S1⟩
  isplitl [S0 S1 Hg]
  · iexists _, _
    isplitr
    swap
    · isplitl [S0]; · iexact S0
      isplitl [S1]; · iexact S1
      iexact Hg
    ipureintro
    refine ⟨fun k hk hkt => rows_next m c t h hh k hk hkt, fun t' ht => ?_⟩
    obtain rfl : t' = t := Fin.ext (by omega)
    rfl
  isplitl [Ho]; · iexact Ho
  isplitl [H0]; · iexact H0
  isplitl [H1]; · iexact H1
  isplitl [H2]; · iexact H2
  isplitl [H3]; · iexact H3
  isplitl [H4]; · iexact H4
  iapply (tap5 m c t d5); iexact H5

/-- The body's row of the table, at the point's buffers. -/
theorem defs₀_row (t : Fin cfg0.N) :
    defs₀ (F := F) .tc cfg0.body (cfg0.bodyArgs t (cfg0.slots t)) = bodyAt t := by
  unfold defs₀; rw [Defs.onTc_tc]

set_option maxHeartbeats 2000000 in
/-- The body's obligation, at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = Inv m c 0 from rfl, PhiA_eq]
  unfold Inv
  iintro ⟨⟨⟨%e0, S0⟩, ⟨%e1, S1⟩⟩, Hg⟩
  iexists e0, e1
  isplitr
  · ipureintro
    exact ⟨fun k _ hk => absurd hk (Nat.not_lt_zero _), fun t ht => absurd ht (Nat.succ_ne_zero _)⟩
  isplitl [S0]; · iexact S0
  isplitl [S1]; · iexact S1
  iexact Hg

theorem hout (c : Dev nD) : (dats m 0 c).Φ (Fin.last cfg0.N) ⊢ Pipeline.ΦA spec0 c := by
  rw [show (dats m 0 c).Φ (Fin.last cfg0.N) = Inv m c cfg0.N from rfl, PhiA_eq]
  unfold Inv
  iintro ⟨%h, %w, %hw, S0, S1, Hg⟩
  isplitr [Hg]
  · isplitl [S0]; · iexists _; iexact S0
    iexists _; iexact S1
  iexact Hg

set_option backward.isDefEq.respectTransparency.types false in
/-- The run: every array of the pipeline ends at what the blocks make of it, every other buffer as the region found it,
    and every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := hin m) (hout := hout m)

/-- The results' arrays, after the run. -/
def resU (c : Dev nD) : Buf (Elt F) ((c : Thread nD τ).loc main_v0_0) := (dats m 0 c).arrAt 4 cfg0.N
def resV (c : Dev nD) : Buf (Elt F) ((c : Thread nD τ).loc main_v0_1) := (dats m 0 c).arrAt 5 cfg0.N

/-- The results and the unchanged arguments. -/
theorem final : θ_run defs (onTc (τ := τ) (main (F := F))) ⟨m, fun _ => 0, ρ⟩ (fun r => (∀ c : Dev nD,
      r.2.mem ((c.tc : Thread nD τ).loc main_v0_0) = resU m c
      ∧ r.2.mem ((c.tc : Thread nD τ).loc main_v0_1) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r (h : _ ∧ _) => ⟨fun c => ⟨(h.1 c).1 4, (h.1 c).1 5,
      ((h.1 c).1 0).trans ((dats m 0 c).arrAt_in 0 rfl _),
      ((h.1 c).1 1).trans ((dats m 0 c).arrAt_in 1 rfl _),
      ((h.1 c).1 3).trans ((dats m 0 c).arrAt_in 3 rfl _)⟩, h.2⟩)
    (run_main m ρ)

end Cert.Proof.Inproj2
end
-- ==== Proof.Inproj2Ref.lean ====
module

public import proofs.«01_k».proof.Proof.Gen.Reference5Ideal
public import proofs.«01_k».proof.Proof.Gen.Reference5Ideal.Read
public import proofs.«01_k».proof.Proof.InprojRef

/-! The odd layer's in-projection: the reference's results, for the prompt's rows and for the samples' rows. -/

@[expose] public section

set_option maxRecDepth 16384

noncomputable section

namespace Cert.Proof.Inproj2Ref

open Cert.Reference5Ideal Cert.Reference5Ideal.Gen Cert.Reference5Ideal.Read Idealize.ShloMosaic Idealize.ShloMosaic.TcCoe
open Idealize.ShloMosaic.Tactic Idealize.SL.Sem
open Cert.Proof.Layer
open Cert.Proof.FfnBlock (tab)
open Cert.Proof.FfnArrays (grp sec)
open Cert.Proof.FfnRef (tokP tokS modS)
open Cert.Proof.InprojRef (grp_P grp_S)

variable (x0 : Vec Ideal S6144x1024 .f32) (x1 : Vec Ideal S16x6144 .f32) (x2 : Vec Ideal S1024x3328 .f32)

/-- Column `n` of a token's projection. -/
def proj (i : Fin 6144) (n : Fin 3328) : EReal := dot (hid (tab x0 i) (sec x1 1 (grp i)) (sec x1 0 (grp i))) (tab x2) n
/-- The projection of every row. -/
def G : Vec Ideal S6144x3328 .f32 := fun j => proj x0 x1 x2 (j 0) (j 1)
/-- The prompt's values. -/
def GV : Vec Ideal S4096x128 .f32 := fun j => proj x0 x1 x2 ⟨(j 0).val, lt_trans (j 0).isLt (by decide)⟩ ⟨640 + (j 1).val, by have : (j 1).val < 128 := (j 1).isLt; omega⟩

theorem hP (b : Fin 16) (n : Fin 256) (d : Fin 1024) : val_main_v17 x0 x1 (ix3 b n d)
    = hid (tab x0 (tokP b n)) (sec x1 1 (grp (tokP b n))) (sec x1 0 (grp (tokP b n))) d := by
  unfold hid sec tab tokP
  rw [show grp ⟨b.val * 256 + n.val, by omega⟩ = 0 from grp_P b n]
  pointwise [val_main_v17, val_main_v16, val_main_v15, val_main_v14, val_main_v13, val_main_v12, val_main_v11, val_main_v10, val_main_cst, val_main_v5, val_main_v4, val_main_v3, val_main_v2, val_main_v1, val_main_v0]
theorem hS (b : Fin 2) (n : Fin 1024) (d : Fin 1024) : val_main_v34 x0 x1 (ix3 b n d)
    = hid (tab x0 (tokS b n)) (sec x1 1 (grp (tokS b n))) (sec x1 0 (grp (tokS b n))) d := by
  rw [grp_S]
  unfold hid sec tab tokS
  pointwise [val_main_v34, val_main_v33, val_main_v32, val_main_v31, val_main_v30, val_main_v29, val_main_cst_0, val_main_v24, val_main_v23, val_main_v22, val_main_v21, val_main_v20, val_main_v19]
  rfl
theorem uP (b : Fin 16) (n : Fin 256) (f : Fin 3328) : val_main_v18 x0 x1 x2 (ix3 b n f) = proj x0 x1 x2 (tokP b n) f := by
  unfold proj dot
  pointwise [val_main_v18]
  exact Finset.sum_congr rfl fun d _ => by rw [hP x0 x1]
theorem uS (b : Fin 2) (n : Fin 1024) (f : Fin 3328) : val_main_v35 x0 x1 x2 (ix3 b n f) = proj x0 x1 x2 (tokS b n) f := by
  unfold proj dot
  pointwise [val_main_v35]
  exact Finset.sum_congr rfl fun d _ => by rw [hS x0 x1]

/-- The reference's first result is the projection of every row, -/
theorem result : val_main_v46 x0 x1 x2 = G x0 x1 x2 := by
  funext j
  obtain ⟨i, e, rfl⟩ : ∃ (i : Fin 6144) (e : Fin 3328), j = ix2 i e := ⟨j 0, j 1, eq_ix2 j⟩
  by_cases h : i.val < 4096
  · have e1 : val_main_v46 x0 x1 x2 (ix2 i e)
        = val_main_v18 x0 x1 x2 (ix3 ⟨i.val / 256, by omega⟩ ⟨i.val % 256, by omega⟩ e) := by
      pointwise [val_main_v46, val_main_v45, val_main_v44]
      rw [dif_pos h]
    rw [e1, uP x0]
    have e2 : tokP ⟨i.val / 256, by omega⟩ ⟨i.val % 256, by omega⟩ = i := Fin.ext (by unfold tokP; dsimp only; omega)
    rw [e2]
    rfl
  · have e1 : val_main_v46 x0 x1 x2 (ix2 i e)
        = val_main_v35 x0 x1 x2 (ix3 ⟨(i.val - 4096) / 1024, by omega⟩ ⟨(i.val - 4096) % 1024, by omega⟩ e) := by
      pointwise [val_main_v46, val_main_v45, val_main_v44]
      rw [dif_neg h]
    rw [e1, uS x0]
    have e2 : tokS ⟨(i.val - 4096) / 1024, by omega⟩ ⟨(i.val - 4096) % 1024, by omega⟩ = i :=
      Fin.ext (by unfold tokS; dsimp only; omega)
    rw [e2]
    rfl
/-- and the second the prompt's values. -/
theorem values : val_main_v47 x0 x1 x2 = GV x0 x1 x2 := by
  funext j
  obtain ⟨i, e, rfl⟩ : ∃ (i : Fin 4096) (e : Fin 128), j = ix2 i e := ⟨j 0, j 1, eq_ix2 j⟩
  have e1 : val_main_v47 x0 x1 x2 (ix2 i e)
      = val_main_v18 x0 x1 x2 (ix3 ⟨i.val / 256, by omega⟩ ⟨i.val % 256, by omega⟩ ⟨640 + e.val, by omega⟩) := by
    pointwise [val_main_v47, val_main_v38]
  rw [e1, uP x0]
  have e2 : tokP ⟨i.val / 256, by omega⟩ ⟨i.val % 256, by omega⟩ = ⟨i.val, by omega⟩ := Fin.ext (by unfold tokP; dsimp only; omega)
  rw [e2]
  rfl

end Cert.Proof.Inproj2Ref
end

end
-- ==== Proof.Inproj2Arrays.lean ====
module

public import proofs.«01_k».proof.Proof.Inproj2Frame
public import proofs.«01_k».proof.Proof.Inproj2Ref
public import proofs.«01_k».proof.Proof.InprojArrays

/-! The odd layer's in-projection: the result arrays at the ideal values, row by row. -/

@[expose] public section

set_option maxRecDepth 16384

noncomputable section

namespace Cert.Proof.Inproj2Arrays

open Cert.Kernel5Ideal Cert.Kernel5Ideal.Gen Idealize.ShloMosaic Idealize.ShloMosaic.TcCoe Idealize.ShloMosaic.Tactic Idealize.SL.Sem
open Idealize.ShloMosaic.Pointwise
open Idealize.ShloMosaic.Pipeline (Dat)
open Cert.Proof.Layer Cert.Proof.Inproj2
open Cert.Proof.FfnBlock (tab)
open Cert.Proof.FfnArrays (grp sec)
open Cert.Proof.Inproj2Ref (proj G GV)
open Cert.Proof.Inproj (tile_same)
open Cert.Proof.InprojArrays (row_at)

/-! ## The payloads -/

theorem pay2 (x : Vec Ideal S1024x1024 .f32) (y z : Vec Ideal S1x1024 .f32) (i n : Fin 1024) :
    k0_pay2 y z x (ix2 i n) = hid (tab x i) (tab y 0) (tab z 0) n := by
  pointwise [k0_pay2]
  rfl
theorem pay4 (h : Vec Ideal S1024x1024 .bf16) (w : Vec Ideal S1024x1664 .bf16) (i : Fin 1024) (n : Fin 1664) :
    k0_pay4 h w (ix2 i n) = dot (tab h i) (tab w) n := by
  pointwise [k0_pay4]
  rfl
theorem pay1 (u : Vec Ideal S1024x1664 .f32) (i : Fin 1024) (n : Fin 128) :
    k0_pay1 (F := Ideal) u (ix2 i n) = u (ix2 i ⟨640 + n.val, by omega⟩) := by
  pointwise [k0_pay1]

/-! ## The blocks -/

variable (m : (ℓ : Loc nD τ sig) → Buf (Elt Ideal) ℓ)

/-- The argument arrays. -/
abbrev X0 (c : Dev nD) : Vec Ideal S6144x1024 .f32 := m ((c : Thread nD τ).loc main_arg0)
abbrev X1 (c : Dev nD) : Vec Ideal S16x6144 .f32 := m ((c : Thread nD τ).loc main_arg1)
abbrev X2 (c : Dev nD) : Vec Ideal S1024x3328 .f32 := m ((c : Thread nD τ).loc main_arg2)

theorem e0 : ∀ t : Fin cfg0.N, t.val < 6 → win0_0.index t = ![t.val, 0] :=
  (by decide +kernel : ∀ t : Fin grid0.N, t.val < 6 → win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![0, 1] := (by decide +kernel : ∀ t : Fin grid0.N, win0_2.index t = ![0, 1])
theorem e3 : ∀ t : Fin cfg0.N, win0_3.index t = ![0, t.val / 6] := (by decide +kernel : ∀ t : Fin grid0.N, win0_3.index t = ![0, t.val / 6])
theorem e4 : ∀ t : Fin cfg0.N, win0_4.index t = ![t.val % 6, t.val / 6] :=
  (by decide +kernel : ∀ t : Fin grid0.N, win0_4.index t = ![t.val % 6, t.val / 6])
theorem e5 : ∀ t : Fin cfg0.N, win0_5.index t = ![(tapped t).val % 6, 0] :=
  (by decide +kernel : ∀ t : Fin grid0.N, win0_5.index t = ![(tapped t).val % 6, 0])

theorem hN (t : Fin cfg0.N) : t.val < 12 := t.isLt

/-- The token of a tile's row. -/
def tok (t : Fin cfg0.N) (r : Fin 1024) : Fin 6144 := ⟨t.val % 6 * 1024 + r.val, by omega⟩
/-- The column of a block's column. -/
def pcol (t : Fin cfg0.N) (n : Fin 1664) : Fin 3328 := ⟨t.val / 6 * 1664 + n.val, by have := hN t; omega⟩

theorem tok_src (t : Fin cfg0.N) (r : Fin 1024) : tok (src t) r = tok t r := Fin.ext (by unfold tok src; dsimp only; omega)

theorem blk0 (c : Dev nD) (t : Fin cfg0.N) (ht : t.val < 6) (r d : Fin 1024) :
    (iblk m c 0 t : Vec Ideal S1024x1024 .f32) (ix2 r d) = tab (X0 m c) (tok t r) d := by
  unfold iblk tab
  show X0 m c ((win0_0.blk t).view.emb (ix2 r d)) = _
  refine congrArg (X0 m c) ?_
  have e : tok t r = ⟨t.val * 1024 + r.val, by omega⟩ := Fin.ext (by unfold tok; dsimp only; omega)
  rw [e]
  blk_ext [e0 t ht]
theorem blk1 (c : Dev nD) (t : Fin cfg0.N) (r : Fin 16) (d : Fin 1024) :
    (iblk m c 1 t : Vec Ideal S16x1024 .f32) (ix2 r d) = sec (X1 m c) 0 r d := by
  unfold sec iblk
  show X1 m c ((win0_1.blk t).view.emb (ix2 r d)) = _
  refine congrArg (X1 m c) ?_
  blk_ext [e1 t]
theorem blk2 (c : Dev nD) (t : Fin cfg0.N) (r : Fin 16) (d : Fin 1024) :
    (iblk m c 2 t : Vec Ideal S16x1024 .f32) (ix2 r d) = sec (X1 m c) 1 r d := by
  unfold sec iblk
  show X1 m c ((win0_2.blk t).view.emb (ix2 r d)) = _
  refine congrArg (X1 m c) ?_
  blk_ext [e2 t]
theorem blk3 (c : Dev nD) (t : Fin cfg0.N) (d : Fin 1024) (n : Fin 1664) :
    (iblk m c 3 t : Vec Ideal S1024x1664 .f32) (ix2 d n) = X2 m c (ix2 d (pcol t n)) := by
  unfold iblk
  show X2 m c ((win0_3.blk t).view.emb (ix2 d n)) = _
  refine congrArg (X2 m c) ?_
  unfold pcol
  blk_ext [e3 t]

theorem w_at (c : Dev nD) (t : Fin cfg0.N) (d : Fin 1024) (n : Fin 1664) : wT m c t (ix2 d n) = X2 m c (ix2 d (pcol t n)) := by
  refine Eq.trans ?_ (blk3 m c t d n)
  unfold wT
  pointwise [k0_pay3]

/-! ## The tiles of modulated rows -/

theorem off1 : ∀ t : Fin cfg0.N, t.val < 6 → k0_off1 (grid0.coords t) = ![t.val - 3, 0] :=
  (by decide +kernel : ∀ t : Fin grid0.N, t.val < 6 → k0_off1 (grid0.coords t) = ![t.val - 3, 0])

/-- A tile holds the modulated rows of its tokens. -/
theorem h_at (c : Dev nD) (t : Fin cfg0.N) (ht : t.val < 6) (r d : Fin 1024) : hT m c t (ix2 r d)
    = hid (tab (X0 m c) (tok t r)) (sec (X1 m c) 1 (grp (tok t r))) (sec (X1 m c) 0 (grp (tok t r))) d := by
  unfold hT hNext
  rw [dif_pos (cond_first t ht)]
  refine (congrFun (tile_same (F := Ideal) _ _ (off2_eq t ht) _) (ix2 r d)).trans ?_
  refine (pay2 _ _ _ r d).trans ?_
  have eg : k0_off1 (grid0.coords t) = ![(grp (tok t r)).val, 0] := by
    rw [off1 t ht, show (grp (tok t r)).val = t.val - 3 by unfold grp tok; dsimp only; omega]
  have ex : tab (iblk m c 0 t : Vec Ideal S1024x1024 .f32) r d = tab (X0 m c) (tok t r) d := blk0 m c t ht r d
  unfold hid
  rw [ex]
  unfold tab
  rw [row_at _ _ _ _ eg, row_at _ _ _ _ eg, blk1, blk2]

/-- A row of a tile times a column of a block of weights is the projection. -/
theorem dot_at (c : Dev nD) (t : Fin cfg0.N) (r : Fin 1024) (n : Fin 1664) :
    dot (tab (hT m c (src t)) r) (tab (wT m c t)) n = proj (X0 m c) (X1 m c) (X2 m c) (tok t r) (pcol t n) := by
  unfold proj
  rw [← tok_src t r]
  refine Finset.sum_congr rfl fun d _ => ?_
  show hT m c (src t) (ix2 r d) * wT m c t (ix2 d n) = _
  rw [h_at m c (src t) (src_lt t), w_at]

/-! ## The result arrays -/

theorem finalU (c : Dev nD) : resU m c = G (X0 m c) (X1 m c) (X2 m c) := by
  unfold resU
  refine (dats m 0 c).arrAt_eq_of_covers 4 (G (X0 m c) (X1 m c) (X2 m c)) (by decide +kernel) fun t hf y => ?_
  blk_simp
  rw [after4]
  obtain ⟨r, n, rfl⟩ : ∃ (r : Fin 1024) (n : Fin 1664), y = ix2 r n := ⟨y 0, y 1, eq_ix2 y⟩
  have e' : ((win0_4.blk t).view.emb (ix2 r n)) = (ix2 (tok t r) (pcol t n) : S6144x3328.Idx) := by unfold tok pcol; blk_ext [e4 t]
  rw [e']
  exact (pay4 _ _ r n).trans (dot_at m c t r n)

/-- The points that store the tap have the first half of the columns. -/
theorem tapped_val (t : Fin cfg0.N) : (tapped t).val / 6 = 0 ∧ (tapped t).val % 6 < 4 := by
  unfold tapped; dsimp only; omega

theorem finalV (c : Dev nD) : resV m c = GV (X0 m c) (X1 m c) (X2 m c) := by
  unfold resV
  refine (dats m 0 c).arrAt_eq_of_covers 5 (GV (X0 m c) (X1 m c) (X2 m c)) (by decide +kernel) fun t hf y => ?_
  blk_simp
  rw [after5]
  obtain ⟨r, n, rfl⟩ : ∃ (r : Fin 1024) (n : Fin 128), y = ix2 r n := ⟨y 0, y 1, eq_ix2 y⟩
  obtain ⟨h1, h2⟩ := tapped_val t
  have e' : ((win0_5.blk t).view.emb (ix2 r n)) = (ix2 ⟨(tapped t).val % 6 * 1024 + r.val, by omega⟩ n : S4096x128.Idx) := by blk_ext [e5 t]
  rw [e']
  refine (pay1 _ r n).trans ((pay4 _ _ r _).trans ((dot_at m c (tapped t) r _).trans ?_))
  unfold GV
  congr 1
  exact Fin.ext (by unfold pcol; dsimp only; rw [h1]; show _ = 640 + n.val; omega)

end Cert.Proof.Inproj2Arrays
end

end
-- ==== Proof.Inproj2.lean ====
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Inproj2Arrays

/-! The five claims about the odd layer's in-projection. -/

@[expose] public section

set_option maxRecDepth 16384

noncomputable section

namespace Cert.Proof.Inproj2

open Cert.Kernel5Ideal Cert.Kernel5Ideal.Gen Idealize.ShloMosaic Idealize.ShloMosaic.TcCoe Idealize.SL.Sem
open Cert.Proof.Inproj2Ref (G GV)
open Cert.Proof.Inproj2Arrays (X0 X1 X2)

section
variable {F : FTy → Type} [FloatOps F]

/-! The kernel and its idealization have the same text: the same bodies, the same pipeline, the same host operations. -/

theorem bodies_eq : Cert.Kernel5.defs₀ (F := F) = Cert.Kernel5Ideal.defs₀ (F := F) := by
  refine congrArg (Defs.onTc (nD := Cert.Kernel5.nD) (τ := Cert.Kernel5.τ) (sig := Cert.Kernel5.sig) (Λ := Cert.Kernel5.Λ₀))
    (funext fun l => funext fun x => ?_)
  match l, x with
  | 0, (t, s) => rfl
theorem defs_eq : Cert.Kernel5.defs (F := F) = Cert.Kernel5Ideal.defs (F := F) :=
  congrArg (Pipeline.defs (Cert.Kernel5.pcfgs (F := F))) bodies_eq
theorem main_eq : Cert.Kernel5.main (F := F) = Cert.Kernel5Ideal.main (F := F) := rfl
end

/-- The kernel runs, ends with its arguments unchanged and every semaphore at zero: the one run, at the machine's floats. -/
theorem frame : Cert.quiescent_Kernel5 := fun m ρ _ =>
  Eq.mpr (congrArg₂ (fun d k => θ_run d (onTc (τ := Cert.Kernel5.τ) k) _ _) (defs_eq (F := Bits)) (main_eq (F := Bits)))
    ((θ_run (Cert.Kernel5Ideal.defs (F := Bits)) _ _).mono (fun _ h => ⟨fun c => (h.1 c).2.2, h.2⟩)
      (final (F := Bits) m ρ))

/-- So does its idealization. -/
theorem frameIdeal : Cert.quiescent_Kernel5Ideal := fun m ρ _ =>
  (θ_run Cert.Kernel5Ideal.defs _ _).mono (fun _ h => ⟨fun c => (h.1 c).2.2, h.2⟩) (final (F := Ideal) m ρ)

/-- So does the reference. -/
theorem frameReference : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- The idealization rewrites nothing. -/
theorem preserves : Cert.preserves_Kernel5_Kernel5Ideal := trivial

/-- Both programs end with the projection of every row and the prompt's values. -/
theorem algebraic : Cert.algebraic_Kernel5Ideal_Reference5Ideal := by
  intro m ρ m' ρ' _ hagree
  refine ⟨fun c => G (X0 m c) (X1 m c) (X2 m c), fun c => GV (X0 m c) (X1 m c) (X2 m c), ?_, ?_⟩
  · exact (θ_run Cert.Kernel5Ideal.defs _ _).mono
      (fun _ h c => ⟨(h.1 c).1.trans (Inproj2Arrays.finalU m c), (h.1 c).2.1.trans (Inproj2Arrays.finalV m c), (h.1 c).2.2⟩)
      (final (F := Ideal) m ρ)
  · refine (θ_run Cert.Reference5Ideal.defs _ _).mono (fun _ h c => ⟨?_, ?_, (h c).2.2⟩)
      (Cert.Reference5Ideal.Value.run (F := Ideal) m' ρ')
    all_goals obtain ⟨a0, a1, a2⟩ := hagree c
    · refine (h c).1.trans ((Cert.Reference5Ideal.Read.val_main_v46_eq (F := Ideal) _ _ _).trans ?_)
      rw [a0, a1, a2]
      exact Inproj2Ref.result _ _ _
    · refine (h c).2.1.trans ((Cert.Reference5Ideal.Read.val_main_v47_eq (F := Ideal) _ _ _).trans ?_)
      rw [a0, a1, a2]
      exact Inproj2Ref.values _ _ _

end Cert.Proof.Inproj2
end

end
-- ==== Proof.OutprojBlock.lean ====
module

public import proofs.«01_k».proof.Proof.Gen.Kernel6Ideal.Frame
public import proofs.«01_k».proof.Proof.FfnArrays

/-! The out-projection call's blocks: what a grid point leaves in the copy of the weights and in the result. -/

@[expose] public section

set_option maxRecDepth 16384

noncomputable section

namespace Cert.Proof.OutprojBlock

open Cert.Kernel6Ideal Cert.Kernel6Ideal.Gen Idealize.ShloMosaic Idealize.ShloMosaic.TcCoe Idealize.ShloMosaic.Tactic Idealize.SL.Sem
open Idealize.ShloMosaic.Pointwise
open Idealize.ShloMosaic.Pipeline (Dat)
open Cert.Proof.Layer
open Cert.Proof.FfnBlock (tab)

/-- Two rows of 512 side by side. -/
def cat2 (a b : Fin 512 → EReal) (k : Fin 1024) : EReal := if h : k.val < 512 then a ⟨k.val, h⟩ else b ⟨k.val - 512, by omega⟩

/-- One row of the out-projection: the two halves times the weights, gated, added to the residual and normalised. -/
def outp (ya yb : Fin 512 → EReal) (W : Fin 1024 → Fin 1024 → EReal) (x gt g b : Fin 1024 → EReal) : Fin 1024 → EReal :=
  norm (res x gt (dot (cat2 ya yb) W)) g b

/-- The product of two rows side by side is the sum of the products with the two halves of the weights. -/
theorem dot_cat2 (a b : Fin 512 → EReal) (W : Fin 1024 → Fin 1024 → EReal) (n : Fin 1024) :
    dot (cat2 a b) W n = dot a (fun k => W ⟨k.val, by omega⟩) n + dot b (fun k => W ⟨512 + k.val, by omega⟩) n := by
  unfold dot
  refine (Fin.sum_univ_add (a := 512) (b := 512) fun k : Fin (512 + 512) => cat2 a b k * W k n).trans ?_
  refine congrArg₂ (· + ·) (Finset.sum_congr rfl fun k _ => ?_) (Finset.sum_congr rfl fun k _ => ?_)
  · unfold cat2
    rw [dif_pos (by simp only [Fin.val_castAdd]; omega)]
    rfl
  · unfold cat2
    rw [dif_neg (by simp only [Fin.val_natAdd]; omega)]
    have e : (⟨(Fin.natAdd 512 k).val - 512, by simp only [Fin.val_natAdd]; omega⟩ : Fin 512) = k :=
      Fin.ext (by simp only [Fin.val_natAdd]; omega)
    rw [e]
    rfl

/-- The gated product of a block. -/
theorem pay3 (x : Vec Ideal S1024x512 .bf16) (y : Vec Ideal S512x1024 .bf16) (x' : Vec Ideal S1024x512 .bf16) (y' : Vec Ideal S512x1024 .bf16)
    (gt : Vec Ideal S1x1024 .f32) (i n : Fin 1024) :
    k0_pay3 x y x' y' gt (ix2 i n) = tab gt 0 n * (dot (tab x i) (tab y) n + dot (tab x' i) (tab y') n) := by
  pointwise [k0_pay3]
  rfl
/-- The normalised rows. -/
theorem pay1 (u x : Vec Ideal S1024x1024 .f32) (g b : Vec Ideal S1x1024 .f32) (i n : Fin 1024) :
    k0_pay1 u x g b (ix2 i n) = norm (fun k => Spec.w 0x3FB504F3#32 * tab x i k + tab u i k) (tab g 0) (tab b 0) n := by
  pointwise [k0_pay1]
  rfl
/-- The copy of the weights. -/
theorem pay2 (x : Vec Ideal S1024x1024 .f32) (i n : Fin 1024) : k0_pay2 x (ix2 i n) = x (ix2 i n) := by
  pointwise [k0_pay2]

variable (m : (ℓ : Loc nD τ sig) → Buf (Elt Ideal) ℓ)

theorem off1_inb : ∀ (t : Fin cfg0.N) (a : Fin 2), k0_off1 (grid0.coords t) a + S1x1024.size a ≤ S16x1024.size a :=
  (by decide +kernel : ∀ (t : Fin grid0.N) (a : Fin 2), k0_off1 (grid0.coords t) a + S1x1024.size a ≤ S16x1024.size a)
/-- The row of a modulation block that a point reads. -/
abbrev row (x : Vec Ideal S16x1024 .f32) (t : Fin cfg0.N) : Vec Ideal S1x1024 .f32 :=
  View.ld x (Rect.unit (s := S16x1024) (k0_off1 (grid0.coords t)) S1x1024.size (off1_inb t))
/-- The upper half of the weights. -/
abbrev upper (x : Vec Ideal S1024x1024 .bf16) : Vec Ideal S512x1024 .bf16 :=
  View.ld x (Rect.unit (s := S1024x1024) ![0, 0] S512x1024.size inb_S1024x1024_S512x1024_0_0)
/-- The lower half of the weights. -/
abbrev lower (x : Vec Ideal S1024x1024 .bf16) : Vec Ideal S512x1024 .bf16 :=
  View.ld x (Rect.unit (s := S1024x1024) ![512, 0] S512x1024.size inb_S1024x1024_S512x1024_512_0)
theorem upper_at (x : Vec Ideal S1024x1024 .bf16) (k : Fin 512) (n : Fin 1024) : upper x (ix2 k n) = x (ix2 ⟨k.val, by omega⟩ n) := by
  pointwise [upper]
theorem lower_at (x : Vec Ideal S1024x1024 .bf16) (k : Fin 512) (n : Fin 1024) : lower x (ix2 k n) = x (ix2 ⟨512 + k.val, by omega⟩ n) := by
  pointwise [lower]

theorem wA (c : Dev nD) (t : Fin cfg0.N) (h0 : t.val % 6 = 0) : (outsAt0 m c t.val t.isLt).2 = k0_pay2 (iblk m c 2 t) := by
  rw [outsAt0_A m c t h0]
  dsimp only
  frame_out

theorem wB (c : Dev nD) (t : Fin cfg0.N) (h0 : ¬ t.val % 6 = 0) :
    (outsAt0 m c t.val t.isLt).2 = (outsAt0 m c (t.val - 1) (Nat.lt_of_le_of_lt (Nat.sub_le _ _) t.isLt)).2 := by
  rw [outsAt0_B m c t h0]; dsimp only [sout0_B_0]

/-- A load from the scratch after a store of all of it. -/
theorem fill (w : Vec Ideal S1024x1024 .bf16) (r : Rect S1024x1024) :
    (View.whole cc0_scratch0).readCov [(⟨Rect.unit ![0, 0] S1024x1024.size inb_S1024x1024_S1024x1024_0_0, w⟩ : View.Piece (Elt Ideal) S1024x1024 .bf16)]
      r.toLoadRect = View.ld w r :=
  View.readCov_fill (Val := Elt Ideal) (s := S1024x1024) (View.whole cc0_scratch0) inb_S1024x1024_S1024x1024_0_0 w [] r (by decide)

theorem out (c : Dev nD) (t : Fin cfg0.N) :
    (outsAt0 m c t.val t.isLt).1 = k0_pay1 (k0_pay3 (iblk m c 0 t) (upper (outsAt0 m c t.val t.isLt).2) (iblk m c 1 t)
      (lower (outsAt0 m c t.val t.isLt).2) (row (iblk m c 4 t) t)) (iblk m c 3 t) (iblk m c 5 t) (iblk m c 6 t) := by
  by_cases h0 : t.val % 6 = 0
  · rw [wA m c t h0, outsAt0_A m c t h0]
    dsimp only
    frame_out
    exact congrArg (fun z => k0_pay1 z (iblk m c 3 t) (iblk m c 5 t) (iblk m c 6 t))
      (congrArg₂ (fun y z => k0_pay3 (iblk m c 0 t) y (iblk m c 1 t) z (row (iblk m c 4 t) t)) (fill _ _) (fill _ _))
  · rw [wB m c t h0, outsAt0_B m c t h0]
    dsimp only
    frame_out
    simp only [read_unread_whole]

end Cert.Proof.OutprojBlock
end

end
-- ==== Proof.OutprojArrays.lean ====
module

public import proofs.«01_k».proof.Proof.OutprojBlock

/-! The out-projection call's result array at the ideal values, row by row, and the run that ends with it. -/

@[expose] public section

set_option maxRecDepth 16384

noncomputable section

namespace Cert.Proof.OutprojArrays

open Cert.Kernel6Ideal Cert.Kernel6Ideal.Gen Idealize.ShloMosaic Idealize.ShloMosaic.TcCoe Idealize.ShloMosaic.Tactic Idealize.SL.Sem
open Idealize.ShloMosaic.Pipeline (Dat)
open Cert.Proof.Layer Cert.Proof.OutprojBlock
open Cert.Proof.FfnBlock (tab)
open Cert.Proof.FfnArrays (grp sec)

/-- The result: the out-projection of every row. -/
def G (ya yb : Vec Ideal S6144x512 .f32) (W : Vec Ideal S1024x1024 .f32) (x : Vec Ideal S6144x1024 .f32) (mo : Vec Ideal S16x6144 .f32)
    (g b : Vec Ideal S1024 .f32) : Vec Ideal S6144x1024 .f32 := fun i =>
  outp (tab ya (i 0)) (tab yb (i 0)) (tab W) (tab x (i 0)) (sec mo 2 (grp (i 0))) (fun k => g (ix1 k)) (fun k => b (ix1 k)) (i 1)

variable (m : (ℓ : Loc nD τ sig) → Buf (Elt Ideal) ℓ) (ρ : Dev nD → PrngReg)

/-- The argument arrays. -/
abbrev X0 (c : Dev nD) : Vec Ideal S6144x512 .f32 := m ((c : Thread nD τ).loc main_arg0)
abbrev X1 (c : Dev nD) : Vec Ideal S6144x512 .f32 := m ((c : Thread nD τ).loc main_arg1)
abbrev X2 (c : Dev nD) : Vec Ideal S1024x1024 .f32 := m ((c : Thread nD τ).loc main_arg2)
abbrev X3 (c : Dev nD) : Vec Ideal S6144x1024 .f32 := m ((c : Thread nD τ).loc main_arg3)
abbrev X4 (c : Dev nD) : Vec Ideal S16x6144 .f32 := m ((c : Thread nD τ).loc main_arg4)
abbrev X5 (c : Dev nD) : Vec Ideal S1024 .f32 := m ((c : Thread nD τ).loc main_arg5)
abbrev X6 (c : Dev nD) : Vec Ideal S1024 .f32 := m ((c : Thread nD τ).loc main_arg6)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![t.val, 0] := (by decide +kernel : ∀ t : Fin grid0.N, win0_3.index t = ![t.val, 0])
theorem e4 : ∀ t : Fin cfg0.N, win0_4.index t = ![0, 2] := (by decide +kernel : ∀ t : Fin grid0.N, win0_4.index t = ![0, 2])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![t.val, 0] := (by decide +kernel : ∀ t : Fin grid0.N, win0_7.index t = ![t.val, 0])

theorem hN (t : Fin cfg0.N) : t.val < 6 := t.isLt

/-- The token of a block's row. -/
def tok (t : Fin cfg0.N) (r : Fin 1024) : Fin 6144 := ⟨t.val * 1024 + r.val, by have := hN t; omega⟩

theorem blk0 (c : Dev nD) (t : Fin cfg0.N) (r : Fin 1024) (d : Fin 512) : iblk m c 0 t (ix2 r d) = X0 m c (ix2 (tok t r) d) := by
  blk_simp [iblk]
  have e : V m c main_v0 = (truncf .bf16 (X0 m c) bitsLt_bf16_f32 : FVec Ideal S6144x512 .bf16) := by
    unfold V; after_results
  have e' : ((win0_0.blk t).view.emb (ix2 r d)) = (ix2 (tok t r) d : S6144x512.Idx) := by unfold tok; blk_ext [e0 t]
  rw [e, e']
  rfl
theorem blk1 (c : Dev nD) (t : Fin cfg0.N) (r : Fin 1024) (d : Fin 512) : iblk m c 1 t (ix2 r d) = X1 m c (ix2 (tok t r) d) := by
  blk_simp [iblk]
  have e : V m c main_v1 = (truncf .bf16 (X1 m c) bitsLt_bf16_f32 : FVec Ideal S6144x512 .bf16) := by
    unfold V; after_results
  have e' : ((win0_1.blk t).view.emb (ix2 r d)) = (ix2 (tok t r) d : S6144x512.Idx) := by unfold tok; blk_ext [e1 t]
  rw [e, e']
  rfl
theorem blk2 (c : Dev nD) (t : Fin cfg0.N) (r d : Fin 1024) : iblk m c 2 t (ix2 r d) = X2 m c (ix2 r d) := by
  blk_simp [iblk]
  rw [V_main_arg2]
  congr 1
  blk_ext [e2 t]
theorem blk3 (c : Dev nD) (t : Fin cfg0.N) (r d : Fin 1024) : iblk m c 3 t (ix2 r d) = X3 m c (ix2 (tok t r) d) := by
  blk_simp [iblk]
  rw [V_main_arg3]
  congr 1
  unfold tok
  blk_ext [e3 t]
theorem blk4 (c : Dev nD) (t : Fin cfg0.N) (r : Fin 16) (d : Fin 1024) : iblk m c 4 t (ix2 r d) = sec (X4 m c) 2 r d := by
  unfold sec
  blk_simp [iblk]
  rw [V_main_arg4]
  congr 1
  blk_ext [e4 t]
theorem blk5 (c : Dev nD) (t : Fin cfg0.N) (d : Fin 1024) : iblk m c 5 t (ix2 0 d) = X5 m c (ix1 d) := by
  blk_simp [iblk]
  have e : V m c main_v2 = shapeCast S1x1024 (X5 m c) shapeCasts_S1024_S1x1024 := by
    unfold V; after_results; rfl
  have e' : ((win0_5.blk t).view.emb (ix2 0 d)) = (ix2 0 d : S1x1024.Idx) := by blk_ext [e5 t]
  rw [e, e']
  pointwise
theorem blk6 (c : Dev nD) (t : Fin cfg0.N) (d : Fin 1024) : iblk m c 6 t (ix2 0 d) = X6 m c (ix1 d) := by
  blk_simp [iblk]
  have e : V m c main_v3 = shapeCast S1x1024 (X6 m c) shapeCasts_S1024_S1x1024 := by
    unfold V; after_results; rfl
  have e' : ((win0_6.blk t).view.emb (ix2 0 d)) = (ix2 0 d : S1x1024.Idx) := by blk_ext [e6 t]
  rw [e, e']
  pointwise

theorem off : ∀ t : Fin cfg0.N, k0_off1 (grid0.coords t) = ![t.val - 3, 0] :=
  (by decide +kernel : ∀ t : Fin grid0.N, k0_off1 (grid0.coords t) = ![t.val - 3, 0])

/-- The row a point reads is the row of its tokens. -/
theorem row_eq (t : Fin cfg0.N) (r : Fin 1024) (x : Vec Ideal S16x1024 .f32) (d : Fin 1024) :
    row x t (ix2 0 d) = x (ix2 (grp (tok t r)) d) := by
  have := hN t
  pointwise [row]
  congr 2 <;> apply Fin.ext <;> simp only [off, grp, tok, Matrix.cons_val_zero, Matrix.cons_val_one] <;> omega

/-- The copy of the weights, the same at every point. -/
theorem wts (c : Dev nD) (n : ℕ) : ∀ (h : n < cfg0.N) (r d : Fin 1024), (outsAt0 m c n h).2 (ix2 r d) = X2 m c (ix2 r d) := by
  induction n with
  | zero => exact fun h r d => by rw [wA m c ⟨0, h⟩ rfl, pay2, blk2]
  | succ n ih =>
      intro h r d
      rw [wB m c ⟨n + 1, h⟩ (by have := hN ⟨n + 1, h⟩; dsimp only at this ⊢; omega)]
      exact ih (by omega) r d

/-- The result array. -/
theorem final (c : Dev nD) : (dats m 0 c).arrAt 7 cfg0.N = G (X0 m c) (X1 m c) (X2 m c) (X3 m c) (X4 m c) (X5 m c) (X6 m c) := by
  refine (dats m 0 c).arrAt_eq_of_covers 7 (G (X0 m c) (X1 m c) (X2 m c) (X3 m c) (X4 m c) (X5 m c) (X6 m c)) (by decide +kernel) fun t hf y => ?_
  blk_simp
  rw [after0_7, out m c t]
  obtain ⟨r, n, rfl⟩ : ∃ r n : Fin 1024, y = ix2 r n := ⟨y 0, y 1, eq_ix2 y⟩
  have e' : ((win0_7.blk t).view.emb (ix2 r n)) = (ix2 (tok t r) n : S6144x1024.Idx) := by unfold tok; blk_ext [e7 t]
  rw [e']
  refine (pay1 _ _ _ _ r n).trans ?_
  have a0 : tab (iblk m c 0 t) r = tab (X0 m c) (tok t r) := funext fun d => blk0 m c t r d
  have a1 : tab (iblk m c 1 t) r = tab (X1 m c) (tok t r) := funext fun d => blk1 m c t r d
  have a3 : tab (iblk m c 3 t) r = tab (X3 m c) (tok t r) := funext fun d => blk3 m c t r d
  have a4 : tab (row (iblk m c 4 t) t) 0 = sec (X4 m c) 2 (grp (tok t r)) := funext fun d => (row_eq t r _ d).trans (blk4 m c t _ d)
  have a5 : tab (iblk m c 5 t) 0 = fun k => X5 m c (ix1 k) := funext fun d => blk5 m c t d
  have a6 : tab (iblk m c 6 t) 0 = fun k => X6 m c (ix1 k) := funext fun d => blk6 m c t d
  have u : tab (upper (outsAt0 m c t.val t.isLt).2) = fun k => tab (X2 m c) ⟨k.val, by omega⟩ :=
    funext fun k => funext fun d => (upper_at _ k d).trans (wts m c _ _ _ _)
  have l : tab (lower (outsAt0 m c t.val t.isLt).2) = fun k => tab (X2 m c) ⟨512 + k.val, by omega⟩ :=
    funext fun k => funext fun d => (lower_at _ k d).trans (wts m c _ _ _ _)
  have p : tab (k0_pay3 (iblk m c 0 t) (upper (outsAt0 m c t.val t.isLt).2) (iblk m c 1 t) (lower (outsAt0 m c t.val t.isLt).2) (row (iblk m c 4 t) t)) r
      = fun k => sec (X4 m c) 2 (grp (tok t r)) k * dot (cat2 (tab (X0 m c) (tok t r)) (tab (X1 m c) (tok t r))) (tab (X2 m c)) k :=
    funext fun k => (pay3 _ _ _ _ _ r k).trans (by rw [a0, a1, a4, u, l, dot_cat2])
  rw [p, a3, a5, a6]
  rfl

/-- The kernel's run ends with the result array and leaves the arguments as they were. -/
theorem run : θ_run defs (onTc (τ := τ) (main (F := Ideal))) ⟨m, fun _ => 0, ρ⟩ fun r => ∀ c : Dev nD,
      r.2.mem ((c : Thread nD τ).loc main_v4) = G (X0 m c) (X1 m c) (X2 m c) (X3 m c) (X4 m c) (X5 m c) (X6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Proof.OutprojArrays
end

end
-- ==== Proof.OutprojRef.lean ====
module

public import proofs.«01_k».proof.Proof.Gen.Reference6Ideal
public import proofs.«01_k».proof.Proof.Gen.Reference6Ideal.Read
public import proofs.«01_k».proof.Proof.OutprojArrays
public import proofs.«01_k».proof.Proof.FfnRef

/-! The out-projection's reference, stage by stage, for the prompt's rows and for the samples' rows. -/

@[expose] public section

set_option maxRecDepth 16384

noncomputable section

namespace Cert.Proof.OutprojRef

open Cert.Reference6Ideal Cert.Reference6Ideal.Gen Cert.Reference6Ideal.Read Idealize.ShloMosaic Idealize.ShloMosaic.TcCoe
open Idealize.ShloMosaic.Tactic Idealize.SL.Sem
open Cert.Proof.Layer Cert.Proof.OutprojBlock
open Cert.Proof.FfnBlock (tab)
open Cert.Proof.FfnArrays (grp sec)
open Cert.Proof.FfnRef (fib tokP tokS modS)
open Cert.Proof.OutprojArrays (G)

variable (x0 x1 : Vec Ideal S6144x512 .f32) (x2 : Vec Ideal S1024x1024 .f32) (x3 : Vec Ideal S6144x1024 .f32)
  (x4 : Vec Ideal S16x6144 .f32) (x5 x6 : Vec Ideal S1024 .f32)

theorem cP (b : Fin 16) (n : Fin 256) (k : Fin 1024) : val_main_v14 x0 x1 (ix3 b n k) = cat2 (tab x0 (tokP b n)) (tab x1 (tokP b n)) k := by
  unfold cat2 tab tokP
  pointwise [val_main_v14, val_main_v3, val_main_v2, val_main_v1, val_main_v0]

theorem dP (b : Fin 16) (n : Fin 256) (e : Fin 1024) : val_main_v15 x0 x1 x2 (ix3 b n e) = dot (cat2 (tab x0 (tokP b n)) (tab x1 (tokP b n))) (tab x2) e := by
  unfold dot
  pointwise [val_main_v15]
  exact Finset.sum_congr rfl fun k _ => by rw [cP]

theorem zP (b : Fin 16) (n : Fin 256) (e : Fin 1024) : val_main_v21 x0 x1 x2 x3 x4 (ix3 b n e)
    = res (tab x3 (tokP b n)) (sec x4 2 0) (dot (cat2 (tab x0 (tokP b n)) (tab x1 (tokP b n))) (tab x2)) e := by
  unfold res tab sec
  rw [← dP]
  unfold tokP
  pointwise [val_main_v21, val_main_v20, val_main_v19, val_main_v18, val_main_v17, val_main_v16, val_main_v10, val_main_v7, val_main_v6, val_main_v5, val_main_v4, val_main_cst]
  rfl

theorem mP (b : Fin 16) (n : Fin 256) : val_main_v25 x0 x1 x2 x3 x4 (ix3 b n 0) = mean (fib (val_main_v21 x0 x1 x2 x3 x4) b n) := by
  unfold mean fib
  pointwise [val_main_v25, val_main_v24, val_main_v23, val_main_v22, val_main_cst_0, val_main_cst_1]
  rfl

theorem vP (b : Fin 16) (n : Fin 256) : val_main_v32 x0 x1 x2 x3 x4 (ix3 b n 0) = Layer.var (fib (val_main_v21 x0 x1 x2 x3 x4) b n) := by
  unfold Layer.var fib
  pointwise [val_main_v32, val_main_v31, val_main_v30, val_main_v29, val_main_v28, val_main_v27, val_main_v26, val_main_cst_2, val_main_cst_3]
  simp only [mP]
  rfl

theorem oP (b : Fin 16) (n : Fin 256) (e : Fin 1024) : val_main_v45 x0 x1 x2 x3 x4 x5 x6 (ix3 b n e)
    = Layer.norm (fib (val_main_v21 x0 x1 x2 x3 x4) b n) (fun k => x5 (ix1 k)) (fun k => x6 (ix1 k)) e := by
  unfold Layer.norm fib
  pointwise [val_main_v45, val_main_v44, val_main_v43, val_main_v42, val_main_v41, val_main_v40, val_main_v39, val_main_v38, val_main_v37, val_main_v36, val_main_v35, val_main_v34, val_main_v33, val_main_cst_4]
  simp only [mP, vP]
  rfl

theorem rowP (b : Fin 16) (n : Fin 256) (e : Fin 1024) : val_main_v45 x0 x1 x2 x3 x4 x5 x6 (ix3 b n e)
    = outp (tab x0 (tokP b n)) (tab x1 (tokP b n)) (tab x2) (tab x3 (tokP b n)) (sec x4 2 0) (fun k => x5 (ix1 k)) (fun k => x6 (ix1 k)) e := by
  rw [oP, (funext (zP x0 x1 x2 x3 x4 b n) : fib (val_main_v21 x0 x1 x2 x3 x4) b n = _)]
  rfl

theorem cS (b : Fin 2) (n : Fin 1024) (k : Fin 1024) : val_main_v60 x0 x1 (ix3 b n k) = cat2 (tab x0 (tokS b n)) (tab x1 (tokS b n)) k := by
  unfold cat2 tab tokS
  pointwise [val_main_v60, val_main_v49, val_main_v48, val_main_v47, val_main_v46]

theorem dS (b : Fin 2) (n : Fin 1024) (e : Fin 1024) : val_main_v61 x0 x1 x2 (ix3 b n e) = dot (cat2 (tab x0 (tokS b n)) (tab x1 (tokS b n))) (tab x2) e := by
  unfold dot
  pointwise [val_main_v61]
  exact Finset.sum_congr rfl fun k _ => by rw [cS]

theorem zS (b : Fin 2) (n : Fin 1024) (e : Fin 1024) : val_main_v66 x0 x1 x2 x3 x4 (ix3 b n e)
    = res (tab x3 (tokS b n)) (sec x4 2 (modS b)) (dot (cat2 (tab x0 (tokS b n)) (tab x1 (tokS b n))) (tab x2)) e := by
  unfold res tab sec
  rw [← dS]
  unfold tokS
  pointwise [val_main_v66, val_main_v65, val_main_v64, val_main_v63, val_main_v62, val_main_v56, val_main_v53, val_main_v52, val_main_v51, val_main_v50, val_main_cst_5]
  rfl

theorem mS (b : Fin 2) (n : Fin 1024) : val_main_v70 x0 x1 x2 x3 x4 (ix3 b n 0) = mean (fib (val_main_v66 x0 x1 x2 x3 x4) b n) := by
  unfold mean fib
  pointwise [val_main_v70, val_main_v69, val_main_v68, val_main_v67, val_main_cst_6, val_main_cst_7]
  rfl

theorem vS (b : Fin 2) (n : Fin 1024) : val_main_v77 x0 x1 x2 x3 x4 (ix3 b n 0) = Layer.var (fib (val_main_v66 x0 x1 x2 x3 x4) b n) := by
  unfold Layer.var fib
  pointwise [val_main_v77, val_main_v76, val_main_v75, val_main_v74, val_main_v73, val_main_v72, val_main_v71, val_main_cst_8, val_main_cst_9]
  simp only [mS]
  rfl

theorem oS (b : Fin 2) (n : Fin 1024) (e : Fin 1024) : val_main_v90 x0 x1 x2 x3 x4 x5 x6 (ix3 b n e)
    = Layer.norm (fib (val_main_v66 x0 x1 x2 x3 x4) b n) (fun k => x5 (ix1 k)) (fun k => x6 (ix1 k)) e := by
  unfold Layer.norm fib
  pointwise [val_main_v90, val_main_v89, val_main_v88, val_main_v87, val_main_v86, val_main_v85, val_main_v84, val_main_v83, val_main_v82, val_main_v81, val_main_v80, val_main_v79, val_main_v78, val_main_cst_10]
  simp only [mS, vS]
  rfl

theorem rowS (b : Fin 2) (n : Fin 1024) (e : Fin 1024) : val_main_v90 x0 x1 x2 x3 x4 x5 x6 (ix3 b n e)
    = outp (tab x0 (tokS b n)) (tab x1 (tokS b n)) (tab x2) (tab x3 (tokS b n)) (sec x4 2 (modS b)) (fun k => x5 (ix1 k)) (fun k => x6 (ix1 k)) e := by
  rw [oS, (funext (zS x0 x1 x2 x3 x4 b n) : fib (val_main_v66 x0 x1 x2 x3 x4) b n = _)]
  rfl

/-- The reference's result is the out-projection of every row. -/
theorem result : val_main_v93 x0 x1 x2 x3 x4 x5 x6 = G x0 x1 x2 x3 x4 x5 x6 := by
  funext j
  obtain ⟨i, e, rfl⟩ : ∃ (i : Fin 6144) (e : Fin 1024), j = ix2 i e := ⟨j 0, j 1, eq_ix2 j⟩
  by_cases h : i.val < 4096
  · have e1 : val_main_v93 x0 x1 x2 x3 x4 x5 x6 (ix2 i e)
        = val_main_v45 x0 x1 x2 x3 x4 x5 x6 (ix3 ⟨i.val / 256, by omega⟩ ⟨i.val % 256, by omega⟩ e) := by
      pointwise [val_main_v93, val_main_v92, val_main_v91]
      rw [dif_pos h]
    rw [e1, rowP]
    have e2 : tokP ⟨i.val / 256, by omega⟩ ⟨i.val % 256, by omega⟩ = i := Fin.ext (by unfold tokP; dsimp only; omega)
    have e3 : grp i = 0 := Fin.ext (by unfold grp; simp only [Fin.val_zero]; omega)
    rw [e2, ← e3]
    rfl
  · have e1 : val_main_v93 x0 x1 x2 x3 x4 x5 x6 (ix2 i e)
        = val_main_v90 x0 x1 x2 x3 x4 x5 x6 (ix3 ⟨(i.val - 4096) / 1024, by omega⟩ ⟨(i.val - 4096) % 1024, by omega⟩ e) := by
      pointwise [val_main_v93, val_main_v92, val_main_v91]
      rw [dif_neg h]
    rw [e1, rowS]
    have e2 : tokS ⟨(i.val - 4096) / 1024, by omega⟩ ⟨(i.val - 4096) % 1024, by omega⟩ = i :=
      Fin.ext (by unfold tokS; dsimp only; omega)
    have e3 : modS ⟨(i.val - 4096) / 1024, by omega⟩ = grp i := Fin.ext (by unfold modS grp; dsimp only; omega)
    rw [e2, e3]
    rfl

end Cert.Proof.OutprojRef
end

end
-- ==== Proof.Outproj.lean ====
module

public import proofs.«01_k».proof.Defs
public import proofs.«01_k».proof.Proof.Gen.Kernel6.Frame
public import proofs.«01_k».proof.Proof.Gen.Kernel6Ideal.Frame
public import proofs.«01_k».proof.Proof.OutprojRef
public import Idealize.ShloMosaic.Lib.Quiescent

/-! The five claims about the out-projection call. -/

@[expose] public section

noncomputable section

namespace Cert.Proof.Outproj

open Idealize.ShloMosaic Idealize.SL.Sem
open Cert.Proof.OutprojArrays (G X0 X1 X2 X3 X4 X5 X6)

/-- The kernel runs, ends with its arguments unchanged and every semaphore at zero. -/
theorem frame : Cert.quiescent_Kernel6 := fun m ρ _ => Cert.Kernel6.Gen.frame m ρ
/-- So does its idealization. -/
theorem frameIdeal : Cert.quiescent_Kernel6Ideal := fun m ρ _ => Cert.Kernel6Ideal.Gen.frame m ρ
/-- So does the reference. -/
theorem frameReference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)
/-- The idealization rewrites nothing. -/
theorem preserves : Cert.preserves_Kernel6_Kernel6Ideal := trivial

/-- Both programs end with the out-projection of every row. -/
theorem algebraic : Cert.algebraic_Kernel6Ideal_Reference6Ideal := by
  intro m ρ m' ρ' _ hagree
  refine ⟨fun c => G (X0 m c) (X1 m c) (X2 m c) (X3 m c) (X4 m c) (X5 m c) (X6 m c), Cert.Proof.OutprojArrays.run m ρ, ?_⟩
  refine (θ_run Cert.Reference6Ideal.defs _ _).mono (fun _ h c => ⟨?_, (h c).2⟩)
    (Cert.Reference6Ideal.Value.run (F := Ideal) m' ρ')
  refine (h c).1.trans ((Cert.Reference6Ideal.Read.val_main_v93_eq (F := Ideal) m' c).trans ?_)
  refine (OutprojRef.result _ _ _ _ _ _ _).trans ?_
  dsimp only
  obtain ⟨a0, a1, a2, a3, a4, a5, a6⟩ := hagree c
  unfold X0 X1 X2 X3 X4 X5 X6
  rw [a0, a1, a2, a3, a4, a5, a6]

end Cert.Proof.Outproj
end

end
-- ==== Proof.Outproj2Block.lean ====
module

public import proofs.«01_k».proof.Proof.Gen.Kernel7Ideal.Frame
public import proofs.«01_k».proof.Proof.OutprojBlock

/-! The blocks of the even layer's out-projection: what a grid point leaves in the copy of the weights and in the result. -/

@[expose] public section

set_option maxRecDepth 16384

noncomputable section

namespace Cert.Proof.Outproj2Block

open Cert.Kernel7Ideal Cert.Kernel7Ideal.Gen Idealize.ShloMosaic Idealize.ShloMosaic.TcCoe Idealize.ShloMosaic.Tactic Idealize.SL.Sem
open Idealize.ShloMosaic.Pointwise
open Idealize.ShloMosaic.Pipeline (Dat)
open Cert.Proof.Layer
open Cert.Proof.OutprojBlock (cat2 outp dot_cat2 upper lower)
open Cert.Proof.FfnBlock (tab)

/-- The gated product of a block. -/
theorem pay4 (x : Vec Ideal S1024x512 .bf16) (y : Vec Ideal S512x1024 .bf16) (x' : Vec Ideal S1024x512 .bf16) (y' : Vec Ideal S512x1024 .bf16)
    (gt : Vec Ideal S1x1024 .f32) (i n : Fin 1024) :
    k0_pay4 x y x' y' gt (ix2 i n) = tab gt 0 n * (dot (tab x i) (tab y) n + dot (tab x' i) (tab y') n) :=
  OutprojBlock.pay3 _ _ _ _ _ i n
/-- The normalised rows. -/
theorem pay1 (u x : Vec Ideal S1024x1024 .f32) (g b : Vec Ideal S1x1024 .f32) (i n : Fin 1024) :
    k0_pay1 u x g b (ix2 i n) = norm (fun k => Spec.w 0x3FB504F3#32 * tab x i k + tab u i k) (tab g 0) (tab b 0) n := by
  pointwise [k0_pay1]
  rfl
/-- The normalised rows of a sample. -/
theorem pay2 (u x : Vec Ideal S1024x1024 .f32) (g b : Vec Ideal S1x1024 .f32) (i n : Fin 1024) :
    k0_pay2 u x g b (ix2 i n) = norm (fun k => Spec.w 0x3FB504F3#32 * tab x i k + tab u i k) (tab g 0) (tab b 0) n :=
  pay1 u x g b i n
/-- The copy of the weights. -/
theorem pay3 (x : Vec Ideal S1024x1024 .f32) (i n : Fin 1024) : k0_pay3 x (ix2 i n) = x (ix2 i n) :=
  OutprojBlock.pay2 x i n

variable (m : (ℓ : Loc nD τ sig) → Buf (Elt Ideal) ℓ)

theorem off1_inb : ∀ (t : Fin cfg0.N) (a : Fin 2), k0_off1 (grid0.coords t) a + S1x1024.size a ≤ S16x1024.size a :=
  (by decide +kernel : ∀ (t : Fin grid0.N) (a : Fin 2), k0_off1 (grid0.coords t) a + S1x1024.size a ≤ S16x1024.size a)
/-- The row of a modulation block that a point reads. -/
abbrev row (x : Vec Ideal S16x1024 .f32) (t : Fin cfg0.N) : Vec Ideal S1x1024 .f32 :=
  View.ld x (Rect.unit (s := S16x1024) (k0_off1 (grid0.coords t)) S1x1024.size (off1_inb t))
theorem wA (c : Dev nD) (t : Fin cfg0.N) (h0 : t.val % 6 = 0) (h1 : t.val < 4) : (outsAt0 m c t.val t.isLt).2 = k0_pay3 (iblk m c 2 t) := by
  rw [outsAt0_A m c t h0 h1 (by omega)]
  dsimp only
  frame_out

theorem wB (c : Dev nD) (t : Fin cfg0.N) (h0 : ¬ t.val % 6 = 0) :
    (outsAt0 m c t.val t.isLt).2 = (outsAt0 m c (t.val - 1) (Nat.lt_of_le_of_lt (Nat.sub_le _ _) t.isLt)).2 := by
  by_cases h1 : t.val < 4
  · rw [outsAt0_B m c t h0 h1 (by omega)]; dsimp only [sout0_B_0]
  · rw [outsAt0_C m c t h0 h1 (by omega)]; dsimp only [sout0_C_0]

/-- A load from the scratch after a store of all of it. -/
theorem fill (w : Vec Ideal S1024x1024 .bf16) (r : Rect S1024x1024) :
    (View.whole cc0_scratch0).readCov [(⟨Rect.unit ![0, 0] S1024x1024.size inb_S1024x1024_S1024x1024_0_0, w⟩ : View.Piece (Elt Ideal) S1024x1024 .bf16)]
      r.toLoadRect = View.ld w r :=
  View.readCov_fill (Val := Elt Ideal) (s := S1024x1024) (View.whole cc0_scratch0) inb_S1024x1024_S1024x1024_0_0 w [] r (by decide)

/-- The block of a point on the prompt's rows. -/
theorem outP (c : Dev nD) (t : Fin cfg0.N) (h1 : t.val < 4) :
    (outsAt0 m c t.val t.isLt).1 = k0_pay1 (k0_pay4 (iblk m c 0 t) (upper (outsAt0 m c t.val t.isLt).2) (iblk m c 1 t)
      (lower (outsAt0 m c t.val t.isLt).2) (row (iblk m c 5 t) t)) (iblk m c 3 t) (iblk m c 6 t) (iblk m c 7 t) := by
  by_cases h0 : t.val % 6 = 0
  · rw [wA m c t h0 h1, outsAt0_A m c t h0 h1 (by omega)]
    dsimp only
    frame_out
    exact congrArg (fun z => k0_pay1 z (iblk m c 3 t) (iblk m c 6 t) (iblk m c 7 t))
      (congrArg₂ (fun y z => k0_pay4 (iblk m c 0 t) y (iblk m c 1 t) z (row (iblk m c 5 t) t)) (fill _ _) (fill _ _))
  · rw [wB m c t h0, outsAt0_B m c t h0 h1 (by omega)]
    dsimp only
    frame_out
    simp only [read_unread_whole]

/-- The block of a point on a sample's rows. -/
theorem outS (c : Dev nD) (t : Fin cfg0.N) (h0 : ¬ t.val % 6 = 0) (h1 : ¬ t.val < 4) :
    (outsAt0 m c t.val t.isLt).1 = k0_pay2 (k0_pay4 (iblk m c 0 t) (upper (outsAt0 m c t.val t.isLt).2) (iblk m c 1 t)
      (lower (outsAt0 m c t.val t.isLt).2) (row (iblk m c 5 t) t)) (iblk m c 4 t) (iblk m c 6 t) (iblk m c 7 t) := by
  rw [wB m c t h0, outsAt0_C m c t h0 h1 (by omega)]
  dsimp only
  frame_out
  simp only [read_unread_whole]

end Cert.Proof.Outproj2Block
end

end
-- ==== Proof.Outproj2Arrays.lean ====
module

public import proofs.«01_k».proof.Proof.Outproj2Block
public import proofs.«01_k».proof.Proof.InprojRef

/-! The result of the even layer's out-projection: the array at the ideal values, row by row, and the run that ends with it. -/

@[expose] public section

set_option maxRecDepth 16384

noncomputable section

namespace Cert.Proof.Outproj2Arrays

open Cert.Kernel7Ideal Cert.Kernel7Ideal.Gen Idealize.ShloMosaic Idealize.ShloMosaic.TcCoe Idealize.ShloMosaic.Tactic Idealize.SL.Sem
open Idealize.ShloMosaic.Pipeline (Dat)
open Cert.Proof.Layer Cert.Proof.Outproj2Block
open Cert.Proof.OutprojBlock (cat2 outp dot_cat2 upper lower upper_at lower_at)
open Cert.Proof.InprojRef (xrow)
open Cert.Proof.FfnBlock (tab)
open Cert.Proof.FfnArrays (grp sec)

/-- The result: the out-projection of every row. -/
def G (ya yb : Vec Ideal S6144x512 .f32) (W : Vec Ideal S1024x1024 .f32) (xp : Vec Ideal S16x256x1024 .f32) (xs : Vec Ideal S2x1024x1024 .f32)
    (mo : Vec Ideal S16x6144 .f32) (g b : Vec Ideal S1024 .f32) : Vec Ideal S6144x1024 .f32 := fun i =>
  outp (tab ya (i 0)) (tab yb (i 0)) (tab W) (xrow xp xs (i 0)) (sec mo 2 (grp (i 0))) (fun k => g (ix1 k)) (fun k => b (ix1 k)) (i 1)

variable (m : (ℓ : Loc nD τ sig) → Buf (Elt Ideal) ℓ) (ρ : Dev nD → PrngReg)

/-- The argument arrays. -/
abbrev X0 (c : Dev nD) : Vec Ideal S6144x512 .f32 := m ((c : Thread nD τ).loc main_arg0)
abbrev X1 (c : Dev nD) : Vec Ideal S6144x512 .f32 := m ((c : Thread nD τ).loc main_arg1)
abbrev X2 (c : Dev nD) : Vec Ideal S1024x1024 .f32 := m ((c : Thread nD τ).loc main_arg2)
abbrev X3 (c : Dev nD) : Vec Ideal S16x256x1024 .f32 := m ((c : Thread nD τ).loc main_arg3)
abbrev X4 (c : Dev nD) : Vec Ideal S2x1024x1024 .f32 := m ((c : Thread nD τ).loc main_arg4)
abbrev X5 (c : Dev nD) : Vec Ideal S16x6144 .f32 := m ((c : Thread nD τ).loc main_arg5)
abbrev X6 (c : Dev nD) : Vec Ideal S1024 .f32 := m ((c : Thread nD τ).loc main_arg6)
abbrev X7 (c : Dev nD) : Vec Ideal S1024 .f32 := m ((c : Thread nD τ).loc main_arg7)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e5 : ∀ t : Fin cfg0.N, win0_5.index t = ![0, 2] := (by decide +kernel : ∀ t : Fin grid0.N, win0_5.index t = ![0, 2])
theorem e6 : ∀ t : Fin cfg0.N, win0_6.index t = ![0, 0] := (by decide +kernel : ∀ t : Fin grid0.N, win0_6.index t = ![0, 0])
theorem e7 : ∀ t : Fin cfg0.N, win0_7.index t = ![0, 0] := (by decide +kernel : ∀ t : Fin grid0.N, win0_7.index t = ![0, 0])
theorem e8 : ∀ t : Fin cfg0.N, win0_8.index t = ![t.val, 0] := (by decide +kernel : ∀ t : Fin grid0.N, win0_8.index t = ![t.val, 0])
theorem e3 : ∀ t : Fin cfg0.N, t.val < 4 → win0_3.index t = ![t.val, 0] := (by decide +kernel : ∀ t : Fin grid0.N, t.val < 4 → win0_3.index t = ![t.val, 0])
theorem e4 : ∀ t : Fin cfg0.N, ¬t.val < 4 → win0_4.index t = ![t.val - 4, 0] :=
  (by decide +kernel : ∀ t : Fin grid0.N, ¬t.val < 4 → win0_4.index t = ![t.val - 4, 0])

theorem hN (t : Fin cfg0.N) : t.val < 6 := t.isLt

/-- The token of a block's row. -/
def tok (t : Fin cfg0.N) (r : Fin 1024) : Fin 6144 := ⟨t.val * 1024 + r.val, by have := hN t; omega⟩

theorem blk0 (c : Dev nD) (t : Fin cfg0.N) (r : Fin 1024) (d : Fin 512) : iblk m c 0 t (ix2 r d) = X0 m c (ix2 (tok t r) d) := by
  blk_simp [iblk]
  have e : V m c main_v2 = (truncf .bf16 (X0 m c) bitsLt_bf16_f32 : FVec Ideal S6144x512 .bf16) := by
    unfold V; after_results
  have e' : ((win0_0.blk t).view.emb (ix2 r d)) = (ix2 (tok t r) d : S6144x512.Idx) := by unfold tok; blk_ext [e0 t]
  rw [e, e']
  rfl
theorem blk1 (c : Dev nD) (t : Fin cfg0.N) (r : Fin 1024) (d : Fin 512) : iblk m c 1 t (ix2 r d) = X1 m c (ix2 (tok t r) d) := by
  blk_simp [iblk]
  have e : V m c main_v3 = (truncf .bf16 (X1 m c) bitsLt_bf16_f32 : FVec Ideal S6144x512 .bf16) := by
    unfold V; after_results
  have e' : ((win0_1.blk t).view.emb (ix2 r d)) = (ix2 (tok t r) d : S6144x512.Idx) := by unfold tok; blk_ext [e1 t]
  rw [e, e']
  rfl
theorem blk2 (c : Dev nD) (t : Fin cfg0.N) (r d : Fin 1024) : iblk m c 2 t (ix2 r d) = X2 m c (ix2 r d) := by
  blk_simp [iblk]
  rw [V_main_arg2]
  congr 1
  blk_ext [e2 t]
theorem blk3 (c : Dev nD) (t : Fin cfg0.N) (ht : t.val < 4) (r d : Fin 1024) :
    (iblk m c 3 t : Vec Ideal S1024x1024 .f32) (ix2 r d) = xrow (X3 m c) (X4 m c) (tok t r) d := by
  have e : V m c main_v0 = shapeCast S4096x1024 (X3 m c) shapeCasts_S16x256x1024_S4096x1024 := by
    unfold V; after_results; rfl
  have e' : ((win0_3.blk t).view.emb (ix2 r d)) = (ix2 ⟨t.val * 1024 + r.val, by omega⟩ d : S4096x1024.Idx) := by blk_ext [e3 t ht]
  unfold iblk xrow
  rw [dif_pos (show (tok t r).val < 4096 by unfold tok; dsimp only; omega)]
  show V m c main_v0 ((win0_3.blk t).view.emb (ix2 r d)) = _
  rw [e, e']
  have f1 : (⟨(t.val * 1024 + r.val) / 256, by omega⟩ : Fin 16) = ⟨(tok t r).val / 256, by unfold tok; dsimp only; omega⟩ :=
    Fin.ext (by unfold tok; rfl)
  have f2 : (⟨(t.val * 1024 + r.val) % 256, by omega⟩ : Fin 256) = ⟨(tok t r).val % 256, by omega⟩ :=
    Fin.ext (by unfold tok; rfl)
  rw [← f1, ← f2]
  pointwise
theorem blk4 (c : Dev nD) (t : Fin cfg0.N) (ht : ¬t.val < 4) (r d : Fin 1024) :
    (iblk m c 4 t : Vec Ideal S1024x1024 .f32) (ix2 r d) = xrow (X3 m c) (X4 m c) (tok t r) d := by
  have h6 := hN t
  have e : V m c main_v1 = shapeCast S2048x1024 (X4 m c) shapeCasts_S2x1024x1024_S2048x1024 := by
    unfold V; after_results; rfl
  have e' : ((win0_4.blk t).view.emb (ix2 r d)) = (ix2 ⟨(t.val - 4) * 1024 + r.val, by omega⟩ d : S2048x1024.Idx) := by blk_ext [e4 t ht]
  unfold iblk xrow
  rw [dif_neg (show ¬(tok t r).val < 4096 by unfold tok; dsimp only; omega)]
  show V m c main_v1 ((win0_4.blk t).view.emb (ix2 r d)) = _
  rw [e, e']
  have f1 : (⟨((t.val - 4) * 1024 + r.val) / 1024, by omega⟩ : Fin 2) = ⟨((tok t r).val - 4096) / 1024, by unfold tok; dsimp only; omega⟩ :=
    Fin.ext (by unfold tok; dsimp only; omega)
  have f2 : r = ⟨((tok t r).val - 4096) % 1024, by omega⟩ :=
    Fin.ext (by unfold tok; dsimp only; omega)
  rw [← f1, ← f2]
  pointwise
theorem blk5 (c : Dev nD) (t : Fin cfg0.N) (r : Fin 16) (d : Fin 1024) : iblk m c 5 t (ix2 r d) = sec (X5 m c) 2 r d := by
  unfold sec
  blk_simp [iblk]
  rw [V_main_arg5]
  congr 1
  blk_ext [e5 t]
theorem blk6 (c : Dev nD) (t : Fin cfg0.N) (d : Fin 1024) : iblk m c 6 t (ix2 0 d) = X6 m c (ix1 d) := by
  blk_simp [iblk]
  have e : V m c main_v4 = shapeCast S1x1024 (X6 m c) shapeCasts_S1024_S1x1024 := by
    unfold V; after_results; rfl
  have e' : ((win0_6.blk t).view.emb (ix2 0 d)) = (ix2 0 d : S1x1024.Idx) := by blk_ext [e6 t]
  rw [e, e']
  pointwise
theorem blk7 (c : Dev nD) (t : Fin cfg0.N) (d : Fin 1024) : iblk m c 7 t (ix2 0 d) = X7 m c (ix1 d) := by
  blk_simp [iblk]
  have e : V m c main_v5 = shapeCast S1x1024 (X7 m c) shapeCasts_S1024_S1x1024 := by
    unfold V; after_results; rfl
  have e' : ((win0_7.blk t).view.emb (ix2 0 d)) = (ix2 0 d : S1x1024.Idx) := by blk_ext [e7 t]
  rw [e, e']
  pointwise

theorem off : ∀ t : Fin cfg0.N, k0_off1 (grid0.coords t) = ![t.val - 3, 0] :=
  (by decide +kernel : ∀ t : Fin grid0.N, k0_off1 (grid0.coords t) = ![t.val - 3, 0])

/-- The row a point reads is the row of its tokens. -/
theorem row_eq (t : Fin cfg0.N) (r : Fin 1024) (x : Vec Ideal S16x1024 .f32) (d : Fin 1024) :
    row x t (ix2 0 d) = x (ix2 (grp (tok t r)) d) := by
  have := hN t
  pointwise [row]
  congr 2 <;> apply Fin.ext <;> simp only [off, grp, tok, Matrix.cons_val_zero, Matrix.cons_val_one] <;> omega

/-- The copy of the weights, the same at every point. -/
theorem wts (c : Dev nD) (n : ℕ) : ∀ (h : n < cfg0.N) (r d : Fin 1024), (outsAt0 m c n h).2 (ix2 r d) = X2 m c (ix2 r d) := by
  induction n with
  | zero => exact fun h r d => by rw [wA m c ⟨0, h⟩ rfl (by dsimp only; omega), pay3, blk2]
  | succ n ih =>
      intro h r d
      rw [wB m c ⟨n + 1, h⟩ (by have := hN ⟨n + 1, h⟩; dsimp only at this ⊢; omega)]
      exact ih (by omega) r d

/-- The gated product of a point's block. -/
theorem prod (c : Dev nD) (t : Fin cfg0.N) (r : Fin 1024) : tab (k0_pay4 (iblk m c 0 t) (upper (outsAt0 m c t.val t.isLt).2) (iblk m c 1 t) (lower (outsAt0 m c t.val t.isLt).2) (row (iblk m c 5 t) t)) r
    = fun k => sec (X5 m c) 2 (grp (tok t r)) k * dot (cat2 (tab (X0 m c) (tok t r)) (tab (X1 m c) (tok t r))) (tab (X2 m c)) k := by
  have a0 : tab (iblk m c 0 t) r = tab (X0 m c) (tok t r) := funext fun d => blk0 m c t r d
  have a1 : tab (iblk m c 1 t) r = tab (X1 m c) (tok t r) := funext fun d => blk1 m c t r d
  have a5 : tab (row (iblk m c 5 t) t) 0 = sec (X5 m c) 2 (grp (tok t r)) := funext fun d => (row_eq t r _ d).trans (blk5 m c t _ d)
  have u : tab (upper (outsAt0 m c t.val t.isLt).2) = fun k => tab (X2 m c) ⟨k.val, by omega⟩ :=
    funext fun k => funext fun d => (upper_at _ k d).trans (wts m c _ _ _ _)
  have l : tab (lower (outsAt0 m c t.val t.isLt).2) = fun k => tab (X2 m c) ⟨512 + k.val, by omega⟩ :=
    funext fun k => funext fun d => (lower_at _ k d).trans (wts m c _ _ _ _)
  exact funext fun k => (pay4 _ _ _ _ _ r k).trans (by rw [a0, a1, a5, u, l, dot_cat2])

/-- The result array. -/
theorem final (c : Dev nD) : (dats m 0 c).arrAt 8 cfg0.N = G (X0 m c) (X1 m c) (X2 m c) (X3 m c) (X4 m c) (X5 m c) (X6 m c) (X7 m c) := by
  refine (dats m 0 c).arrAt_eq_of_covers 8 (G (X0 m c) (X1 m c) (X2 m c) (X3 m c) (X4 m c) (X5 m c) (X6 m c) (X7 m c)) (by decide +kernel) fun t hf y => ?_
  blk_simp
  rw [after0_8]
  obtain ⟨r, n, rfl⟩ : ∃ r n : Fin 1024, y = ix2 r n := ⟨y 0, y 1, eq_ix2 y⟩
  have e' : ((win0_8.blk t).view.emb (ix2 r n)) = (ix2 (tok t r) n : S6144x1024.Idx) := by unfold tok; blk_ext [e8 t]
  rw [e']
  have a6 : tab (iblk m c 6 t) 0 = fun k => X6 m c (ix1 k) := funext fun d => blk6 m c t d
  have a7 : tab (iblk m c 7 t) 0 = fun k => X7 m c (ix1 k) := funext fun d => blk7 m c t d
  by_cases h1 : t.val < 4
  · rw [outP m c t h1]
    refine (pay1 _ _ _ _ r n).trans ?_
    have a3 : tab (iblk m c 3 t) r = xrow (X3 m c) (X4 m c) (tok t r) := funext fun d => blk3 m c t h1 r d
    rw [prod, a3, a6, a7]
    rfl
  · rw [outS m c t (by have := hN t; omega) h1]
    refine (pay2 _ _ _ _ r n).trans ?_
    have a4 : tab (iblk m c 4 t) r = xrow (X3 m c) (X4 m c) (tok t r) := funext fun d => blk4 m c t h1 r d
    rw [prod, a4, a6, a7]
    rfl

/-- The kernel's run ends with the result array and leaves the arguments as they were. -/
theorem run : θ_run defs (onTc (τ := τ) (main (F := Ideal))) ⟨m, fun _ => 0, ρ⟩ fun r => ∀ c : Dev nD,
      r.2.mem ((c : Thread nD τ).loc main_v6) = G (X0 m c) (X1 m c) (X2 m c) (X3 m c) (X4 m c) (X5 m c) (X6 m c) (X7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

end Cert.Proof.Outproj2Arrays
end

end
-- ==== Proof.Outproj2Ref.lean ====
module

public import proofs.«01_k».proof.Proof.Gen.Reference7Ideal
public import proofs.«01_k».proof.Proof.Gen.Reference7Ideal.Read
public import proofs.«01_k».proof.Proof.Outproj2Arrays
public import proofs.«01_k».proof.Proof.FfnRef

/-! The reference of the even layer's out-projection, stage by stage, for the prompt's rows and for the samples' rows. -/

@[expose] public section

set_option maxRecDepth 16384

noncomputable section

namespace Cert.Proof.Outproj2Ref

open Cert.Reference7Ideal Cert.Reference7Ideal.Gen Cert.Reference7Ideal.Read Idealize.ShloMosaic Idealize.ShloMosaic.TcCoe
open Idealize.ShloMosaic.Tactic Idealize.SL.Sem
open Cert.Proof.Layer
open Cert.Proof.OutprojBlock (cat2 outp)
open Cert.Proof.InprojRef (xrow xrow_P xrow_S)
open Cert.Proof.FfnBlock (tab)
open Cert.Proof.FfnArrays (grp sec)
open Cert.Proof.FfnRef (fib tokP tokS modS)
open Cert.Proof.Outproj2Arrays (G)

variable (x0 x1 : Vec Ideal S6144x512 .f32) (x2 : Vec Ideal S1024x1024 .f32) (x3 : Vec Ideal S16x256x1024 .f32)
  (x4 : Vec Ideal S2x1024x1024 .f32) (x5 : Vec Ideal S16x6144 .f32) (x6 x7 : Vec Ideal S1024 .f32)

theorem cP (b : Fin 16) (n : Fin 256) (k : Fin 1024) : val_main_v12 x0 x1 (ix3 b n k) = cat2 (tab x0 (tokP b n)) (tab x1 (tokP b n)) k := by
  unfold cat2 tab tokP
  pointwise [val_main_v12, val_main_v3, val_main_v2, val_main_v1, val_main_v0]

theorem dP (b : Fin 16) (n : Fin 256) (e : Fin 1024) : val_main_v13 x0 x1 x2 (ix3 b n e) = dot (cat2 (tab x0 (tokP b n)) (tab x1 (tokP b n))) (tab x2) e := by
  unfold dot
  pointwise [val_main_v13]
  exact Finset.sum_congr rfl fun k _ => by rw [cP]

theorem zP (b : Fin 16) (n : Fin 256) (e : Fin 1024) : val_main_v19 x0 x1 x2 x3 x5 (ix3 b n e)
    = res (fib x3 b n) (sec x5 2 0) (dot (cat2 (tab x0 (tokP b n)) (tab x1 (tokP b n))) (tab x2)) e := by
  unfold res fib tab sec
  rw [← dP]
  pointwise [val_main_v19, val_main_v18, val_main_v17, val_main_v16, val_main_v15, val_main_v14, val_main_v8, val_main_v5, val_main_v4, val_main_cst]
  rfl

theorem mP (b : Fin 16) (n : Fin 256) : val_main_v23 x0 x1 x2 x3 x5 (ix3 b n 0) = mean (fib (val_main_v19 x0 x1 x2 x3 x5) b n) := by
  unfold mean fib
  pointwise [val_main_v23, val_main_v22, val_main_v21, val_main_v20, val_main_cst_0, val_main_cst_1]
  rfl

theorem vP (b : Fin 16) (n : Fin 256) : val_main_v30 x0 x1 x2 x3 x5 (ix3 b n 0) = Layer.var (fib (val_main_v19 x0 x1 x2 x3 x5) b n) := by
  unfold Layer.var fib
  pointwise [val_main_v30, val_main_v29, val_main_v28, val_main_v27, val_main_v26, val_main_v25, val_main_v24, val_main_cst_2, val_main_cst_3]
  simp only [mP]
  rfl

theorem oP (b : Fin 16) (n : Fin 256) (e : Fin 1024) : val_main_v43 x0 x1 x2 x3 x5 x6 x7 (ix3 b n e)
    = Layer.norm (fib (val_main_v19 x0 x1 x2 x3 x5) b n) (fun k => x6 (ix1 k)) (fun k => x7 (ix1 k)) e := by
  unfold Layer.norm fib
  pointwise [val_main_v43, val_main_v42, val_main_v41, val_main_v40, val_main_v39, val_main_v38, val_main_v37, val_main_v36, val_main_v35, val_main_v34, val_main_v33, val_main_v32, val_main_v31, val_main_cst_4]
  simp only [mP, vP]
  rfl

theorem rowP (b : Fin 16) (n : Fin 256) (e : Fin 1024) : val_main_v43 x0 x1 x2 x3 x5 x6 x7 (ix3 b n e)
    = outp (tab x0 (tokP b n)) (tab x1 (tokP b n)) (tab x2) (xrow x3 x4 (tokP b n)) (sec x5 2 0) (fun k => x6 (ix1 k)) (fun k => x7 (ix1 k)) e := by
  rw [(funext (xrow_P x3 x4 b n) : xrow x3 x4 (tokP b n) = fib x3 b n), oP,
    (funext (zP x0 x1 x2 x3 x5 b n) : fib (val_main_v19 x0 x1 x2 x3 x5) b n = _)]
  rfl

theorem cS (b : Fin 2) (n : Fin 1024) (k : Fin 1024) : val_main_v56 x0 x1 (ix3 b n k) = cat2 (tab x0 (tokS b n)) (tab x1 (tokS b n)) k := by
  unfold cat2 tab tokS
  pointwise [val_main_v56, val_main_v47, val_main_v46, val_main_v45, val_main_v44]

theorem dS (b : Fin 2) (n : Fin 1024) (e : Fin 1024) : val_main_v57 x0 x1 x2 (ix3 b n e) = dot (cat2 (tab x0 (tokS b n)) (tab x1 (tokS b n))) (tab x2) e := by
  unfold dot
  pointwise [val_main_v57]
  exact Finset.sum_congr rfl fun k _ => by rw [cS]

theorem zS (b : Fin 2) (n : Fin 1024) (e : Fin 1024) : val_main_v62 x0 x1 x2 x4 x5 (ix3 b n e)
    = res (fib x4 b n) (sec x5 2 (modS b)) (dot (cat2 (tab x0 (tokS b n)) (tab x1 (tokS b n))) (tab x2)) e := by
  unfold res fib tab sec
  rw [← dS]
  pointwise [val_main_v62, val_main_v61, val_main_v60, val_main_v59, val_main_v58, val_main_v52, val_main_v49, val_main_v48, val_main_cst_5]
  rfl

theorem mS (b : Fin 2) (n : Fin 1024) : val_main_v66 x0 x1 x2 x4 x5 (ix3 b n 0) = mean (fib (val_main_v62 x0 x1 x2 x4 x5) b n) := by
  unfold mean fib
  pointwise [val_main_v66, val_main_v65, val_main_v64, val_main_v63, val_main_cst_6, val_main_cst_7]
  rfl

theorem vS (b : Fin 2) (n : Fin 1024) : val_main_v73 x0 x1 x2 x4 x5 (ix3 b n 0) = Layer.var (fib (val_main_v62 x0 x1 x2 x4 x5) b n) := by
  unfold Layer.var fib
  pointwise [val_main_v73, val_main_v72, val_main_v71, val_main_v70, val_main_v69, val_main_v68, val_main_v67, val_main_cst_8, val_main_cst_9]
  simp only [mS]
  rfl

theorem oS (b : Fin 2) (n : Fin 1024) (e : Fin 1024) : val_main_v86 x0 x1 x2 x4 x5 x6 x7 (ix3 b n e)
    = Layer.norm (fib (val_main_v62 x0 x1 x2 x4 x5) b n) (fun k => x6 (ix1 k)) (fun k => x7 (ix1 k)) e := by
  unfold Layer.norm fib
  pointwise [val_main_v86, val_main_v85, val_main_v84, val_main_v83, val_main_v82, val_main_v81, val_main_v80, val_main_v79, val_main_v78, val_main_v77, val_main_v76, val_main_v75, val_main_v74, val_main_cst_10]
  simp only [mS, vS]
  rfl

theorem rowS (b : Fin 2) (n : Fin 1024) (e : Fin 1024) : val_main_v86 x0 x1 x2 x4 x5 x6 x7 (ix3 b n e)
    = outp (tab x0 (tokS b n)) (tab x1 (tokS b n)) (tab x2) (xrow x3 x4 (tokS b n)) (sec x5 2 (modS b)) (fun k => x6 (ix1 k)) (fun k => x7 (ix1 k)) e := by
  rw [(funext (xrow_S x3 x4 b n) : xrow x3 x4 (tokS b n) = fib x4 b n), oS,
    (funext (zS x0 x1 x2 x4 x5 b n) : fib (val_main_v62 x0 x1 x2 x4 x5) b n = _)]
  rfl

/-- The reference's result is the out-projection of every row. -/
theorem result : val_main_v89 x0 x1 x2 x3 x4 x5 x6 x7 = G x0 x1 x2 x3 x4 x5 x6 x7 := by
  funext j
  obtain ⟨i, e, rfl⟩ : ∃ (i : Fin 6144) (e : Fin 1024), j = ix2 i e := ⟨j 0, j 1, eq_ix2 j⟩
  by_cases h : i.val < 4096
  · have e1 : val_main_v89 x0 x1 x2 x3 x4 x5 x6 x7 (ix2 i e)
        = val_main_v43 x0 x1 x2 x3 x5 x6 x7 (ix3 ⟨i.val / 256, by omega⟩ ⟨i.val % 256, by omega⟩ e) := by
      pointwise [val_main_v89, val_main_v88, val_main_v87]
      rw [dif_pos h]
    rw [e1, rowP x0 x1 x2 x3 x4]
    have e2 : tokP ⟨i.val / 256, by omega⟩ ⟨i.val % 256, by omega⟩ = i := Fin.ext (by unfold tokP; dsimp only; omega)
    have e3 : grp i = 0 := Fin.ext (by unfold grp; simp only [Fin.val_zero]; omega)
    rw [e2, ← e3]
    rfl
  · have e1 : val_main_v89 x0 x1 x2 x3 x4 x5 x6 x7 (ix2 i e)
        = val_main_v86 x0 x1 x2 x4 x5 x6 x7 (ix3 ⟨(i.val - 4096) / 1024, by omega⟩ ⟨(i.val - 4096) % 1024, by omega⟩ e) := by
      pointwise [val_main_v89, val_main_v88, val_main_v87]
      rw [dif_neg h]
    rw [e1, rowS x0 x1 x2 x3 x4]
    have e2 : tokS ⟨(i.val - 4096) / 1024, by omega⟩ ⟨(i.val - 4096) % 1024, by omega⟩ = i :=
      Fin.ext (by unfold tokS; dsimp only; omega)
    have e3 : modS ⟨(i.val - 4096) / 1024, by omega⟩ = grp i := Fin.ext (by unfold modS grp; dsimp only; omega)
    rw [e2, e3]
    rfl

end Cert.Proof.Outproj2Ref
end

end
-- ==== Proof.Outproj2.lean ====
module

public import proofs.«01_k».proof.Defs
public import proofs.«01_k».proof.Proof.Gen.Kernel7.Frame
public import proofs.«01_k».proof.Proof.Gen.Kernel7Ideal.Frame
public import proofs.«01_k».proof.Proof.Outproj2Ref
public import Idealize.ShloMosaic.Lib.Quiescent

/-! The five claims about the even layer's out-projection. -/

@[expose] public section

noncomputable section

namespace Cert.Proof.Outproj2

open Idealize.ShloMosaic Idealize.SL.Sem
open Cert.Proof.Outproj2Arrays (G X0 X1 X2 X3 X4 X5 X6 X7)

/-- The kernel runs, ends with its arguments unchanged and every semaphore at zero. -/
theorem frame : Cert.quiescent_Kernel7 := fun m ρ _ => Cert.Kernel7.Gen.frame m ρ
/-- So does its idealization. -/
theorem frameIdeal : Cert.quiescent_Kernel7Ideal := fun m ρ _ => Cert.Kernel7Ideal.Gen.frame m ρ
/-- So does the reference. -/
theorem frameReference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)
/-- The idealization rewrites nothing. -/
theorem preserves : Cert.preserves_Kernel7_Kernel7Ideal := trivial

/-- Both programs end with the out-projection of every row. -/
theorem algebraic : Cert.algebraic_Kernel7Ideal_Reference7Ideal := by
  intro m ρ m' ρ' _ hagree
  refine ⟨fun c => G (X0 m c) (X1 m c) (X2 m c) (X3 m c) (X4 m c) (X5 m c) (X6 m c) (X7 m c), Cert.Proof.Outproj2Arrays.run m ρ, ?_⟩
  refine (θ_run Cert.Reference7Ideal.defs _ _).mono (fun _ h c => ⟨?_, (h c).2⟩)
    (Cert.Reference7Ideal.Value.run (F := Ideal) m' ρ')
  refine (h c).1.trans ((Cert.Reference7Ideal.Read.val_main_v89_eq (F := Ideal) m' c).trans ?_)
  refine (Outproj2Ref.result _ _ _ _ _ _ _ _).trans ?_
  dsimp only
  obtain ⟨a0, a1, a2, a3, a4, a5, a6, a7⟩ := hagree c
  unfold X0 X1 X2 X3 X4 X5 X6 X7
  rw [a0, a1, a2, a3, a4, a5, a6, a7]

end Cert.Proof.Outproj2
end

end
-- ==== Proof.ModulationArrays.lean ====
module

public import proofs.«01_k».proof.Proof.FfnArrays
public import proofs.«01_k».proof.Proof.Gen.Kernel8Ideal.Value

/-! The modulation's result: the array of both layers' modulation rows. -/

@[expose] public section

set_option maxRecDepth 16384

noncomputable section

namespace Cert.Proof.ModulationArrays

open Cert.Kernel8Ideal Cert.Kernel8Ideal.Gen Idealize.ShloMosaic Idealize.ShloMosaic.TcCoe Idealize.ShloMosaic.Tactic Idealize.SL.Sem
open Idealize.ShloMosaic.Pointwise
open Idealize.ShloMosaic.Pipeline (Dat)
open Cert.Proof.Layer
open Cert.Proof.FfnBlock (tab)

/-- A number times its logistic. -/
def silu (x : EReal) : EReal := x * Ideal.logistic x
/-- The conditioning rows: the prompt's, the samples', and zeros. -/
def cond (c : Vec Ideal S2x1024 .f32) (cc : Vec Ideal S1024 .f32) (r : Fin 16) (k : Fin 1024) : EReal :=
  if r.val < 1 then cc (ix1 k) else if h : r.val - 1 < 2 then c (ix2 ⟨r.val - 1, h⟩ k) else 0
/-- A modulation row of a layer. -/
def modrow (h : Fin 1024 → EReal) (W : Vec Ideal S2x1024x6144 .f32) (b : Vec Ideal S2x6144 .f32) (l : Fin 2) (n : Fin 6144) : EReal :=
  dot (fun k => silu (h k)) (fun k n => W (ix3 l k n)) n + b (ix2 l n)
/-- The result: every modulation row of both layers. -/
def G (c : Vec Ideal S2x1024 .f32) (cc : Vec Ideal S1024 .f32) (W : Vec Ideal S2x1024x6144 .f32) (b : Vec Ideal S2x6144 .f32) :
    Vec Ideal S2x16x6144 .f32 := fun i => modrow (cond c cc (i 1)) W b (i 0) (i 2)

/-- A block's sums. -/
theorem pay1 (x : Vec Ideal S16x1024 .f32) (W : Vec Ideal S1x1024x1536 .f32) (b : Vec Ideal S1x1x1536 .f32) (r : Fin 16) (n : Fin 1536) :
    k0_pay1 x W b (ix3 0 r n) = dot (fun k => silu (x (ix2 r k))) (fun k n => W (ix3 0 k n)) n + b (ix3 0 0 n) := by
  pointwise [k0_pay1]
  rfl

variable (m : (ℓ : Loc nD τ sig) → Buf (Elt Ideal) ℓ) (ρ : Dev nD → PrngReg)

/-- The argument arrays. -/
abbrev X0 (c : Dev nD) : Vec Ideal S2x1024 .f32 := m ((c : Thread nD τ).loc main_arg0)
abbrev X1 (c : Dev nD) : Vec Ideal S1024 .f32 := m ((c : Thread nD τ).loc main_arg1)
abbrev X2 (c : Dev nD) : Vec Ideal S2x1024x6144 .f32 := m ((c : Thread nD τ).loc main_arg2)
abbrev X3 (c : Dev nD) : Vec Ideal S2x6144 .f32 := m ((c : Thread nD τ).loc main_arg3)

theorem e0 : ∀ t : Fin cfg0.N, win0_0.index t = ![0, 0] := (by decide +kernel : ∀ t : Fin grid0.N, win0_0.index t = ![0, 0])
theorem e1 : ∀ t : Fin cfg0.N, win0_1.index t = ![t.val / 4, 0, t.val % 4] :=
  (by decide +kernel : ∀ t : Fin grid0.N, win0_1.index t = ![t.val / 4, 0, t.val % 4])
theorem e2 : ∀ t : Fin cfg0.N, win0_2.index t = ![t.val / 4, 0, t.val % 4] :=
  (by decide +kernel : ∀ t : Fin grid0.N, win0_2.index t = ![t.val / 4, 0, t.val % 4])
theorem e3 : ∀ t : Fin cfg0.N, win0_3.index t = ![t.val / 4, 0, t.val % 4] :=
  (by decide +kernel : ∀ t : Fin grid0.N, win0_3.index t = ![t.val / 4, 0, t.val % 4])
theorem hN (t : Fin cfg0.N) : t.val < 8 := t.isLt

/-- The layer of a point. -/
abbrev lay (t : Fin cfg0.N) : Fin 2 := ⟨t.val / 4, by have := hN t; omega⟩
/-- The column of a point's block. -/
abbrev col (t : Fin cfg0.N) (n : Fin 1536) : Fin 6144 := ⟨t.val % 4 * 1536 + n.val, by omega⟩

/-- The array of conditioning rows. -/
theorem cvec (c : Dev nD) : V m c main_v2 = concatenate S16x1024 0
    [⟨S1x1024, (broadcastInDim S1x1024 ![1] bcast_S1024_S1x1024_1 (X1 m c) : Vec Ideal S1x1024 .f32)⟩, ⟨S2x1024, X0 m c⟩,
      ⟨S13x1024, (broadcastInDim S13x1024 ![] bcast_S_S13x1024 (constant (F := Ideal) S_ .f32 0x00000000#32) : Vec Ideal S13x1024 .f32)⟩]
    concatenates_S1x1024_S2x1024_S13x1024_S16x1024_d0 := by
  unfold V
  after_results
  rfl
theorem blk0 (c : Dev nD) (t : Fin cfg0.N) (r : Fin 16) (k : Fin 1024) : iblk m c 0 t (ix2 r k) = cond (X0 m c) (X1 m c) r k := by
  blk_simp [iblk]
  have e' : ((win0_0.blk t).view.emb (ix2 r k)) = (ix2 r k : S16x1024.Idx) := by blk_ext [e0 t]
  rw [e']
  unfold cond
  rw [cvec]
  pointwise
  rfl
theorem blk1 (c : Dev nD) (t : Fin cfg0.N) (k : Fin 1024) (n : Fin 1536) : iblk m c 1 t (ix3 0 k n) = X2 m c (ix3 (lay t) k (col t n)) := by
  blk_simp [iblk]
  rw [V_main_arg2]
  congr 1
  blk_ext [e1 t]
theorem blk2 (c : Dev nD) (t : Fin cfg0.N) (n : Fin 1536) : iblk m c 2 t (ix3 0 0 n) = X3 m c (ix2 (lay t) (col t n)) := by
  blk_simp [iblk]
  have e : V m c main_v3 = shapeCast S2x1x6144 (X3 m c) shapeCasts_S2x6144_S2x1x6144 := by
    unfold V; after_results; rfl
  have e' : ((win0_2.blk t).view.emb (ix3 0 0 n)) = (ix3 (lay t) 0 (col t n) : S2x1x6144.Idx) := by blk_ext [e2 t]
  rw [e, e']
  pointwise

/-- The result array. -/
theorem final (c : Dev nD) : (dats m 0 c).arrAt 3 cfg0.N = G (X0 m c) (X1 m c) (X2 m c) (X3 m c) := by
  refine (dats m 0 c).arrAt_eq_of_covers 3 (G (X0 m c) (X1 m c) (X2 m c) (X3 m c)) (by decide +kernel) fun t hf y => ?_
  blk_simp
  rw [after0_3]
  obtain ⟨r, n, rfl⟩ : ∃ (r : Fin 16) (n : Fin 1536), y = ix3 0 r n := ⟨y 1, y 2, by
    funext a; match a with
    | ⟨0, _⟩ => exact Fin.ext (Nat.lt_one_iff.mp (y 0).isLt)
    | ⟨1, _⟩ => rfl
    | ⟨2, _⟩ => rfl⟩
  have e' : ((win0_3.blk t).view.emb (ix3 0 r n)) = (ix3 (lay t) r (col t n) : S2x16x6144.Idx) := by blk_ext [e3 t]
  rw [e']
  have a0 : (fun k => silu (iblk m c 0 t (ix2 r k))) = fun k => silu (cond (X0 m c) (X1 m c) r k) := funext fun k => by rw [blk0]
  unfold out0_3
  frame_out
  refine (pay1 _ _ _ r n).trans ?_
  rw [a0, blk2]
  unfold G modrow dot
  exact congrArg (· + _) (Finset.sum_congr rfl fun k _ => congrArg (silu (cond (X0 m c) (X1 m c) r k) * ·) (blk1 m c t k n))

/-- The kernel's run ends with the result array and leaves the arguments as they were. -/
theorem run : θ_run defs (onTc (τ := τ) (main (F := Ideal))) ⟨m, fun _ => 0, ρ⟩ fun r => ∀ c : Dev nD,
      r.2.mem ((c : Thread nD τ).loc main_v4) = G (X0 m c) (X1 m c) (X2 m c) (X3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.Kernel8Ideal.Value.run_blocks m ρ)

end Cert.Proof.ModulationArrays
end

end
-- ==== Proof.ModulationRef.lean ====
module

public import proofs.«01_k».proof.Proof.ModulationArrays
public import proofs.«01_k».proof.Proof.Gen.Reference8Ideal.Read

/-! The modulation's reference: its rows, layer by layer. -/

@[expose] public section

set_option maxRecDepth 16384

noncomputable section

namespace Cert.Proof.ModulationRef

open Cert.Reference8Ideal Cert.Reference8Ideal.Read Idealize.ShloMosaic
open Idealize.ShloMosaic.Pointwise
open Cert.Proof.Layer
open Cert.Proof.ModulationArrays (silu cond modrow G)

variable (x0 : Vec Ideal S2x1024 .f32) (x1 : Vec Ideal S1024 .f32) (x2 : Vec Ideal S2x1024x6144 .f32) (x3 : Vec Ideal S2x6144 .f32)

/-- The prompt's row of the first layer. -/
theorem p0 (n : Fin 6144) : val_main_v6 x1 x2 x3 (ix1 n) = modrow (fun k => x1 (ix1 k)) x2 x3 0 n := by
  unfold modrow dot silu Ideal.logistic
  pointwise [val_main_v6, val_main_v5, val_main_v4, val_main_v3, val_main_v2, val_main_v1, val_main_v0, val_main_call0_v5, val_main_call0_v3, val_main_call0_v1, val_main_call0_v0, val_main_call0_v2, val_main_call0_cst, val_main_call0_v4, val_main_call0_cst_0]
/-- The samples' rows of the first layer. -/
theorem s0 (b : Fin 2) (n : Fin 6144) : val_main_v15 x0 x2 x3 (ix2 b n) = modrow (fun k => x0 (ix2 b k)) x2 x3 0 n := by
  unfold modrow dot silu Ideal.logistic
  pointwise [val_main_v15, val_main_v14, val_main_v13, val_main_v12, val_main_v11, val_main_v10, val_main_v9, val_main_v8, val_main_v7, val_main_call1_v5, val_main_call1_v3, val_main_call1_v1, val_main_call1_v0, val_main_call1_v2, val_main_call1_cst, val_main_call1_v4, val_main_call1_cst_0]
/-- The other rows of the first layer. -/
theorem r0 (b : Fin 13) (n : Fin 6144) : val_main_v25 x2 x3 (ix2 b n) = modrow (fun _ => 0) x2 x3 0 n := by
  unfold modrow dot silu Ideal.logistic
  pointwise [val_main_v25, val_main_v24, val_main_v23, val_main_v22, val_main_v21, val_main_v20, val_main_v19, val_main_v18, val_main_v17, val_main_v16, val_main_cst, val_main_call2_v5, val_main_call2_v3, val_main_call2_v1, val_main_call2_v0, val_main_call2_v2, val_main_call2_cst, val_main_call2_v4, val_main_call2_cst_0]
/-- The prompt's row of the second layer. -/
theorem p1 (n : Fin 6144) : val_main_v34 x1 x2 x3 (ix1 n) = modrow (fun k => x1 (ix1 k)) x2 x3 1 n := by
  unfold modrow dot silu Ideal.logistic
  pointwise [val_main_v34, val_main_v33, val_main_v32, val_main_v31, val_main_v30, val_main_v29, val_main_v28, val_main_call3_v5, val_main_call3_v3, val_main_call3_v1, val_main_call3_v0, val_main_call3_v2, val_main_call3_cst, val_main_call3_v4, val_main_call3_cst_0]
/-- The samples' rows of the second layer. -/
theorem s1 (b : Fin 2) (n : Fin 6144) : val_main_v43 x0 x2 x3 (ix2 b n) = modrow (fun k => x0 (ix2 b k)) x2 x3 1 n := by
  unfold modrow dot silu Ideal.logistic
  pointwise [val_main_v43, val_main_v42, val_main_v41, val_main_v40, val_main_v39, val_main_v38, val_main_v37, val_main_v36, val_main_v35, val_main_call4_v5, val_main_call4_v3, val_main_call4_v1, val_main_call4_v0, val_main_call4_v2, val_main_call4_cst, val_main_call4_v4, val_main_call4_cst_0]
/-- The other rows of the second layer. -/
theorem r1 (b : Fin 13) (n : Fin 6144) : val_main_v53 x2 x3 (ix2 b n) = modrow (fun _ => 0) x2 x3 1 n := by
  unfold modrow dot silu Ideal.logistic
  pointwise [val_main_v53, val_main_v52, val_main_v51, val_main_v50, val_main_v49, val_main_v48, val_main_v47, val_main_v46, val_main_v45, val_main_v44, val_main_cst_0, val_main_call5_v5, val_main_call5_v3, val_main_call5_v1, val_main_call5_v0, val_main_call5_v2, val_main_call5_cst, val_main_call5_v4, val_main_call5_cst_0]

/-- The sixteen rows of a layer, whose parts `p`, `s` and `z` are joined. -/
theorem join {l : Fin 2} {r : Fin 16} {n : Fin 6144} {p : EReal} {s : Fin 2 → EReal} {z : Fin 13 → EReal}
    (hp : p = modrow (fun k => x1 (ix1 k)) x2 x3 l n) (hs : ∀ b, s b = modrow (fun k => x0 (ix2 b k)) x2 x3 l n)
    (hz : ∀ b, z b = modrow (fun _ => 0) x2 x3 l n) :
    (if r.val < 1 then p else if h : r.val - 1 < 2 then s ⟨r.val - 1, h⟩ else z ⟨r.val - 1 - 2, by omega⟩)
      = modrow (cond x0 x1 r) x2 x3 l n := by
  by_cases h : r.val < 1
  · rw [if_pos h, hp, (funext fun k => if_pos h : cond x0 x1 r = fun k => x1 (ix1 k))]
  · rw [if_neg h]
    by_cases h' : r.val - 1 < 2
    · rw [dif_pos h', hs, (funext fun k => (if_neg h).trans (dif_pos h') : cond x0 x1 r = fun k => x0 (ix2 ⟨r.val - 1, h'⟩ k))]
    · rw [dif_neg h', hz, (funext fun k => (if_neg h).trans (dif_neg h') : cond x0 x1 r = fun _ => 0)]

theorem c0 (r : Fin 16) (n : Fin 6144) : val_main_v27 x0 x1 x2 x3 (ix2 r n) = modrow (cond x0 x1 r) x2 x3 0 n := by
  refine Eq.trans ?_ (join x0 x1 x2 x3 (p0 x1 x2 x3 n) (fun b => s0 x0 x2 x3 b n) (fun b => r0 x2 x3 b n))
  pointwise [val_main_v27, val_main_v26]
  rfl
theorem c1 (r : Fin 16) (n : Fin 6144) : val_main_v55 x0 x1 x2 x3 (ix2 r n) = modrow (cond x0 x1 r) x2 x3 1 n := by
  refine Eq.trans ?_ (join x0 x1 x2 x3 (p1 x1 x2 x3 n) (fun b => s1 x0 x2 x3 b n) (fun b => r1 x2 x3 b n))
  pointwise [val_main_v55, val_main_v54]
  rfl

/-- The reference's result is every modulation row of both layers. -/
theorem result : val_main_v58 x0 x1 x2 x3 = G x0 x1 x2 x3 := by
  funext j
  obtain ⟨l, r, n, rfl⟩ : ∃ (l : Fin 2) (r : Fin 16) (n : Fin 6144), j = ix3 l r n := ⟨j 0, j 1, j 2, eq_ix3 j⟩
  by_cases h : l.val < 1
  · have e1 : val_main_v58 x0 x1 x2 x3 (ix3 l r n) = val_main_v27 x0 x1 x2 x3 (ix2 r n) := by
      pointwise [val_main_v58, val_main_v57, val_main_v56]
      rw [dif_pos h]
    have e2 : l = 0 := Fin.ext (Nat.lt_one_iff.mp h)
    rw [e1, c0, e2]
    rfl
  · have e1 : val_main_v58 x0 x1 x2 x3 (ix3 l r n) = val_main_v55 x0 x1 x2 x3 (ix2 r n) := by
      pointwise [val_main_v58, val_main_v57, val_main_v56]
      rw [dif_neg h]
    have e2 : l = 1 := Fin.ext (show l.val = 1 by omega)
    rw [e1, c1, e2]
    rfl

end Cert.Proof.ModulationRef
end

end
-- ==== Proof.Modulation.lean ====
module

public import proofs.«01_k».proof.Defs
public import proofs.«01_k».proof.Proof.Gen.Kernel8.Frame
public import proofs.«01_k».proof.Proof.Gen.Kernel8Ideal.Frame
public import proofs.«01_k».proof.Proof.ModulationRef
public import Idealize.ShloMosaic.Lib.Quiescent

/-! The five claims about the modulation. -/

@[expose] public section

noncomputable section

namespace Cert.Proof.Modulation

open Idealize.ShloMosaic Idealize.SL.Sem
open Cert.Proof.ModulationArrays (G X0 X1 X2 X3)

/-- The kernel runs, ends with its arguments unchanged and every semaphore at zero. -/
theorem frame : Cert.quiescent_Kernel8 := fun m ρ _ => Cert.Kernel8.Gen.frame m ρ
/-- So does its idealization. -/
theorem frameIdeal : Cert.quiescent_Kernel8Ideal := fun m ρ _ => Cert.Kernel8Ideal.Gen.frame m ρ
/-- So does the reference. -/
theorem frameReference : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)
/-- The idealization rewrites nothing. -/
theorem preserves : Cert.preserves_Kernel8_Kernel8Ideal := trivial

/-- Both programs end with every modulation row of both layers. -/
theorem algebraic : Cert.algebraic_Kernel8Ideal_Reference8Ideal := by
  intro m ρ m' ρ' _ hagree
  refine ⟨fun c => G (X0 m c) (X1 m c) (X2 m c) (X3 m c), Cert.Proof.ModulationArrays.run m ρ, ?_⟩
  refine (θ_run Cert.Reference8Ideal.defs _ _).mono (fun _ h c => ⟨?_, (h c).2⟩)
    (Cert.Reference8Ideal.Value.run (F := Ideal) m' ρ')
  refine (h c).1.trans ((Cert.Reference8Ideal.Read.val_main_v58_eq (F := Ideal) m' c).trans ?_)
  refine (ModulationRef.result _ _ _ _).trans ?_
  dsimp only
  obtain ⟨a0, a1, a2, a3⟩ := hagree c
  unfold X0 X1 X2 X3
  rw [a0, a1, a2, a3]

end Cert.Proof.Modulation
end

end
-- ==== Proof.lean ====
module

public import proofs.«01_k».proof.Proof.Retention
public import proofs.«01_k».proof.Proof.Ffn
public import proofs.«01_k».proof.Proof.Experts
public import proofs.«01_k».proof.Proof.Inproj
public import proofs.«01_k».proof.Proof.Inproj2
public import proofs.«01_k».proof.Proof.Outproj
public import proofs.«01_k».proof.Proof.Outproj2
public import proofs.«01_k».proof.Proof.Modulation

/-! The certificate: every claim stated about the programs, with the witnesses of their stated facts. -/

@[expose] public section

noncomputable section

namespace Cert.Proof

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_experts_exist.Gen.facts,
  Retention.frame, Retention.frameIdeal, Retention.frameReference, Experts.frame, Experts.frameIdeal, Experts.frameReference,
  Ffn.frame, Ffn.frameIdeal, Ffn.frameReference, Inproj.frame, Inproj.frameIdeal, Inproj.frameReference,
  Inproj2.frame, Inproj2.frameIdeal, Inproj2.frameReference,
  Outproj.frame, Outproj.frameIdeal, Outproj.frameReference,
  Outproj2.frame, Outproj2.frameIdeal, Outproj2.frameReference,
  Modulation.frame, Modulation.frameIdeal, Modulation.frameReference,
  Retention.preserves, Retention.algebraic, Experts.preserves, Experts.algebraic, Ffn.preserves, Ffn.algebraic,
  Inproj.preserves, Inproj.algebraic, Inproj2.preserves, Inproj2.algebraic,
  Outproj.preserves, Outproj.algebraic, Outproj2.preserves, Outproj2.algebraic,
  Modulation.preserves, Modulation.algebraic⟩

end Cert.Proof

end

end
